-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_YPrompt (m : (ℓ : Loc Cert.YPrompt.nD Cert.YPrompt.τ Cert.YPrompt.sig) → Buf (Elt Bits) ℓ) : Prop :=
  True

def Pre_YPromptIdeal (m : (ℓ : Loc Cert.YPromptIdeal.nD Cert.YPromptIdeal.τ Cert.YPromptIdeal.sig) → Buf (Elt Ideal) ℓ) : Prop :=
  True

def Pre_YPromptRefIdeal (m : (ℓ : Loc Cert.YPromptRefIdeal.nD Cert.YPromptRefIdeal.τ Cert.YPromptRefIdeal.sig) → Buf (Elt Ideal) ℓ) : Prop :=
  True

def Pre_YSample (m : (ℓ : Loc Cert.YSample.nD Cert.YSample.τ Cert.YSample.sig) → Buf (Elt Bits) ℓ) : Prop :=
  True

def Pre_YSampleIdeal (m : (ℓ : Loc Cert.YSampleIdeal.nD Cert.YSampleIdeal.τ Cert.YSampleIdeal.sig) → Buf (Elt Ideal) ℓ) : Prop :=
  True

def Pre_YSampleRefIdeal (m : (ℓ : Loc Cert.YSampleRefIdeal.nD Cert.YSampleRefIdeal.τ Cert.YSampleRefIdeal.sig) → Buf (Elt Ideal) ℓ) : Prop :=
  True

def Pre_PrepP (m : (ℓ : Loc Cert.PrepP.nD Cert.PrepP.τ Cert.PrepP.sig) → Buf (Elt Bits) ℓ) : Prop :=
  True

def Pre_PrepPIdeal (m : (ℓ : Loc Cert.PrepPIdeal.nD Cert.PrepPIdeal.τ Cert.PrepPIdeal.sig) → Buf (Elt Ideal) ℓ) : Prop :=
  True

def Pre_PrepPRefIdeal (m : (ℓ : Loc Cert.PrepPRefIdeal.nD Cert.PrepPRefIdeal.τ Cert.PrepPRefIdeal.sig) → Buf (Elt Ideal) ℓ) : Prop :=
  True

def Pre_PrepS (m : (ℓ : Loc Cert.PrepS.nD Cert.PrepS.τ Cert.PrepS.sig) → Buf (Elt Bits) ℓ) : Prop :=
  True

def Pre_PrepSIdeal (m : (ℓ : Loc Cert.PrepSIdeal.nD Cert.PrepSIdeal.τ Cert.PrepSIdeal.sig) → Buf (Elt Ideal) ℓ) : Prop :=
  True

def Pre_PrepSRefIdeal (m : (ℓ : Loc Cert.PrepSRefIdeal.nD Cert.PrepSRefIdeal.τ Cert.PrepSRefIdeal.sig) → Buf (Elt Ideal) ℓ) : Prop :=
  True

def Pre_GateA (m : (ℓ : Loc Cert.GateA.nD Cert.GateA.τ Cert.GateA.sig) → Buf (Elt Bits) ℓ) : Prop :=
  True

def Pre_GateAIdeal (m : (ℓ : Loc Cert.GateAIdeal.nD Cert.GateAIdeal.τ Cert.GateAIdeal.sig) → Buf (Elt Ideal) ℓ) : Prop :=
  True

def Pre_GateARefIdeal (m : (ℓ : Loc Cert.GateARefIdeal.nD Cert.GateARefIdeal.τ Cert.GateARefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_Cumsum (m : (ℓ : Loc Cert.Cumsum.nD Cert.Cumsum.τ Cert.Cumsum.sig) → Buf (Elt Bits) ℓ) : Prop :=
  True

def Pre_CumsumIdeal (m : (ℓ : Loc Cert.CumsumIdeal.nD Cert.CumsumIdeal.τ Cert.CumsumIdeal.sig) → Buf (Elt Ideal) ℓ) : Prop :=
  True

def Pre_CumsumIdeal_below [hPre_below : Cert.Pre_below.Facts] (m : (ℓ : Loc Cert.CumsumIdeal.nD Cert.CumsumIdeal.τ Cert.CumsumIdeal.sig) → Buf (Elt Ideal) ℓ) : Prop :=
  ∀ c : Dev Cert.CumsumIdeal.nD,
    (Cert.Pre_below.fn (F := Ideal) (m ((c.tc : Thread Cert.CumsumIdeal.nD Cert.CumsumIdeal.τ).loc Cert.CumsumIdeal.main_arg0))) = (fun _ => 1#1)

def Pre_CumsumRefIdeal (m : (ℓ : Loc Cert.CumsumRefIdeal.nD Cert.CumsumRefIdeal.τ Cert.CumsumRefIdeal.sig) → Buf (Elt Ideal) ℓ) : Prop :=
  True

def Pre_CumsumRefIdeal_below [hPre_below : Cert.Pre_below.Facts] (m : (ℓ : Loc Cert.CumsumRefIdeal.nD Cert.CumsumRefIdeal.τ Cert.CumsumRefIdeal.sig) → Buf (Elt Ideal) ℓ) : Prop :=
  ∀ c : Dev Cert.CumsumRefIdeal.nD,
    (Cert.Pre_below.fn (F := Ideal) (m ((c.tc : Thread Cert.CumsumRefIdeal.nD Cert.CumsumRefIdeal.τ).loc Cert.CumsumRefIdeal.main_arg0))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_YPrompt [hYPrompt : Cert.YPrompt.Facts] : Prop :=
  ∀ (m : (ℓ : Loc Cert.YPrompt.nD Cert.YPrompt.τ Cert.YPrompt.sig) → Buf (Elt Bits) ℓ) (g : Dev Cert.YPrompt.nD → PrngReg), Pre_YPrompt m →
    θ_run (Cert.YPrompt.defs (F := Bits)) (onTc (τ := Cert.YPrompt.τ) (Cert.YPrompt.main (F := Bits))) ⟨m, fun _ => 0, g⟩ (fun r => (∀ c : Dev Cert.YPrompt.nD,
      r.2.mem ((c.tc : Thread Cert.YPrompt.nD Cert.YPrompt.τ).loc Cert.YPrompt.main_arg0) = m ((c.tc : Thread Cert.YPrompt.nD Cert.YPrompt.τ).loc Cert.YPrompt.main_arg0)
      ∧ r.2.mem ((c.tc : Thread Cert.YPrompt.nD Cert.YPrompt.τ).loc Cert.YPrompt.main_arg1) = m ((c.tc : Thread Cert.YPrompt.nD Cert.YPrompt.τ).loc Cert.YPrompt.main_arg1)
      ∧ r.2.mem ((c.tc : Thread Cert.YPrompt.nD Cert.YPrompt.τ).loc Cert.YPrompt.main_arg2) = m ((c.tc : Thread Cert.YPrompt.nD Cert.YPrompt.τ).loc Cert.YPrompt.main_arg2))
      ∧ r.2.sem = fun _ => 0)

def quiescent_YPromptIdeal [hYPromptIdeal : Cert.YPromptIdeal.Facts] : Prop :=
  ∀ (m : (ℓ : Loc Cert.YPromptIdeal.nD Cert.YPromptIdeal.τ Cert.YPromptIdeal.sig) → Buf (Elt Ideal) ℓ) (g : Dev Cert.YPromptIdeal.nD → PrngReg), Pre_YPromptIdeal m →
    θ_run (Cert.YPromptIdeal.defs (F := Ideal)) (onTc (τ := Cert.YPromptIdeal.τ) (Cert.YPromptIdeal.main (F := Ideal))) ⟨m, fun _ => 0, g⟩ (fun r => (∀ c : Dev Cert.YPromptIdeal.nD,
      r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
      ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1)
      ∧ r.2.mem ((c.tc : Thread Cert.YPromptIdeal.nD Cert.YPromptIdeal.τ).loc Cert.YPromptIdeal.main_arg2) = m ((c.tc : Thread Cert.YPromptIdeal.nD Cert.YPromptIdeal.τ).loc Cert.YPromptIdeal.main_arg2))
      ∧ r.2.sem = fun _ => 0)

def quiescent_YPromptRefIdeal [hYPromptRefIdeal : Cert.YPromptRefIdeal.Facts] : Prop :=
  ∀ (m : (ℓ : Loc Cert.YPromptRefIdeal.nD Cert.YPromptRefIdeal.τ Cert.YPromptRefIdeal.sig) → Buf (Elt Ideal) ℓ) (g : Dev Cert.YPromptRefIdeal.nD → PrngReg), Pre_YPromptRefIdeal m →
    θ_run (Cert.YPromptRefIdeal.defs (F := Ideal)) (onTc (τ := Cert.YPromptRefIdeal.τ) (Cert.YPromptRefIdeal.main (F := Ideal))) ⟨m, fun _ => 0, g⟩ (fun r => (∀ c : Dev Cert.YPromptRefIdeal.nD,
      r.2.mem ((c.tc : Thread Cert.YPromptRefIdeal.nD Cert.YPromptRefIdeal.τ).loc Cert.YPromptRefIdeal.main_arg0) = m ((c.tc : Thread Cert.YPromptRefIdeal.nD Cert.YPromptRefIdeal.τ).loc Cert.YPromptRefIdeal.main_arg0)
      ∧ r.2.mem ((c.tc : Thread Cert.YPromptRefIdeal.nD Cert.YPromptRefIdeal.τ).loc Cert.YPromptRefIdeal.main_arg1) = m ((c.tc : Thread Cert.YPromptRefIdeal.nD Cert.YPromptRefIdeal.τ).loc Cert.YPromptRefIdeal.main_arg1)
      ∧ r.2.mem ((c.tc : Thread Cert.YPromptRefIdeal.nD Cert.YPromptRefIdeal.τ).loc Cert.YPromptRefIdeal.main_arg2) = m ((c.tc : Thread Cert.YPromptRefIdeal.nD Cert.YPromptRefIdeal.τ).loc Cert.YPromptRefIdeal.main_arg2))
      ∧ r.2.sem = fun _ => 0)

def quiescent_YSample [hYSample : Cert.YSample.Facts] : Prop :=
  ∀ (m : (ℓ : Loc Cert.YSample.nD Cert.YSample.τ Cert.YSample.sig) → Buf (Elt Bits) ℓ) (g : Dev Cert.YSample.nD → PrngReg), Pre_YSample m →
    θ_run (Cert.YSample.defs (F := Bits)) (onTc (τ := Cert.YSample.τ) (Cert.YSample.main (F := Bits))) ⟨m, fun _ => 0, g⟩ (fun r => (∀ c : Dev Cert.YSample.nD,
      r.2.mem ((c.tc : Thread Cert.YSample.nD Cert.YSample.τ).loc Cert.YSample.main_arg0) = m ((c.tc : Thread Cert.YSample.nD Cert.YSample.τ).loc Cert.YSample.main_arg0)
      ∧ r.2.mem ((c.tc : Thread Cert.YSample.nD Cert.YSample.τ).loc Cert.YSample.main_arg1) = m ((c.tc : Thread Cert.YSample.nD Cert.YSample.τ).loc Cert.YSample.main_arg1)
      ∧ r.2.mem ((c.tc : Thread Cert.YSample.nD Cert.YSample.τ).loc Cert.YSample.main_arg2) = m ((c.tc : Thread Cert.YSample.nD Cert.YSample.τ).loc Cert.YSample.main_arg2))
      ∧ r.2.sem = fun _ => 0)

def quiescent_YSampleIdeal [hYSampleIdeal : Cert.YSampleIdeal.Facts] : Prop :=
  ∀ (m : (ℓ : Loc Cert.YSampleIdeal.nD Cert.YSampleIdeal.τ Cert.YSampleIdeal.sig) → Buf (Elt Ideal) ℓ) (g : Dev Cert.YSampleIdeal.nD → PrngReg), Pre_YSampleIdeal m →
    θ_run (Cert.YSampleIdeal.defs (F := Ideal)) (onTc (τ := Cert.YSampleIdeal.τ) (Cert.YSampleIdeal.main (F := Ideal))) ⟨m, fun _ => 0, g⟩ (fun r => (∀ c : Dev Cert.YSampleIdeal.nD,
      r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
      ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1)
      ∧ r.2.mem ((c.tc : Thread Cert.YSampleIdeal.nD Cert.YSampleIdeal.τ).loc Cert.YSampleIdeal.main_arg2) = m ((c.tc : Thread Cert.YSampleIdeal.nD Cert.YSampleIdeal.τ).loc Cert.YSampleIdeal.main_arg2))
      ∧ r.2.sem = fun _ => 0)

def quiescent_YSampleRefIdeal [hYSampleRefIdeal : Cert.YSampleRefIdeal.Facts] : Prop :=
  ∀ (m : (ℓ : Loc Cert.YSampleRefIdeal.nD Cert.YSampleRefIdeal.τ Cert.YSampleRefIdeal.sig) → Buf (Elt Ideal) ℓ) (g : Dev Cert.YSampleRefIdeal.nD → PrngReg), Pre_YSampleRefIdeal m →
    θ_run (Cert.YSampleRefIdeal.defs (F := Ideal)) (onTc (τ := Cert.YSampleRefIdeal.τ) (Cert.YSampleRefIdeal.main (F := Ideal))) ⟨m, fun _ => 0, g⟩ (fun r => (∀ c : Dev Cert.YSampleRefIdeal.nD,
      r.2.mem ((c.tc : Thread Cert.YSampleRefIdeal.nD Cert.YSampleRefIdeal.τ).loc Cert.YSampleRefIdeal.main_arg0) = m ((c.tc : Thread Cert.YSampleRefIdeal.nD Cert.YSampleRefIdeal.τ).loc Cert.YSampleRefIdeal.main_arg0)
      ∧ r.2.mem ((c.tc : Thread Cert.YSampleRefIdeal.nD Cert.YSampleRefIdeal.τ).loc Cert.YSampleRefIdeal.main_arg1) = m ((c.tc : Thread Cert.YSampleRefIdeal.nD Cert.YSampleRefIdeal.τ).loc Cert.YSampleRefIdeal.main_arg1)
      ∧ r.2.mem ((c.tc : Thread Cert.YSampleRefIdeal.nD Cert.YSampleRefIdeal.τ).loc Cert.YSampleRefIdeal.main_arg2) = m ((c.tc : Thread Cert.YSampleRefIdeal.nD Cert.YSampleRefIdeal.τ).loc Cert.YSampleRefIdeal.main_arg2))
      ∧ r.2.sem = fun _ => 0)

def quiescent_PrepP [hPrepP : Cert.PrepP.Facts] : Prop :=
  ∀ (m : (ℓ : Loc Cert.PrepP.nD Cert.PrepP.τ Cert.PrepP.sig) → Buf (Elt Bits) ℓ) (g : Dev Cert.PrepP.nD → PrngReg), Pre_PrepP m →
    θ_run (Cert.PrepP.defs (F := Bits)) (onTc (τ := Cert.PrepP.τ) (Cert.PrepP.main (F := Bits))) ⟨m, fun _ => 0, g⟩ (fun r => (∀ c : Dev Cert.PrepP.nD,
      r.2.mem ((c.tc : Thread Cert.PrepP.nD Cert.PrepP.τ).loc Cert.PrepP.main_arg0) = m ((c.tc : Thread Cert.PrepP.nD Cert.PrepP.τ).loc Cert.PrepP.main_arg0)
      ∧ r.2.mem ((c.tc : Thread Cert.PrepP.nD Cert.PrepP.τ).loc Cert.PrepP.main_arg1) = m ((c.tc : Thread Cert.PrepP.nD Cert.PrepP.τ).loc Cert.PrepP.main_arg1)
      ∧ r.2.mem ((c.tc : Thread Cert.PrepP.nD Cert.PrepP.τ).loc Cert.PrepP.main_arg2) = m ((c.tc : Thread Cert.PrepP.nD Cert.PrepP.τ).loc Cert.PrepP.main_arg2)
      ∧ r.2.mem ((c.tc : Thread Cert.PrepP.nD Cert.PrepP.τ).loc Cert.PrepP.main_arg3) = m ((c.tc : Thread Cert.PrepP.nD Cert.PrepP.τ).loc Cert.PrepP.main_arg3)
      ∧ r.2.mem ((c.tc : Thread Cert.PrepP.nD Cert.PrepP.τ).loc Cert.PrepP.main_arg4) = m ((c.tc : Thread Cert.PrepP.nD Cert.PrepP.τ).loc Cert.PrepP.main_arg4))
      ∧ r.2.sem = fun _ => 0)

def quiescent_PrepPIdeal [hPrepPIdeal : Cert.PrepPIdeal.Facts] : Prop :=
  ∀ (m : (ℓ : Loc Cert.PrepPIdeal.nD Cert.PrepPIdeal.τ Cert.PrepPIdeal.sig) → Buf (Elt Ideal) ℓ) (g : Dev Cert.PrepPIdeal.nD → PrngReg), Pre_PrepPIdeal m →
    θ_run (Cert.PrepPIdeal.defs (F := Ideal)) (onTc (τ := Cert.PrepPIdeal.τ) (Cert.PrepPIdeal.main (F := Ideal))) ⟨m, fun _ => 0, g⟩ (fun r => (∀ c : Dev Cert.PrepPIdeal.nD,
      r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
      ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1)
      ∧ r.2.mem ((c.tc : Thread Cert.PrepPIdeal.nD Cert.PrepPIdeal.τ).loc Cert.PrepPIdeal.main_arg2) = m ((c.tc : Thread Cert.PrepPIdeal.nD Cert.PrepPIdeal.τ).loc Cert.PrepPIdeal.main_arg2)
      ∧ r.2.mem ((c.tc : Thread Cert.PrepPIdeal.nD Cert.PrepPIdeal.τ).loc Cert.PrepPIdeal.main_arg3) = m ((c.tc : Thread Cert.PrepPIdeal.nD Cert.PrepPIdeal.τ).loc Cert.PrepPIdeal.main_arg3)
      ∧ r.2.mem ((c.tc : Thread Cert.PrepPIdeal.nD Cert.PrepPIdeal.τ).loc Cert.PrepPIdeal.main_arg4) = m ((c.tc : Thread Cert.PrepPIdeal.nD Cert.PrepPIdeal.τ).loc Cert.PrepPIdeal.main_arg4))
      ∧ r.2.sem = fun _ => 0)

def quiescent_PrepPRefIdeal [hPrepPRefIdeal : Cert.PrepPRefIdeal.Facts] : Prop :=
  ∀ (m : (ℓ : Loc Cert.PrepPRefIdeal.nD Cert.PrepPRefIdeal.τ Cert.PrepPRefIdeal.sig) → Buf (Elt Ideal) ℓ) (g : Dev Cert.PrepPRefIdeal.nD → PrngReg), Pre_PrepPRefIdeal m →
    θ_run (Cert.PrepPRefIdeal.defs (F := Ideal)) (onTc (τ := Cert.PrepPRefIdeal.τ) (Cert.PrepPRefIdeal.main (F := Ideal))) ⟨m, fun _ => 0, g⟩ (fun r => (∀ c : Dev Cert.PrepPRefIdeal.nD,
      r.2.mem ((c.tc : Thread Cert.PrepPRefIdeal.nD Cert.PrepPRefIdeal.τ).loc Cert.PrepPRefIdeal.main_arg0) = m ((c.tc : Thread Cert.PrepPRefIdeal.nD Cert.PrepPRefIdeal.τ).loc Cert.PrepPRefIdeal.main_arg0)
      ∧ r.2.mem ((c.tc : Thread Cert.PrepPRefIdeal.nD Cert.PrepPRefIdeal.τ).loc Cert.PrepPRefIdeal.main_arg1) = m ((c.tc : Thread Cert.PrepPRefIdeal.nD Cert.PrepPRefIdeal.τ).loc Cert.PrepPRefIdeal.main_arg1)
      ∧ r.2.mem ((c.tc : Thread Cert.PrepPRefIdeal.nD Cert.PrepPRefIdeal.τ).loc Cert.PrepPRefIdeal.main_arg2) = m ((c.tc : Thread Cert.PrepPRefIdeal.nD Cert.PrepPRefIdeal.τ).loc Cert.PrepPRefIdeal.main_arg2)
      ∧ r.2.mem ((c.tc : Thread Cert.PrepPRefIdeal.nD Cert.PrepPRefIdeal.τ).loc Cert.PrepPRefIdeal.main_arg3) = m ((c.tc : Thread Cert.PrepPRefIdeal.nD Cert.PrepPRefIdeal.τ).loc Cert.PrepPRefIdeal.main_arg3)
      ∧ r.2.mem ((c.tc : Thread Cert.PrepPRefIdeal.nD Cert.PrepPRefIdeal.τ).loc Cert.PrepPRefIdeal.main_arg4) = m ((c.tc : Thread Cert.PrepPRefIdeal.nD Cert.PrepPRefIdeal.τ).loc Cert.PrepPRefIdeal.main_arg4))
      ∧ r.2.sem = fun _ => 0)

def quiescent_PrepS [hPrepS : Cert.PrepS.Facts] : Prop :=
  ∀ (m : (ℓ : Loc Cert.PrepS.nD Cert.PrepS.τ Cert.PrepS.sig) → Buf (Elt Bits) ℓ) (g : Dev Cert.PrepS.nD → PrngReg), Pre_PrepS m →
    θ_run (Cert.PrepS.defs (F := Bits)) (onTc (τ := Cert.PrepS.τ) (Cert.PrepS.main (F := Bits))) ⟨m, fun _ => 0, g⟩ (fun r => (∀ c : Dev Cert.PrepS.nD,
      r.2.mem ((c.tc : Thread Cert.PrepS.nD Cert.PrepS.τ).loc Cert.PrepS.main_arg0) = m ((c.tc : Thread Cert.PrepS.nD Cert.PrepS.τ).loc Cert.PrepS.main_arg0)
      ∧ r.2.mem ((c.tc : Thread Cert.PrepS.nD Cert.PrepS.τ).loc Cert.PrepS.main_arg1) = m ((c.tc : Thread Cert.PrepS.nD Cert.PrepS.τ).loc Cert.PrepS.main_arg1)
      ∧ r.2.mem ((c.tc : Thread Cert.PrepS.nD Cert.PrepS.τ).loc Cert.PrepS.main_arg2) = m ((c.tc : Thread Cert.PrepS.nD Cert.PrepS.τ).loc Cert.PrepS.main_arg2)
      ∧ r.2.mem ((c.tc : Thread Cert.PrepS.nD Cert.PrepS.τ).loc Cert.PrepS.main_arg3) = m ((c.tc : Thread Cert.PrepS.nD Cert.PrepS.τ).loc Cert.PrepS.main_arg3)
      ∧ r.2.mem ((c.tc : Thread Cert.PrepS.nD Cert.PrepS.τ).loc Cert.PrepS.main_arg4) = m ((c.tc : Thread Cert.PrepS.nD Cert.PrepS.τ).loc Cert.PrepS.main_arg4))
      ∧ r.2.sem = fun _ => 0)

def quiescent_PrepSIdeal [hPrepSIdeal : Cert.PrepSIdeal.Facts] : Prop :=
  ∀ (m : (ℓ : Loc Cert.PrepSIdeal.nD Cert.PrepSIdeal.τ Cert.PrepSIdeal.sig) → Buf (Elt Ideal) ℓ) (g : Dev Cert.PrepSIdeal.nD → PrngReg), Pre_PrepSIdeal m →
    θ_run (Cert.PrepSIdeal.defs (F := Ideal)) (onTc (τ := Cert.PrepSIdeal.τ) (Cert.PrepSIdeal.main (F := Ideal))) ⟨m, fun _ => 0, g⟩ (fun r => (∀ c : Dev Cert.PrepSIdeal.nD,
      r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
      ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
      ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
      ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
      ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4))
      ∧ r.2.sem = fun _ => 0)

def quiescent_PrepSRefIdeal [hPrepSRefIdeal : Cert.PrepSRefIdeal.Facts] : Prop :=
  ∀ (m : (ℓ : Loc Cert.PrepSRefIdeal.nD Cert.PrepSRefIdeal.τ Cert.PrepSRefIdeal.sig) → Buf (Elt Ideal) ℓ) (g : Dev Cert.PrepSRefIdeal.nD → PrngReg), Pre_PrepSRefIdeal m →
    θ_run (Cert.PrepSRefIdeal.defs (F := Ideal)) (onTc (τ := Cert.PrepSRefIdeal.τ) (Cert.PrepSRefIdeal.main (F := Ideal))) ⟨m, fun _ => 0, g⟩ (fun r => (∀ c : Dev Cert.PrepSRefIdeal.nD,
      r.2.mem ((c.tc : Thread Cert.PrepSRefIdeal.nD Cert.PrepSRefIdeal.τ).loc Cert.PrepSRefIdeal.main_arg0) = m ((c.tc : Thread Cert.PrepSRefIdeal.nD Cert.PrepSRefIdeal.τ).loc Cert.PrepSRefIdeal.main_arg0)
      ∧ r.2.mem ((c.tc : Thread Cert.PrepSRefIdeal.nD Cert.PrepSRefIdeal.τ).loc Cert.PrepSRefIdeal.main_arg1) = m ((c.tc : Thread Cert.PrepSRefIdeal.nD Cert.PrepSRefIdeal.τ).loc Cert.PrepSRefIdeal.main_arg1)
      ∧ r.2.mem ((c.tc : Thread Cert.PrepSRefIdeal.nD Cert.PrepSRefIdeal.τ).loc Cert.PrepSRefIdeal.main_arg2) = m ((c.tc : Thread Cert.PrepSRefIdeal.nD Cert.PrepSRefIdeal.τ).loc Cert.PrepSRefIdeal.main_arg2)
      ∧ r.2.mem ((c.tc : Thread Cert.PrepSRefIdeal.nD Cert.PrepSRefIdeal.τ).loc Cert.PrepSRefIdeal.main_arg3) = m ((c.tc : Thread Cert.PrepSRefIdeal.nD Cert.PrepSRefIdeal.τ).loc Cert.PrepSRefIdeal.main_arg3)
      ∧ r.2.mem ((c.tc : Thread Cert.PrepSRefIdeal.nD Cert.PrepSRefIdeal.τ).loc Cert.PrepSRefIdeal.main_arg4) = m ((c.tc : Thread Cert.PrepSRefIdeal.nD Cert.PrepSRefIdeal.τ).loc Cert.PrepSRefIdeal.main_arg4))
      ∧ r.2.sem = fun _ => 0)

def quiescent_GateA [hGateA : Cert.GateA.Facts] : Prop :=
  ∀ (m : (ℓ : Loc Cert.GateA.nD Cert.GateA.τ Cert.GateA.sig) → Buf (Elt Bits) ℓ) (g : Dev Cert.GateA.nD → PrngReg), Pre_GateA m →
    θ_run (Cert.GateA.defs (F := Bits)) (onTc (τ := Cert.GateA.τ) (Cert.GateA.main (F := Bits))) ⟨m, fun _ => 0, g⟩ (fun r => (∀ c : Dev Cert.GateA.nD,
      r.2.mem ((c.tc : Thread Cert.GateA.nD Cert.GateA.τ).loc Cert.GateA.main_arg0) = m ((c.tc : Thread Cert.GateA.nD Cert.GateA.τ).loc Cert.GateA.main_arg0)
      ∧ r.2.mem ((c.tc : Thread Cert.GateA.nD Cert.GateA.τ).loc Cert.GateA.main_arg1) = m ((c.tc : Thread Cert.GateA.nD Cert.GateA.τ).loc Cert.GateA.main_arg1))
      ∧ r.2.sem = fun _ => 0)

def quiescent_GateAIdeal [hGateAIdeal : Cert.GateAIdeal.Facts] : Prop :=
  ∀ (m : (ℓ : Loc Cert.GateAIdeal.nD Cert.GateAIdeal.τ Cert.GateAIdeal.sig) → Buf (Elt Ideal) ℓ) (g : Dev Cert.GateAIdeal.nD → PrngReg), Pre_GateAIdeal m →
    θ_run (Cert.GateAIdeal.defs (F := Ideal)) (onTc (τ := Cert.GateAIdeal.τ) (Cert.GateAIdeal.main (F := Ideal))) ⟨m, fun _ => 0, g⟩ (fun r => (∀ c : Dev Cert.GateAIdeal.nD,
      r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
      ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ r.2.sem = fun _ => 0)

def quiescent_GateARefIdeal [hGateARefIdeal : Cert.GateARefIdeal.Facts] : Prop :=
  ∀ (m : (ℓ : Loc Cert.GateARefIdeal.nD Cert.GateARefIdeal.τ Cert.GateARefIdeal.sig) → Buf (Elt Ideal) ℓ) (g : Dev Cert.GateARefIdeal.nD → PrngReg), Pre_GateARefIdeal m →
    θ_run (Cert.GateARefIdeal.defs (F := Ideal)) (onTc (τ := Cert.GateARefIdeal.τ) (Cert.GateARefIdeal.main (F := Ideal))) ⟨m, fun _ => 0, g⟩ (fun r => (∀ c : Dev Cert.GateARefIdeal.nD,
      r.2.mem ((c.tc : Thread Cert.GateARefIdeal.nD Cert.GateARefIdeal.τ).loc Cert.GateARefIdeal.main_arg0) = m ((c.tc : Thread Cert.GateARefIdeal.nD Cert.GateARefIdeal.τ).loc Cert.GateARefIdeal.main_arg0)
      ∧ r.2.mem ((c.tc : Thread Cert.GateARefIdeal.nD Cert.GateARefIdeal.τ).loc Cert.GateARefIdeal.main_arg1) = m ((c.tc : Thread Cert.GateARefIdeal.nD Cert.GateARefIdeal.τ).loc Cert.GateARefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1))
      ∧ r.2.sem = fun _ => 0)

def quiescent_Cumsum [hCumsum : Cert.Cumsum.Facts] : Prop :=
  ∀ (m : (ℓ : Loc Cert.Cumsum.nD Cert.Cumsum.τ Cert.Cumsum.sig) → Buf (Elt Bits) ℓ) (g : Dev Cert.Cumsum.nD → PrngReg), Pre_Cumsum m →
    θ_run (Cert.Cumsum.defs (F := Bits)) (onTc (τ := Cert.Cumsum.τ) (Cert.Cumsum.main (F := Bits))) ⟨m, fun _ => 0, g⟩ (fun r => (∀ c : Dev Cert.Cumsum.nD,
      r.2.mem ((c.tc : Thread Cert.Cumsum.nD Cert.Cumsum.τ).loc Cert.Cumsum.main_arg0) = m ((c.tc : Thread Cert.Cumsum.nD Cert.Cumsum.τ).loc Cert.Cumsum.main_arg0))
      ∧ r.2.sem = fun _ => 0)

def quiescent_CumsumIdeal [hCumsumIdeal : Cert.CumsumIdeal.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ r.2.sem = fun _ => 0)

def quiescent_CumsumIdeal_pre_below [hCumsumIdeal : Cert.CumsumIdeal.Facts] [hPre_below : Cert.Pre_below.Facts] : Prop :=
  ∀ (m : (ℓ : Loc Cert.CumsumIdeal.nD Cert.CumsumIdeal.τ Cert.CumsumIdeal.sig) → Buf (Elt Ideal) ℓ) (g : Dev Cert.CumsumIdeal.nD → PrngReg), Pre_CumsumIdeal_below m →
    θ_run (Cert.CumsumIdeal.defs (F := Ideal)) (onTc (τ := Cert.CumsumIdeal.τ) (Cert.CumsumIdeal.main (F := Ideal))) ⟨m, fun _ => 0, g⟩ (fun r => (∀ c : Dev Cert.CumsumIdeal.nD,
      r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ r.2.sem = fun _ => 0)

def quiescent_CumsumRefIdeal [hCumsumRefIdeal : Cert.CumsumRefIdeal.Facts] : Prop :=
  ∀ (m : (ℓ : Loc Cert.CumsumRefIdeal.nD Cert.CumsumRefIdeal.τ Cert.CumsumRefIdeal.sig) → Buf (Elt Ideal) ℓ) (g : Dev Cert.CumsumRefIdeal.nD → PrngReg), Pre_CumsumRefIdeal m →
    θ_run (Cert.CumsumRefIdeal.defs (F := Ideal)) (onTc (τ := Cert.CumsumRefIdeal.τ) (Cert.CumsumRefIdeal.main (F := Ideal))) ⟨m, fun _ => 0, g⟩ (fun r => (∀ c : Dev Cert.CumsumRefIdeal.nD,
      r.2.mem ((c.tc : Thread Cert.CumsumRefIdeal.nD Cert.CumsumRefIdeal.τ).loc Cert.CumsumRefIdeal.main_arg0) = m ((c.tc : Thread Cert.CumsumRefIdeal.nD Cert.CumsumRefIdeal.τ).loc Cert.CumsumRefIdeal.main_arg0))
      ∧ r.2.sem = fun _ => 0)

def quiescent_CumsumRefIdeal_pre_below [hCumsumRefIdeal : Cert.CumsumRefIdeal.Facts] [hPre_below : Cert.Pre_below.Facts] : Prop :=
  ∀ (m : (ℓ : Loc Cert.CumsumRefIdeal.nD Cert.CumsumRefIdeal.τ Cert.CumsumRefIdeal.sig) → Buf (Elt Ideal) ℓ) (g : Dev Cert.CumsumRefIdeal.nD → PrngReg), Pre_CumsumRefIdeal_below m →
    θ_run (Cert.CumsumRefIdeal.defs (F := Ideal)) (onTc (τ := Cert.CumsumRefIdeal.τ) (Cert.CumsumRefIdeal.main (F := Ideal))) ⟨m, fun _ => 0, g⟩ (fun r => (∀ c : Dev Cert.CumsumRefIdeal.nD,
      r.2.mem ((c.tc : Thread Cert.CumsumRefIdeal.nD Cert.CumsumRefIdeal.τ).loc Cert.CumsumRefIdeal.main_arg0) = m ((c.tc : Thread Cert.CumsumRefIdeal.nD Cert.CumsumRefIdeal.τ).loc Cert.CumsumRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v1) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v3) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v1) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v3) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_YPrompt_YPromptIdeal : Prop :=
  True

def algebraic_YPromptIdeal_YPromptRefIdeal [hYPromptIdeal : Cert.YPromptIdeal.Facts] [hYPromptRefIdeal : Cert.YPromptRefIdeal.Facts] : Prop :=
  ∀ (m : (ℓ : Loc Cert.YPromptIdeal.nD Cert.YPromptIdeal.τ Cert.YPromptIdeal.sig) → Buf (Elt Ideal) ℓ) (g : Dev Cert.YPromptIdeal.nD → PrngReg)
    (m' : (ℓ : Loc Cert.YPromptRefIdeal.nD Cert.YPromptRefIdeal.τ Cert.YPromptRefIdeal.sig) → Buf (Elt Ideal) ℓ) (g' : Dev Cert.YPromptRefIdeal.nD → PrngReg), Pre_YPromptIdeal m →
    (∀ c : Dev Cert.YPromptIdeal.nD,
      m' ((c.tc : Thread Cert.YPromptRefIdeal.nD Cert.YPromptRefIdeal.τ).loc Cert.YPromptRefIdeal.main_arg0) = m ((c.tc : Thread Cert.YPromptIdeal.nD Cert.YPromptIdeal.τ).loc Cert.YPromptIdeal.main_arg0)
      ∧ m' ((c.tc : Thread Cert.YPromptRefIdeal.nD Cert.YPromptRefIdeal.τ).loc Cert.YPromptRefIdeal.main_arg1) = m ((c.tc : Thread Cert.YPromptIdeal.nD Cert.YPromptIdeal.τ).loc Cert.YPromptIdeal.main_arg1)
      ∧ m' ((c.tc : Thread Cert.YPromptRefIdeal.nD Cert.YPromptRefIdeal.τ).loc Cert.YPromptRefIdeal.main_arg2) = m ((c.tc : Thread Cert.YPromptIdeal.nD Cert.YPromptIdeal.τ).loc Cert.YPromptIdeal.main_arg2)) →
    ∃ (v0 : (c : Dev Cert.YPromptIdeal.nD) → Buf (Elt Ideal) ((c.tc : Thread Cert.YPromptIdeal.nD Cert.YPromptIdeal.τ).loc Cert.YPromptIdeal.main_v1)),
      θ_run (Cert.YPromptIdeal.defs (F := Ideal)) (onTc (τ := Cert.YPromptIdeal.τ) (Cert.YPromptIdeal.main (F := Ideal))) ⟨m, fun _ => 0, g⟩ (fun r => ∀ c : Dev Cert.YPromptIdeal.nD,
          r.2.mem ((c.tc : Thread Cert.YPromptIdeal.nD Cert.YPromptIdeal.τ).loc Cert.YPromptIdeal.main_v1) = v0 c
          ∧ r.2.mem ((c.tc : Thread Cert.YPromptIdeal.nD Cert.YPromptIdeal.τ).loc Cert.YPromptIdeal.main_arg0) = m ((c.tc : Thread Cert.YPromptIdeal.nD Cert.YPromptIdeal.τ).loc Cert.YPromptIdeal.main_arg0)
          ∧ r.2.mem ((c.tc : Thread Cert.YPromptIdeal.nD Cert.YPromptIdeal.τ).loc Cert.YPromptIdeal.main_arg1) = m ((c.tc : Thread Cert.YPromptIdeal.nD Cert.YPromptIdeal.τ).loc Cert.YPromptIdeal.main_arg1)
          ∧ r.2.mem ((c.tc : Thread Cert.YPromptIdeal.nD Cert.YPromptIdeal.τ).loc Cert.YPromptIdeal.main_arg2) = m ((c.tc : Thread Cert.YPromptIdeal.nD Cert.YPromptIdeal.τ).loc Cert.YPromptIdeal.main_arg2))
      ∧ θ_run (Cert.YPromptRefIdeal.defs (F := Ideal)) (onTc (τ := Cert.YPromptRefIdeal.τ) (Cert.YPromptRefIdeal.main (F := Ideal))) ⟨m', fun _ => 0, g'⟩ (fun r => ∀ c : Dev Cert.YPromptRefIdeal.nD,
          r.2.mem ((c.tc : Thread Cert.YPromptRefIdeal.nD Cert.YPromptRefIdeal.τ).loc Cert.YPromptRefIdeal.main_v6) = v0 c
          ∧ r.2.mem ((c.tc : Thread Cert.YPromptRefIdeal.nD Cert.YPromptRefIdeal.τ).loc Cert.YPromptRefIdeal.main_arg0) = m' ((c.tc : Thread Cert.YPromptRefIdeal.nD Cert.YPromptRefIdeal.τ).loc Cert.YPromptRefIdeal.main_arg0)
          ∧ r.2.mem ((c.tc : Thread Cert.YPromptRefIdeal.nD Cert.YPromptRefIdeal.τ).loc Cert.YPromptRefIdeal.main_arg1) = m' ((c.tc : Thread Cert.YPromptRefIdeal.nD Cert.YPromptRefIdeal.τ).loc Cert.YPromptRefIdeal.main_arg1)
          ∧ r.2.mem ((c.tc : Thread Cert.YPromptRefIdeal.nD Cert.YPromptRefIdeal.τ).loc Cert.YPromptRefIdeal.main_arg2) = m' ((c.tc : Thread Cert.YPromptRefIdeal.nD Cert.YPromptRefIdeal.τ).loc Cert.YPromptRefIdeal.main_arg2))

def preserves_YSample_YSampleIdeal : Prop :=
  True

def algebraic_YSampleIdeal_YSampleRefIdeal [hYSampleIdeal : Cert.YSampleIdeal.Facts] [hYSampleRefIdeal : Cert.YSampleRefIdeal.Facts] : Prop :=
  ∀ (m : (ℓ : Loc Cert.YSampleIdeal.nD Cert.YSampleIdeal.τ Cert.YSampleIdeal.sig) → Buf (Elt Ideal) ℓ) (g : Dev Cert.YSampleIdeal.nD → PrngReg)
    (m' : (ℓ : Loc Cert.YSampleRefIdeal.nD Cert.YSampleRefIdeal.τ Cert.YSampleRefIdeal.sig) → Buf (Elt Ideal) ℓ) (g' : Dev Cert.YSampleRefIdeal.nD → PrngReg), Pre_YSampleIdeal m →
    (∀ c : Dev Cert.YSampleIdeal.nD,
      m' ((c.tc : Thread Cert.YSampleRefIdeal.nD Cert.YSampleRefIdeal.τ).loc Cert.YSampleRefIdeal.main_arg0) = m ((c.tc : Thread Cert.YSampleIdeal.nD Cert.YSampleIdeal.τ).loc Cert.YSampleIdeal.main_arg0)
      ∧ m' ((c.tc : Thread Cert.YSampleRefIdeal.nD Cert.YSampleRefIdeal.τ).loc Cert.YSampleRefIdeal.main_arg1) = m ((c.tc : Thread Cert.YSampleIdeal.nD Cert.YSampleIdeal.τ).loc Cert.YSampleIdeal.main_arg1)
      ∧ m' ((c.tc : Thread Cert.YSampleRefIdeal.nD Cert.YSampleRefIdeal.τ).loc Cert.YSampleRefIdeal.main_arg2) = m ((c.tc : Thread Cert.YSampleIdeal.nD Cert.YSampleIdeal.τ).loc Cert.YSampleIdeal.main_arg2)) →
    ∃ (v0 : (c : Dev Cert.YSampleIdeal.nD) → Buf (Elt Ideal) ((c.tc : Thread Cert.YSampleIdeal.nD Cert.YSampleIdeal.τ).loc Cert.YSampleIdeal.main_v1)),
      θ_run (Cert.YSampleIdeal.defs (F := Ideal)) (onTc (τ := Cert.YSampleIdeal.τ) (Cert.YSampleIdeal.main (F := Ideal))) ⟨m, fun _ => 0, g⟩ (fun r => ∀ c : Dev Cert.YSampleIdeal.nD,
          r.2.mem ((c.tc : Thread Cert.YSampleIdeal.nD Cert.YSampleIdeal.τ).loc Cert.YSampleIdeal.main_v1) = v0 c
          ∧ r.2.mem ((c.tc : Thread Cert.YSampleIdeal.nD Cert.YSampleIdeal.τ).loc Cert.YSampleIdeal.main_arg0) = m ((c.tc : Thread Cert.YSampleIdeal.nD Cert.YSampleIdeal.τ).loc Cert.YSampleIdeal.main_arg0)
          ∧ r.2.mem ((c.tc : Thread Cert.YSampleIdeal.nD Cert.YSampleIdeal.τ).loc Cert.YSampleIdeal.main_arg1) = m ((c.tc : Thread Cert.YSampleIdeal.nD Cert.YSampleIdeal.τ).loc Cert.YSampleIdeal.main_arg1)
          ∧ r.2.mem ((c.tc : Thread Cert.YSampleIdeal.nD Cert.YSampleIdeal.τ).loc Cert.YSampleIdeal.main_arg2) = m ((c.tc : Thread Cert.YSampleIdeal.nD Cert.YSampleIdeal.τ).loc Cert.YSampleIdeal.main_arg2))
      ∧ θ_run (Cert.YSampleRefIdeal.defs (F := Ideal)) (onTc (τ := Cert.YSampleRefIdeal.τ) (Cert.YSampleRefIdeal.main (F := Ideal))) ⟨m', fun _ => 0, g'⟩ (fun r => ∀ c : Dev Cert.YSampleRefIdeal.nD,
          r.2.mem ((c.tc : Thread Cert.YSampleRefIdeal.nD Cert.YSampleRefIdeal.τ).loc Cert.YSampleRefIdeal.main_v6) = v0 c
          ∧ r.2.mem ((c.tc : Thread Cert.YSampleRefIdeal.nD Cert.YSampleRefIdeal.τ).loc Cert.YSampleRefIdeal.main_arg0) = m' ((c.tc : Thread Cert.YSampleRefIdeal.nD Cert.YSampleRefIdeal.τ).loc Cert.YSampleRefIdeal.main_arg0)
          ∧ r.2.mem ((c.tc : Thread Cert.YSampleRefIdeal.nD Cert.YSampleRefIdeal.τ).loc Cert.YSampleRefIdeal.main_arg1) = m' ((c.tc : Thread Cert.YSampleRefIdeal.nD Cert.YSampleRefIdeal.τ).loc Cert.YSampleRefIdeal.main_arg1)
          ∧ r.2.mem ((c.tc : Thread Cert.YSampleRefIdeal.nD Cert.YSampleRefIdeal.τ).loc Cert.YSampleRefIdeal.main_arg2) = m' ((c.tc : Thread Cert.YSampleRefIdeal.nD Cert.YSampleRefIdeal.τ).loc Cert.YSampleRefIdeal.main_arg2))

def preserves_PrepP_PrepPIdeal : Prop :=
  IdealRules.named_const.Statement Cert.PrepPIdeal.κ "qscale" .f32 0x3E0293EE#32 (((Real.sqrt 128)⁻¹ * (Real.log 2)⁻¹ : ℝ) : EReal)

def algebraic_PrepPIdeal_PrepPRefIdeal [hPrepPIdeal : Cert.PrepPIdeal.Facts] [hPrepPRefIdeal : Cert.PrepPRefIdeal.Facts] : Prop :=
  ∀ (m : (ℓ : Loc Cert.PrepPIdeal.nD Cert.PrepPIdeal.τ Cert.PrepPIdeal.sig) → Buf (Elt Ideal) ℓ) (g : Dev Cert.PrepPIdeal.nD → PrngReg)
    (m' : (ℓ : Loc Cert.PrepPRefIdeal.nD Cert.PrepPRefIdeal.τ Cert.PrepPRefIdeal.sig) → Buf (Elt Ideal) ℓ) (g' : Dev Cert.PrepPRefIdeal.nD → PrngReg), Pre_PrepPIdeal m →
    (∀ c : Dev Cert.PrepPIdeal.nD,
      m' ((c.tc : Thread Cert.PrepPRefIdeal.nD Cert.PrepPRefIdeal.τ).loc Cert.PrepPRefIdeal.main_arg0) = m ((c.tc : Thread Cert.PrepPIdeal.nD Cert.PrepPIdeal.τ).loc Cert.PrepPIdeal.main_arg0)
      ∧ m' ((c.tc : Thread Cert.PrepPRefIdeal.nD Cert.PrepPRefIdeal.τ).loc Cert.PrepPRefIdeal.main_arg1) = m ((c.tc : Thread Cert.PrepPIdeal.nD Cert.PrepPIdeal.τ).loc Cert.PrepPIdeal.main_arg1)
      ∧ m' ((c.tc : Thread Cert.PrepPRefIdeal.nD Cert.PrepPRefIdeal.τ).loc Cert.PrepPRefIdeal.main_arg2) = m ((c.tc : Thread Cert.PrepPIdeal.nD Cert.PrepPIdeal.τ).loc Cert.PrepPIdeal.main_arg2)
      ∧ m' ((c.tc : Thread Cert.PrepPRefIdeal.nD Cert.PrepPRefIdeal.τ).loc Cert.PrepPRefIdeal.main_arg3) = m ((c.tc : Thread Cert.PrepPIdeal.nD Cert.PrepPIdeal.τ).loc Cert.PrepPIdeal.main_arg3)
      ∧ m' ((c.tc : Thread Cert.PrepPRefIdeal.nD Cert.PrepPRefIdeal.τ).loc Cert.PrepPRefIdeal.main_arg4) = m ((c.tc : Thread Cert.PrepPIdeal.nD Cert.PrepPIdeal.τ).loc Cert.PrepPIdeal.main_arg4)) →
    ∃ (v0 : (c : Dev Cert.PrepPIdeal.nD) → Buf (Elt Ideal) ((c.tc : Thread Cert.PrepPIdeal.nD Cert.PrepPIdeal.τ).loc Cert.PrepPIdeal.main_v5_0)) (v1 : (c : Dev Cert.PrepPIdeal.nD) → Buf (Elt Ideal) ((c.tc : Thread Cert.PrepPIdeal.nD Cert.PrepPIdeal.τ).loc Cert.PrepPIdeal.main_v5_1)) (v2 : (c : Dev Cert.PrepPIdeal.nD) → Buf (Elt Ideal) ((c.tc : Thread Cert.PrepPIdeal.nD Cert.PrepPIdeal.τ).loc Cert.PrepPIdeal.main_v5_2)) (v3 : (c : Dev Cert.PrepPIdeal.nD) → Buf (Elt Ideal) ((c.tc : Thread Cert.PrepPIdeal.nD Cert.PrepPIdeal.τ).loc Cert.PrepPIdeal.main_v5_3)) (v4 : (c : Dev Cert.PrepPIdeal.nD) → Buf (Elt Ideal) ((c.tc : Thread Cert.PrepPIdeal.nD Cert.PrepPIdeal.τ).loc Cert.PrepPIdeal.main_v5_4)) (v5 : (c : Dev Cert.PrepPIdeal.nD) → Buf (Elt Ideal) ((c.tc : Thread Cert.PrepPIdeal.nD Cert.PrepPIdeal.τ).loc Cert.PrepPIdeal.main_v6)),
      θ_run (Cert.PrepPIdeal.defs (F := Ideal)) (onTc (τ := Cert.PrepPIdeal.τ) (Cert.PrepPIdeal.main (F := Ideal))) ⟨m, fun _ => 0, g⟩ (fun r => ∀ c : Dev Cert.PrepPIdeal.nD,
          r.2.mem ((c.tc : Thread Cert.PrepPIdeal.nD Cert.PrepPIdeal.τ).loc Cert.PrepPIdeal.main_v5_0) = v0 c
          ∧ r.2.mem ((c.tc : Thread Cert.PrepPIdeal.nD Cert.PrepPIdeal.τ).loc Cert.PrepPIdeal.main_v5_1) = v1 c
          ∧ r.2.mem ((c.tc : Thread Cert.PrepPIdeal.nD Cert.PrepPIdeal.τ).loc Cert.PrepPIdeal.main_v5_2) = v2 c
          ∧ r.2.mem ((c.tc : Thread Cert.PrepPIdeal.nD Cert.PrepPIdeal.τ).loc Cert.PrepPIdeal.main_v5_3) = v3 c
          ∧ r.2.mem ((c.tc : Thread Cert.PrepPIdeal.nD Cert.PrepPIdeal.τ).loc Cert.PrepPIdeal.main_v5_4) = v4 c
          ∧ r.2.mem ((c.tc : Thread Cert.PrepPIdeal.nD Cert.PrepPIdeal.τ).loc Cert.PrepPIdeal.main_v6) = v5 c
          ∧ r.2.mem ((c.tc : Thread Cert.PrepPIdeal.nD Cert.PrepPIdeal.τ).loc Cert.PrepPIdeal.main_arg0) = m ((c.tc : Thread Cert.PrepPIdeal.nD Cert.PrepPIdeal.τ).loc Cert.PrepPIdeal.main_arg0)
          ∧ r.2.mem ((c.tc : Thread Cert.PrepPIdeal.nD Cert.PrepPIdeal.τ).loc Cert.PrepPIdeal.main_arg1) = m ((c.tc : Thread Cert.PrepPIdeal.nD Cert.PrepPIdeal.τ).loc Cert.PrepPIdeal.main_arg1)
          ∧ r.2.mem ((c.tc : Thread Cert.PrepPIdeal.nD Cert.PrepPIdeal.τ).loc Cert.PrepPIdeal.main_arg2) = m ((c.tc : Thread Cert.PrepPIdeal.nD Cert.PrepPIdeal.τ).loc Cert.PrepPIdeal.main_arg2)
          ∧ r.2.mem ((c.tc : Thread Cert.PrepPIdeal.nD Cert.PrepPIdeal.τ).loc Cert.PrepPIdeal.main_arg3) = m ((c.tc : Thread Cert.PrepPIdeal.nD Cert.PrepPIdeal.τ).loc Cert.PrepPIdeal.main_arg3)
          ∧ r.2.mem ((c.tc : Thread Cert.PrepPIdeal.nD Cert.PrepPIdeal.τ).loc Cert.PrepPIdeal.main_arg4) = m ((c.tc : Thread Cert.PrepPIdeal.nD Cert.PrepPIdeal.τ).loc Cert.PrepPIdeal.main_arg4))
      ∧ θ_run (Cert.PrepPRefIdeal.defs (F := Ideal)) (onTc (τ := Cert.PrepPRefIdeal.τ) (Cert.PrepPRefIdeal.main (F := Ideal))) ⟨m', fun _ => 0, g'⟩ (fun r => ∀ c : Dev Cert.PrepPRefIdeal.nD,
          r.2.mem ((c.tc : Thread Cert.PrepPRefIdeal.nD Cert.PrepPRefIdeal.τ).loc Cert.PrepPRefIdeal.main_v45) = v0 c
          ∧ r.2.mem ((c.tc : Thread Cert.PrepPRefIdeal.nD Cert.PrepPRefIdeal.τ).loc Cert.PrepPRefIdeal.main_v38) = v1 c
          ∧ r.2.mem ((c.tc : Thread Cert.PrepPRefIdeal.nD Cert.PrepPRefIdeal.τ).loc Cert.PrepPRefIdeal.main_v46) = v2 c
          ∧ r.2.mem ((c.tc : Thread Cert.PrepPRefIdeal.nD Cert.PrepPRefIdeal.τ).loc Cert.PrepPRefIdeal.main_v39) = v3 c
          ∧ r.2.mem ((c.tc : Thread Cert.PrepPRefIdeal.nD Cert.PrepPRefIdeal.τ).loc Cert.PrepPRefIdeal.main_v47) = v4 c
          ∧ r.2.mem ((c.tc : Thread Cert.PrepPRefIdeal.nD Cert.PrepPRefIdeal.τ).loc Cert.PrepPRefIdeal.main_v44) = v5 c
          ∧ r.2.mem ((c.tc : Thread Cert.PrepPRefIdeal.nD Cert.PrepPRefIdeal.τ).loc Cert.PrepPRefIdeal.main_arg0) = m' ((c.tc : Thread Cert.PrepPRefIdeal.nD Cert.PrepPRefIdeal.τ).loc Cert.PrepPRefIdeal.main_arg0)
          ∧ r.2.mem ((c.tc : Thread Cert.PrepPRefIdeal.nD Cert.PrepPRefIdeal.τ).loc Cert.PrepPRefIdeal.main_arg1) = m' ((c.tc : Thread Cert.PrepPRefIdeal.nD Cert.PrepPRefIdeal.τ).loc Cert.PrepPRefIdeal.main_arg1)
          ∧ r.2.mem ((c.tc : Thread Cert.PrepPRefIdeal.nD Cert.PrepPRefIdeal.τ).loc Cert.PrepPRefIdeal.main_arg2) = m' ((c.tc : Thread Cert.PrepPRefIdeal.nD Cert.PrepPRefIdeal.τ).loc Cert.PrepPRefIdeal.main_arg2)
          ∧ r.2.mem ((c.tc : Thread Cert.PrepPRefIdeal.nD Cert.PrepPRefIdeal.τ).loc Cert.PrepPRefIdeal.main_arg3) = m' ((c.tc : Thread Cert.PrepPRefIdeal.nD Cert.PrepPRefIdeal.τ).loc Cert.PrepPRefIdeal.main_arg3)
          ∧ r.2.mem ((c.tc : Thread Cert.PrepPRefIdeal.nD Cert.PrepPRefIdeal.τ).loc Cert.PrepPRefIdeal.main_arg4) = m' ((c.tc : Thread Cert.PrepPRefIdeal.nD Cert.PrepPRefIdeal.τ).loc Cert.PrepPRefIdeal.main_arg4))

def preserves_PrepS_PrepSIdeal : Prop :=
  IdealRules.named_const.Statement Cert.PrepSIdeal.κ "qscale" .f32 0x3E0293EE#32 (((Real.sqrt 128)⁻¹ * (Real.log 2)⁻¹ : ℝ) : EReal)

def algebraic_PrepSIdeal_PrepSRefIdeal [hPrepSIdeal : Cert.PrepSIdeal.Facts] [hPrepSRefIdeal : Cert.PrepSRefIdeal.Facts] : Prop :=
  ∀ (m : (ℓ : Loc Cert.PrepSIdeal.nD Cert.PrepSIdeal.τ Cert.PrepSIdeal.sig) → Buf (Elt Ideal) ℓ) (g : Dev Cert.PrepSIdeal.nD → PrngReg)
    (m' : (ℓ : Loc Cert.PrepSRefIdeal.nD Cert.PrepSRefIdeal.τ Cert.PrepSRefIdeal.sig) → Buf (Elt Ideal) ℓ) (g' : Dev Cert.PrepSRefIdeal.nD → PrngReg), Pre_PrepSIdeal m →
    (∀ c : Dev Cert.PrepSIdeal.nD,
      m' ((c.tc : Thread Cert.PrepSRefIdeal.nD Cert.PrepSRefIdeal.τ).loc Cert.PrepSRefIdeal.main_arg0) = m ((c.tc : Thread Cert.PrepSIdeal.nD Cert.PrepSIdeal.τ).loc Cert.PrepSIdeal.main_arg0)
      ∧ m' ((c.tc : Thread Cert.PrepSRefIdeal.nD Cert.PrepSRefIdeal.τ).loc Cert.PrepSRefIdeal.main_arg1) = m ((c.tc : Thread Cert.PrepSIdeal.nD Cert.PrepSIdeal.τ).loc Cert.PrepSIdeal.main_arg1)
      ∧ m' ((c.tc : Thread Cert.PrepSRefIdeal.nD Cert.PrepSRefIdeal.τ).loc Cert.PrepSRefIdeal.main_arg2) = m ((c.tc : Thread Cert.PrepSIdeal.nD Cert.PrepSIdeal.τ).loc Cert.PrepSIdeal.main_arg2)
      ∧ m' ((c.tc : Thread Cert.PrepSRefIdeal.nD Cert.PrepSRefIdeal.τ).loc Cert.PrepSRefIdeal.main_arg3) = m ((c.tc : Thread Cert.PrepSIdeal.nD Cert.PrepSIdeal.τ).loc Cert.PrepSIdeal.main_arg3)
      ∧ m' ((c.tc : Thread Cert.PrepSRefIdeal.nD Cert.PrepSRefIdeal.τ).loc Cert.PrepSRefIdeal.main_arg4) = m ((c.tc : Thread Cert.PrepSIdeal.nD Cert.PrepSIdeal.τ).loc Cert.PrepSIdeal.main_arg4)) →
    ∃ (v0 : (c : Dev Cert.PrepSIdeal.nD) → Buf (Elt Ideal) ((c.tc : Thread Cert.PrepSIdeal.nD Cert.PrepSIdeal.τ).loc Cert.PrepSIdeal.main_v5_0)) (v1 : (c : Dev Cert.PrepSIdeal.nD) → Buf (Elt Ideal) ((c.tc : Thread Cert.PrepSIdeal.nD Cert.PrepSIdeal.τ).loc Cert.PrepSIdeal.main_v5_1)) (v2 : (c : Dev Cert.PrepSIdeal.nD) → Buf (Elt Ideal) ((c.tc : Thread Cert.PrepSIdeal.nD Cert.PrepSIdeal.τ).loc Cert.PrepSIdeal.main_v5_2)) (v3 : (c : Dev Cert.PrepSIdeal.nD) → Buf (Elt Ideal) ((c.tc : Thread Cert.PrepSIdeal.nD Cert.PrepSIdeal.τ).loc Cert.PrepSIdeal.main_v5_3)) (v4 : (c : Dev Cert.PrepSIdeal.nD) → Buf (Elt Ideal) ((c.tc : Thread Cert.PrepSIdeal.nD Cert.PrepSIdeal.τ).loc Cert.PrepSIdeal.main_v5_4)) (v5 : (c : Dev Cert.PrepSIdeal.nD) → Buf (Elt Ideal) ((c.tc : Thread Cert.PrepSIdeal.nD Cert.PrepSIdeal.τ).loc Cert.PrepSIdeal.main_v6)),
      θ_run (Cert.PrepSIdeal.defs (F := Ideal)) (onTc (τ := Cert.PrepSIdeal.τ) (Cert.PrepSIdeal.main (F := Ideal))) ⟨m, fun _ => 0, g⟩ (fun r => ∀ c : Dev Cert.PrepSIdeal.nD,
          r.2.mem ((c.tc : Thread Cert.PrepSIdeal.nD Cert.PrepSIdeal.τ).loc Cert.PrepSIdeal.main_v5_0) = v0 c
          ∧ r.2.mem ((c.tc : Thread Cert.PrepSIdeal.nD Cert.PrepSIdeal.τ).loc Cert.PrepSIdeal.main_v5_1) = v1 c
          ∧ r.2.mem ((c.tc : Thread Cert.PrepSIdeal.nD Cert.PrepSIdeal.τ).loc Cert.PrepSIdeal.main_v5_2) = v2 c
          ∧ r.2.mem ((c.tc : Thread Cert.PrepSIdeal.nD Cert.PrepSIdeal.τ).loc Cert.PrepSIdeal.main_v5_3) = v3 c
          ∧ r.2.mem ((c.tc : Thread Cert.PrepSIdeal.nD Cert.PrepSIdeal.τ).loc Cert.PrepSIdeal.main_v5_4) = v4 c
          ∧ r.2.mem ((c.tc : Thread Cert.PrepSIdeal.nD Cert.PrepSIdeal.τ).loc Cert.PrepSIdeal.main_v6) = v5 c
          ∧ r.2.mem ((c.tc : Thread Cert.PrepSIdeal.nD Cert.PrepSIdeal.τ).loc Cert.PrepSIdeal.main_arg0) = m ((c.tc : Thread Cert.PrepSIdeal.nD Cert.PrepSIdeal.τ).loc Cert.PrepSIdeal.main_arg0)
          ∧ r.2.mem ((c.tc : Thread Cert.PrepSIdeal.nD Cert.PrepSIdeal.τ).loc Cert.PrepSIdeal.main_arg1) = m ((c.tc : Thread Cert.PrepSIdeal.nD Cert.PrepSIdeal.τ).loc Cert.PrepSIdeal.main_arg1)
          ∧ r.2.mem ((c.tc : Thread Cert.PrepSIdeal.nD Cert.PrepSIdeal.τ).loc Cert.PrepSIdeal.main_arg2) = m ((c.tc : Thread Cert.PrepSIdeal.nD Cert.PrepSIdeal.τ).loc Cert.PrepSIdeal.main_arg2)
          ∧ r.2.mem ((c.tc : Thread Cert.PrepSIdeal.nD Cert.PrepSIdeal.τ).loc Cert.PrepSIdeal.main_arg3) = m ((c.tc : Thread Cert.PrepSIdeal.nD Cert.PrepSIdeal.τ).loc Cert.PrepSIdeal.main_arg3)
          ∧ r.2.mem ((c.tc : Thread Cert.PrepSIdeal.nD Cert.PrepSIdeal.τ).loc Cert.PrepSIdeal.main_arg4) = m ((c.tc : Thread Cert.PrepSIdeal.nD Cert.PrepSIdeal.τ).loc Cert.PrepSIdeal.main_arg4))
      ∧ θ_run (Cert.PrepSRefIdeal.defs (F := Ideal)) (onTc (τ := Cert.PrepSRefIdeal.τ) (Cert.PrepSRefIdeal.main (F := Ideal))) ⟨m', fun _ => 0, g'⟩ (fun r => ∀ c : Dev Cert.PrepSRefIdeal.nD,
          r.2.mem ((c.tc : Thread Cert.PrepSRefIdeal.nD Cert.PrepSRefIdeal.τ).loc Cert.PrepSRefIdeal.main_v45) = v0 c
          ∧ r.2.mem ((c.tc : Thread Cert.PrepSRefIdeal.nD Cert.PrepSRefIdeal.τ).loc Cert.PrepSRefIdeal.main_v38) = v1 c
          ∧ r.2.mem ((c.tc : Thread Cert.PrepSRefIdeal.nD Cert.PrepSRefIdeal.τ).loc Cert.PrepSRefIdeal.main_v46) = v2 c
          ∧ r.2.mem ((c.tc : Thread Cert.PrepSRefIdeal.nD Cert.PrepSRefIdeal.τ).loc Cert.PrepSRefIdeal.main_v39) = v3 c
          ∧ r.2.mem ((c.tc : Thread Cert.PrepSRefIdeal.nD Cert.PrepSRefIdeal.τ).loc Cert.PrepSRefIdeal.main_v47) = v4 c
          ∧ r.2.mem ((c.tc : Thread Cert.PrepSRefIdeal.nD Cert.PrepSRefIdeal.τ).loc Cert.PrepSRefIdeal.main_v44) = v5 c
          ∧ r.2.mem ((c.tc : Thread Cert.PrepSRefIdeal.nD Cert.PrepSRefIdeal.τ).loc Cert.PrepSRefIdeal.main_arg0) = m' ((c.tc : Thread Cert.PrepSRefIdeal.nD Cert.PrepSRefIdeal.τ).loc Cert.PrepSRefIdeal.main_arg0)
          ∧ r.2.mem ((c.tc : Thread Cert.PrepSRefIdeal.nD Cert.PrepSRefIdeal.τ).loc Cert.PrepSRefIdeal.main_arg1) = m' ((c.tc : Thread Cert.PrepSRefIdeal.nD Cert.PrepSRefIdeal.τ).loc Cert.PrepSRefIdeal.main_arg1)
          ∧ r.2.mem ((c.tc : Thread Cert.PrepSRefIdeal.nD Cert.PrepSRefIdeal.τ).loc Cert.PrepSRefIdeal.main_arg2) = m' ((c.tc : Thread Cert.PrepSRefIdeal.nD Cert.PrepSRefIdeal.τ).loc Cert.PrepSRefIdeal.main_arg2)
          ∧ r.2.mem ((c.tc : Thread Cert.PrepSRefIdeal.nD Cert.PrepSRefIdeal.τ).loc Cert.PrepSRefIdeal.main_arg3) = m' ((c.tc : Thread Cert.PrepSRefIdeal.nD Cert.PrepSRefIdeal.τ).loc Cert.PrepSRefIdeal.main_arg3)
          ∧ r.2.mem ((c.tc : Thread Cert.PrepSRefIdeal.nD Cert.PrepSRefIdeal.τ).loc Cert.PrepSRefIdeal.main_arg4) = m' ((c.tc : Thread Cert.PrepSRefIdeal.nD Cert.PrepSRefIdeal.τ).loc Cert.PrepSRefIdeal.main_arg4))

def preserves_GateA_GateAIdeal : Prop :=
  True

def algebraic_GateAIdeal_GateARefIdeal [hGateAIdeal : Cert.GateAIdeal.Facts] [hGateARefIdeal : Cert.GateARefIdeal.Facts] : Prop :=
  ∀ (m : (ℓ : Loc Cert.GateAIdeal.nD Cert.GateAIdeal.τ Cert.GateAIdeal.sig) → Buf (Elt Ideal) ℓ) (g : Dev Cert.GateAIdeal.nD → PrngReg)
    (m' : (ℓ : Loc Cert.GateARefIdeal.nD Cert.GateARefIdeal.τ Cert.GateARefIdeal.sig) → Buf (Elt Ideal) ℓ) (g' : Dev Cert.GateARefIdeal.nD → PrngReg), Pre_GateAIdeal m →
    (∀ c : Dev Cert.GateAIdeal.nD,
      m' ((c.tc : Thread Cert.GateARefIdeal.nD Cert.GateARefIdeal.τ).loc Cert.GateARefIdeal.main_arg0) = m ((c.tc : Thread Cert.GateAIdeal.nD Cert.GateAIdeal.τ).loc Cert.GateAIdeal.main_arg0)
      ∧ m' ((c.tc : Thread Cert.GateARefIdeal.nD Cert.GateARefIdeal.τ).loc Cert.GateARefIdeal.main_arg1) = m ((c.tc : Thread Cert.GateAIdeal.nD Cert.GateAIdeal.τ).loc Cert.GateAIdeal.main_arg1)) →
    ∃ (v0 : (c : Dev Cert.GateAIdeal.nD) → Buf (Elt Ideal) ((c.tc : Thread Cert.GateAIdeal.nD Cert.GateAIdeal.τ).loc Cert.GateAIdeal.main_v3)),
      θ_run (Cert.GateAIdeal.defs (F := Ideal)) (onTc (τ := Cert.GateAIdeal.τ) (Cert.GateAIdeal.main (F := Ideal))) ⟨m, fun _ => 0, g⟩ (fun r => ∀ c : Dev Cert.GateAIdeal.nD,
          r.2.mem ((c.tc : Thread Cert.GateAIdeal.nD Cert.GateAIdeal.τ).loc Cert.GateAIdeal.main_v3) = v0 c
          ∧ r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
          ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ θ_run (Cert.GateARefIdeal.defs (F := Ideal)) (onTc (τ := Cert.GateARefIdeal.τ) (Cert.GateARefIdeal.main (F := Ideal))) ⟨m', fun _ => 0, g'⟩ (fun r => ∀ c : Dev Cert.GateARefIdeal.nD,
          r.2.mem ((c.tc : Thread Cert.GateARefIdeal.nD Cert.GateARefIdeal.τ).loc Cert.GateARefIdeal.main_v4) = v0 c
          ∧ r.2.mem ((c.tc : Thread Cert.GateARefIdeal.nD Cert.GateARefIdeal.τ).loc Cert.GateARefIdeal.main_arg0) = m' ((c.tc : Thread Cert.GateARefIdeal.nD Cert.GateARefIdeal.τ).loc Cert.GateARefIdeal.main_arg0)
          ∧ r.2.mem ((c.tc : Thread Cert.GateARefIdeal.nD Cert.GateARefIdeal.τ).loc Cert.GateARefIdeal.main_arg1) = m' ((c.tc : Thread Cert.GateARefIdeal.nD Cert.GateARefIdeal.τ).loc Cert.GateARefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)) →
    ∃ (v0 : (c : Dev Cert.GateBIdeal.nD) → Buf (Elt Ideal) ((c.tc : Thread Cert.GateBIdeal.nD Cert.GateBIdeal.τ).loc Cert.GateBIdeal.main_v3)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v3) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v4) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1))

def preserves_Cumsum_CumsumIdeal : Prop :=
  True

def algebraic_CumsumIdeal_CumsumRefIdeal_pre_below [hCumsumIdeal : Cert.CumsumIdeal.Facts] [hCumsumRefIdeal : Cert.CumsumRefIdeal.Facts] [hPre_below : Cert.Pre_below.Facts] : Prop :=
  ∀ (m : (ℓ : Loc Cert.CumsumIdeal.nD Cert.CumsumIdeal.τ Cert.CumsumIdeal.sig) → Buf (Elt Ideal) ℓ) (g : Dev Cert.CumsumIdeal.nD → PrngReg)
    (m' : (ℓ : Loc Cert.CumsumRefIdeal.nD Cert.CumsumRefIdeal.τ Cert.CumsumRefIdeal.sig) → Buf (Elt Ideal) ℓ) (g' : Dev Cert.CumsumRefIdeal.nD → PrngReg), Pre_CumsumIdeal_below m →
    (∀ c : Dev Cert.CumsumIdeal.nD,
      m' ((c.tc : Thread Cert.CumsumRefIdeal.nD Cert.CumsumRefIdeal.τ).loc Cert.CumsumRefIdeal.main_arg0) = m ((c.tc : Thread Cert.CumsumIdeal.nD Cert.CumsumIdeal.τ).loc Cert.CumsumIdeal.main_arg0)) →
    ∃ (v0 : (c : Dev Cert.CumsumIdeal.nD) → Buf (Elt Ideal) ((c.tc : Thread Cert.CumsumIdeal.nD Cert.CumsumIdeal.τ).loc Cert.CumsumIdeal.main_v0)),
      θ_run (Cert.CumsumIdeal.defs (F := Ideal)) (onTc (τ := Cert.CumsumIdeal.τ) (Cert.CumsumIdeal.main (F := Ideal))) ⟨m, fun _ => 0, g⟩ (fun r => ∀ c : Dev Cert.CumsumIdeal.nD,
          r.2.mem ((c.tc : Thread Cert.CumsumIdeal.nD Cert.CumsumIdeal.τ).loc Cert.CumsumIdeal.main_v0) = v0 c
          ∧ r.2.mem ((c.tc : Thread Cert.CumsumIdeal.nD Cert.CumsumIdeal.τ).loc Cert.CumsumIdeal.main_arg0) = m ((c.tc : Thread Cert.CumsumIdeal.nD Cert.CumsumIdeal.τ).loc Cert.CumsumIdeal.main_arg0))
      ∧ θ_run (Cert.CumsumRefIdeal.defs (F := Ideal)) (onTc (τ := Cert.CumsumRefIdeal.τ) (Cert.CumsumRefIdeal.main (F := Ideal))) ⟨m', fun _ => 0, g'⟩ (fun r => ∀ c : Dev Cert.CumsumRefIdeal.nD,
          r.2.mem ((c.tc : Thread Cert.CumsumRefIdeal.nD Cert.CumsumRefIdeal.τ).loc Cert.CumsumRefIdeal.main_v0) = v0 c
          ∧ r.2.mem ((c.tc : Thread Cert.CumsumRefIdeal.nD Cert.CumsumRefIdeal.τ).loc Cert.CumsumRefIdeal.main_arg0) = m' ((c.tc : Thread Cert.CumsumRefIdeal.nD Cert.CumsumRefIdeal.τ).loc Cert.CumsumRefIdeal.main_arg0))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v10)) (v1 : (c : Dev Cert.ConvIdeal.nD) → Buf (Elt Ideal) ((c.tc : Thread Cert.ConvIdeal.nD Cert.ConvIdeal.τ).loc Cert.ConvIdeal.main_v13)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v10) = v0 c
          ∧ r.2.mem ((c.tc : Thread Cert.ConvIdeal.nD Cert.ConvIdeal.τ).loc Cert.ConvIdeal.main_v13) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v6) = v0 c
          ∧ r.2.mem ((c.tc : Thread Cert.ConvRefIdeal.nD Cert.ConvRefIdeal.τ).loc Cert.ConvRefIdeal.main_v9) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hAttn : Cert.Attn.Facts) (hAttnIdeal : Cert.AttnIdeal.Facts) (hAttnRefIdeal : Cert.AttnRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hOut : Cert.Out.Facts) (hOutIdeal : Cert.OutIdeal.Facts) (hOutRefIdeal : Cert.OutRefIdeal.Facts) (hYPrompt : Cert.YPrompt.Facts) (hYPromptIdeal : Cert.YPromptIdeal.Facts) (hYPromptRefIdeal : Cert.YPromptRefIdeal.Facts) (hYSample : Cert.YSample.Facts) (hYSampleIdeal : Cert.YSampleIdeal.Facts) (hYSampleRefIdeal : Cert.YSampleRefIdeal.Facts) (hPrepP : Cert.PrepP.Facts) (hPrepPIdeal : Cert.PrepPIdeal.Facts) (hPrepPRefIdeal : Cert.PrepPRefIdeal.Facts) (hPrepS : Cert.PrepS.Facts) (hPrepSIdeal : Cert.PrepSIdeal.Facts) (hPrepSRefIdeal : Cert.PrepSRefIdeal.Facts) (hGateA : Cert.GateA.Facts) (hGateAIdeal : Cert.GateAIdeal.Facts) (hGateARefIdeal : Cert.GateARefIdeal.Facts) (hGateB : Cert.GateB.Facts) (hGateBIdeal : Cert.GateBIdeal.Facts) (hGateBRefIdeal : Cert.GateBRefIdeal.Facts) (hCumsum : Cert.Cumsum.Facts) (hCumsumIdeal : Cert.CumsumIdeal.Facts) (hCumsumRefIdeal : Cert.CumsumRefIdeal.Facts) (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hPre_finite : Cert.Pre_finite.Facts) (hPre_below : Cert.Pre_below.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ quiescent_Out (hOut := hOut)
    ∧ quiescent_OutIdeal (hOutIdeal := hOutIdeal)
    ∧ quiescent_OutRefIdeal (hOutRefIdeal := hOutRefIdeal)
    ∧ quiescent_YPrompt (hYPrompt := hYPrompt)
    ∧ quiescent_YPromptIdeal (hYPromptIdeal := hYPromptIdeal)
    ∧ quiescent_YPromptRefIdeal (hYPromptRefIdeal := hYPromptRefIdeal)
    ∧ quiescent_YSample (hYSample := hYSample)
    ∧ quiescent_YSampleIdeal (hYSampleIdeal := hYSampleIdeal)
    ∧ quiescent_YSampleRefIdeal (hYSampleRefIdeal := hYSampleRefIdeal)
    ∧ quiescent_PrepP (hPrepP := hPrepP)
    ∧ quiescent_PrepPIdeal (hPrepPIdeal := hPrepPIdeal)
    ∧ quiescent_PrepPRefIdeal (hPrepPRefIdeal := hPrepPRefIdeal)
    ∧ quiescent_PrepS (hPrepS := hPrepS)
    ∧ quiescent_PrepSIdeal (hPrepSIdeal := hPrepSIdeal)
    ∧ quiescent_PrepSRefIdeal (hPrepSRefIdeal := hPrepSRefIdeal)
    ∧ quiescent_GateA (hGateA := hGateA)
    ∧ quiescent_GateAIdeal (hGateAIdeal := hGateAIdeal)
    ∧ quiescent_GateARefIdeal (hGateARefIdeal := hGateARefIdeal)
    ∧ quiescent_GateB (hGateB := hGateB)
    ∧ quiescent_GateBIdeal (hGateBIdeal := hGateBIdeal)
    ∧ quiescent_GateBRefIdeal (hGateBRefIdeal := hGateBRefIdeal)
    ∧ quiescent_Cumsum (hCumsum := hCumsum)
    ∧ quiescent_CumsumIdeal (hCumsumIdeal := hCumsumIdeal)
    ∧ quiescent_CumsumIdeal_pre_below (hCumsumIdeal := hCumsumIdeal) (hPre_below := hPre_below)
    ∧ quiescent_CumsumRefIdeal (hCumsumRefIdeal := hCumsumRefIdeal)
    ∧ quiescent_CumsumRefIdeal_pre_below (hCumsumRefIdeal := hCumsumRefIdeal) (hPre_below := hPre_below)
    ∧ quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormRefIdeal (hNormRefIdeal := hNormRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
    ∧ preserves_Out_OutIdeal
    ∧ algebraic_OutIdeal_OutRefIdeal (hOutIdeal := hOutIdeal) (hOutRefIdeal := hOutRefIdeal)
    ∧ preserves_YPrompt_YPromptIdeal
    ∧ algebraic_YPromptIdeal_YPromptRefIdeal (hYPromptIdeal := hYPromptIdeal) (hYPromptRefIdeal := hYPromptRefIdeal)
    ∧ preserves_YSample_YSampleIdeal
    ∧ algebraic_YSampleIdeal_YSampleRefIdeal (hYSampleIdeal := hYSampleIdeal) (hYSampleRefIdeal := hYSampleRefIdeal)
    ∧ preserves_PrepP_PrepPIdeal
    ∧ algebraic_PrepPIdeal_PrepPRefIdeal (hPrepPIdeal := hPrepPIdeal) (hPrepPRefIdeal := hPrepPRefIdeal)
    ∧ preserves_PrepS_PrepSIdeal
    ∧ algebraic_PrepSIdeal_PrepSRefIdeal (hPrepSIdeal := hPrepSIdeal) (hPrepSRefIdeal := hPrepSRefIdeal)
    ∧ preserves_GateA_GateAIdeal
    ∧ algebraic_GateAIdeal_GateARefIdeal (hGateAIdeal := hGateAIdeal) (hGateARefIdeal := hGateARefIdeal)
    ∧ preserves_GateB_GateBIdeal
    ∧ algebraic_GateBIdeal_GateBRefIdeal (hGateBIdeal := hGateBIdeal) (hGateBRefIdeal := hGateBRefIdeal)
    ∧ preserves_Cumsum_CumsumIdeal
    ∧ algebraic_CumsumIdeal_CumsumRefIdeal_pre_below (hCumsumIdeal := hCumsumIdeal) (hCumsumRefIdeal := hCumsumRefIdeal) (hPre_below := hPre_below)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal (hNormIdeal := hNormIdeal) (hNormRefIdeal := hNormRefIdeal)
-- ==== Pre_below.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)

variable [Facts]

def fn {F : FTy → Type} [FloatOps F] (main_arg0 : FVec F S4x2048x128 .f32) : IVec S4x2048x128 1 :=
  let main_cst : FVec F S_ .f32 := constant S_ .f32 0x7F800000#32
  let main_v0 : FVec F S4x2048x128 .f32 := broadcastInDim S4x2048x128 ![] bcast_S_S4x2048x128 main_cst
  let main_v1 : IVec S4x2048x128 1 := cmpf .olt main_arg0 main_v0
  main_v1
-- ==== Pre_finite.lean ====
abbrev S8192x2048 : Shape := ⟨2, ![8192, 2048]⟩
abbrev S4x2048x128 : Shape := ⟨3, ![4, 2048, 128]⟩
abbrev S8448x8192 : Shape := ⟨2, ![8448, 8192]⟩
abbrev S4x2048x16 : Shape := ⟨3, ![4, 2048, 16]⟩
abbrev S_ : Shape := ⟨0, ![]⟩

class Facts : Prop where
  slices_S4x2048x128_S4x2048x16_0_0_0 : S4x2048x128.Slices ![0, 0, 0] S4x2048x16
  bitsLt_bf16_f32 : FTy.bits .bf16 < FTy.bits .f32
  bcast_S_S8192x2048 : S_.BroadcastsInDim S8192x2048 (![] : Fin 0 → Fin S8192x2048.rank)
  bcast_S_S4x2048x16 : S_.BroadcastsInDim S4x2048x16 (![] : Fin 0 → Fin S4x2048x16.rank)

variable [Facts]

def fn {F : FTy → Type} [FloatOps F] (main_arg0 : FVec F S8192x2048 .bf16) (main_arg1 : FVec F S8192x2048 .bf16) (main_arg2 : FVec F S8192x2048 .bf16) (main_arg3 : FVec F S4x2048x128 .f32) (main_arg4 : FVec F S8448x8192 .f32) : IVec S8192x2048 1 × IVec S8192x2048 1 × IVec S4x2048x16 1 :=
  let main_v0 : FVec F S4x2048x16 .f32 := (extractStridedSlice S4x2048x16 ![0, 0, 0] · slices_S4x2048x128_S4x2048x16_0_0_0) main_arg3
  let main_v1 : FVec F S8192x2048 .f32 := (extf .f32 · bitsLt_bf16_f32) main_arg0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_v9 : FVec F S4x2048x16 .f32 := Host.absf main_v0
  let main_cst_1 : FVec F S_ .f32 := constant S_ .f32 0x7F800000#32
  let main_v10 : FVec F S4x2048x16 .f32 := broadcastInDim S4x2048x16 ![] bcast_S_S4x2048x16 main_cst_1
  let main_v11 : IVec S4x2048x16 1 := cmpf .olt main_v9 main_v10
  (main_v4, main_v8, main_v11)
-- ==== Attn.lean ====
abbrev S8192x2048 : Shape := ⟨2, ![8192, 2048]⟩
abbrev S4x2048x128 : Shape := ⟨3, ![4, 2048, 128]⟩
abbrev S8448x8192 : Shape := ⟨2, ![8448, 8192]⟩
abbrev S4x2048x16 : Shape := ⟨3, ![4, 2048, 16]⟩
abbrev S4x16x2048 : Shape := ⟨3, ![4, 16, 2048]⟩
abbrev S4x16x1x2048 : Shape := ⟨4, ![4, 16, 1, 2048]⟩
abbrev S4x4x512x2048 : Shape := ⟨4, ![4, 4, 512, 2048]⟩
abbrev S1x4x512x512 : Shape := ⟨4, ![1, 4, 512, 512]⟩
abbrev S2048x512 : Shape := ⟨2, ![2048, 512]⟩
abbrev S1x4x1x2048 : Shape := ⟨4, ![1, 4, 1, 2048]⟩
abbrev S512x512 : Shape := ⟨2, ![512, 512]⟩
abbrev S4x2048x256 : Shape := ⟨3, ![4, 2048, 256]⟩
abbrev S2048x128 : Shape := ⟨2, ![2048, 128]⟩
abbrev S1x2048x128 : Shape := ⟨3, ![1, 2048, 128]⟩
abbrev S1x1x512x128 : Shape := ⟨4, ![1, 1, 512, 128]⟩
abbrev S512x128 : Shape := ⟨2, ![512, 128]⟩
abbrev S1x1x1x512 : Shape := ⟨4, ![1, 1, 1, 512]⟩
abbrev S1x512 : Shape := ⟨2, ![1, 512]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩
abbrev S1024x128 : Shape := ⟨2, ![1024, 128]⟩
abbrev S512x1024 : Shape := ⟨2, ![512, 1024]⟩
abbrev S1x1x1x1024 : Shape := ⟨4, ![1, 1, 1, 1024]⟩
abbrev S1x1024 : Shape := ⟨2, ![1, 1024]⟩
abbrev S1x1024x256 : Shape := ⟨3, ![1, 1024, 256]⟩
abbrev S1024x256 : Shape := ⟨2, ![1024, 256]⟩
abbrev S1536x128 : Shape := ⟨2, ![1536, 128]⟩
abbrev S512x1536 : Shape := ⟨2, ![512, 1536]⟩
abbrev S1x1x1x1536 : Shape := ⟨4, ![1, 1, 1, 1536]⟩
abbrev S1x1536 : Shape := ⟨2, ![1, 1536]⟩
abbrev S1x1536x256 : Shape := ⟨3, ![1, 1536, 256]⟩
abbrev S1536x256 : Shape := ⟨2, ![1536, 256]⟩
abbrev S512x2048 : Shape := ⟨2, ![512, 2048]⟩
abbrev S1x1x1x2048 : Shape := ⟨4, ![1, 1, 1, 2048]⟩
abbrev S1x2048 : Shape := ⟨2, ![1, 2048]⟩
abbrev S1x2048x256 : Shape := ⟨3, ![1, 2048, 256]⟩
abbrev S2048x256 : Shape := ⟨2, ![2048, 256]⟩

abbrev nBuf : Space → Nat
  | .hbm => 10
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S4x2048x128, .f32⟩
  | .hbm, ⟨4, _⟩ => ⟨S8448x8192, .f32⟩
  | .hbm, ⟨5, _⟩ => ⟨S4x2048x16, .f32⟩
  | .hbm, ⟨6, _⟩ => ⟨S4x16x2048, .f32⟩
  | .hbm, ⟨7, _⟩ => ⟨S4x16x1x2048, .f32⟩
  | .hbm, ⟨8, _⟩ => ⟨S4x4x512x2048, .bf16⟩
  | .hbm, ⟨9, _⟩ => ⟨S4x4x512x2048, .bf16⟩
  | .local _ .vmem, ⟨0, _⟩ => ⟨S1x4x512x512, .bf16⟩
  | .local _ .vmem, ⟨1, _⟩ => ⟨S1x4x512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1x4x1x2048, .f32⟩
  | .local _ .vmem, ⟨7, _⟩ => ⟨S1x4x1x2048, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x4x512x512, .bf16⟩
  | .local _ .vmem, ⟨17, _⟩ => ⟨S1x4x512x512, .bf16⟩
  | .local _ .vmem, ⟨18, _⟩ => ⟨S4x2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi v0 c0_i32
  let v2 : BitVec 32 := Scalar.addi v1 arg2
  let c12_i32 : BitVec 32 := 12#32
  let v3 : BitVec 32 := Scalar.addi c12_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.addi v0 c1_i32
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.addi v0 c2_i32
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c3_i32 : BitVec 32 := 3#32
  let v1 : BitVec 32 := Scalar.addi v0 c3_i32
  let v2 : BitVec 32 := Scalar.addi v1 arg2
  let c12_i32 : BitVec 32 := 12#32
  let v3 : BitVec 32 := Scalar.addi c12_i32 arg1
  let c0_i32 : BitVec 32 := 0#32
  ![v2.toNat, v3.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage0_0 : Fin 2 → Memref sig .tc .vmem S1x4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "log2e" => some (((Real.log 2)⁻¹ : ℝ) : EReal)
  | "mask" => some ⊥
  | _ => none
-- ==== AttnRefIdeal.lean ====
abbrev S8192x2048 : Shape := ⟨2, ![8192, 2048]⟩
abbrev S4x2048x128 : Shape := ⟨3, ![4, 2048, 128]⟩
abbrev S8448x8192 : Shape := ⟨2, ![8448, 8192]⟩
abbrev S_ : Shape := ⟨0, ![]⟩
abbrev S4x2048x16x128 : Shape := ⟨4, ![4, 2048, 16, 128]⟩
abbrev S4x2048x16 : Shape := ⟨3, ![4, 2048, 16]⟩
abbrev S4x16x2048 : Shape := ⟨3, ![4, 16, 2048]⟩
abbrev S2048 : Shape := ⟨1, ![2048]⟩
abbrev S4x16x2048x2048 : Shape := ⟨4, ![4, 16, 2048, 2048]⟩
abbrev S4x16x2048x1 : Shape := ⟨4, ![4, 16, 2048, 1]⟩
abbrev S4x16x1x2048 : Shape := ⟨4, ![4, 16, 1, 2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩
abbrev S4x4x512x2048 : Shape := ⟨4, ![4, 4, 512, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S4x2048x128, .f32⟩
  | .hbm, ⟨4, _⟩ => ⟨S8448x8192, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S4x2048x16x128, .f32⟩
  | .hbm, ⟨14, _⟩ => ⟨S8192x2048, .f32⟩
  | .hbm, ⟨15, _⟩ => ⟨S4x2048x16x128, .f32⟩
  | .hbm, ⟨16, _⟩ => ⟨S8192x2048, .f32⟩
  | .hbm, ⟨17, _⟩ => ⟨S4x2048x16x128, .f32⟩
  | .hbm, ⟨18, _⟩ => ⟨S4x2048x16, .f32⟩
  | .hbm, ⟨19, _⟩ => ⟨S4x16x2048, .f32⟩
  | .hbm, ⟨20, _⟩ => ⟨S8192x2048, .f32⟩
  | .hbm, ⟨21, _⟩ => ⟨S2048, .i32⟩
  | .hbm, ⟨22, _⟩ => ⟨S4x16x2048x2048, .f32⟩
  | .hbm, ⟨23, _⟩ => ⟨S_, .f32⟩
  | .hbm, ⟨24, _⟩ => ⟨S_, .f32⟩
  | .hbm, ⟨25, _⟩ => ⟨S4x16x2048x2048, .f32⟩
  | .hbm, ⟨26, _⟩ => ⟨S4x16x2048x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x1x2048, .f32⟩
  | .hbm, ⟨31, _⟩ => ⟨S4x16x2048x2048, .f32⟩
  | .hbm, ⟨32, _⟩ => ⟨S4x16x2048x2048, .f32⟩
  | .hbm, ⟨33, _⟩ => ⟨S1x2048, .i32⟩
  | .hbm, ⟨34, _⟩ => ⟨S2048x1, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S4x16x2048x2048, .i1⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S_, .f32⟩
  | .hbm, ⟨46, _⟩ => ⟨S4x16x2048, .f32⟩
  | .hbm, ⟨47, _⟩ => ⟨S4x16x2048, .f32⟩
  | .hbm, ⟨48, _⟩ => ⟨S4x16x2048x1, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S_, .f32⟩
  | .hbm, ⟨53, _⟩ => ⟨S4x16x2048, .f32⟩
  | .hbm, ⟨54, _⟩ => ⟨S4x16x2048x1, .f32⟩
  | .hbm, ⟨55, _⟩ => ⟨S4x16x2048x2048, .f32⟩
  | .hbm, ⟨56, _⟩ => ⟨S4x16x2048x2048, .f32⟩
  | .hbm, ⟨57, _⟩ => ⟨S4x16x128x2048, .f32⟩
  | .hbm, ⟨58, _⟩ => ⟨S4x2048x16x128, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S4x4x512x2048, .f32⟩
  | .hbm, ⟨70, _⟩ => ⟨S4x4x512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Up.lean ====
abbrev S8448x2048 : Shape := ⟨2, ![8448, 2048]⟩
abbrev S2x2048x8192 : Shape := ⟨3, ![2, 2048, 8192]⟩
abbrev S8448x8192 : Shape := ⟨2, ![8448, 8192]⟩
abbrev S1056x2048 : Shape := ⟨2, ![1056, 2048]⟩
abbrev S1x2048x1024 : Shape := ⟨3, ![1, 2048, 1024]⟩
abbrev S1056x1024 : Shape := ⟨2, ![1056, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2x2048x8192, .f32⟩
  | .hbm, ⟨2, _⟩ => ⟨S8448x8192, .bf16⟩
  | .local _ .vmem, ⟨0, _⟩ => ⟨S1056x2048, .bf16⟩
  | .local _ .vmem, ⟨1, _⟩ => ⟨S1056x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1056x1024, .bf16⟩
  | .local _ .vmem, ⟨5, _⟩ => ⟨S1056x1024, .bf16⟩
  | .local _ .vmem, ⟨6, _⟩ => ⟨S2048x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8448x2048 : Shape := ⟨2, ![8448, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S8448x8192 : Shape := ⟨2, ![8448, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2x2048x8192, .f32⟩
  | .hbm, ⟨2, _⟩ => ⟨S8448x2048, .f32⟩
  | .hbm, ⟨3, _⟩ => ⟨S1x2048x8192, .f32⟩
  | .hbm, ⟨4, _⟩ => ⟨S2048x8192, .f32⟩
  | .hbm, ⟨5, _⟩ => ⟨S8448x8192, .f32⟩
  | .hbm, ⟨6, _⟩ => ⟨S_, .f32⟩
  | .hbm, ⟨7, _⟩ => ⟨S8448x8192, .f32⟩
  | .hbm, ⟨8, _⟩ => ⟨S8448x8192, .f32⟩
  | .hbm, ⟨9, _⟩ => ⟨S8448x8192, .f32⟩
  | .hbm, ⟨10, _⟩ => ⟨S8448x8192, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S8448x8192 : Shape := ⟨2, ![8448, 8192]⟩
abbrev S2x8192x2048 : Shape := ⟨3, ![2, 8192, 2048]⟩
abbrev S8448x2048 : Shape := ⟨2, ![8448, 2048]⟩
abbrev S768x8192 : Shape := ⟨2, ![768, 8192]⟩
abbrev S1x8192x512 : Shape := ⟨3, ![1, 8192, 512]⟩
abbrev S768x512 : Shape := ⟨2, ![768, 512]⟩
abbrev S8192x512 : Shape := ⟨2, ![8192, 512]⟩

abbrev nBuf : Space → Nat
  | .hbm => 5
  | .vmem => 8
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S2x8192x2048, .bf16⟩
  | .hbm, ⟨4, _⟩ => ⟨S8448x2048, .f32⟩
  | .local _ .vmem, ⟨0, _⟩ => ⟨S768x8192, .bf16⟩
  | .local _ .vmem, ⟨1, _⟩ => ⟨S768x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8448x8192 : Shape := ⟨2, ![8448, 8192]⟩
abbrev S2x8192x2048 : Shape := ⟨3, ![2, 8192, 2048]⟩
abbrev S8448x2048 : Shape := ⟨2, ![8448, 2048]⟩
abbrev S1x8192x2048 : Shape := ⟨3, ![1, 8192, 2048]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S8448x8192, .f32⟩
  | .hbm, ⟨4, _⟩ => ⟨S1x8192x2048, .f32⟩
  | .hbm, ⟨5, _⟩ => ⟨S8192x2048, .f32⟩
  | .hbm, ⟨6, _⟩ => ⟨S8448x2048, .f32⟩
  | .hbm, ⟨7, _⟩ => ⟨S8448x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InA.lean ====
abbrev S8448x2048 : Shape := ⟨2, ![8448, 2048]⟩
abbrev S1x2048x8224 : Shape := ⟨3, ![1, 2048, 8224]⟩
abbrev S1x8224x2048 : Shape := ⟨3, ![1, 8224, 2048]⟩
abbrev S8448x8192 : Shape := ⟨2, ![8448, 8192]⟩
abbrev S1056x2048 : Shape := ⟨2, ![1056, 2048]⟩
abbrev S1x1024x2048 : Shape := ⟨3, ![1, 1024, 2048]⟩
abbrev S1056x1024 : Shape := ⟨2, ![1056, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S1x8224x2048, .f32⟩
  | .hbm, ⟨3, _⟩ => ⟨S8448x8192, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1056x1024, .f32⟩
  | .local _ .vmem, ⟨5, _⟩ => ⟨S1056x1024, .f32⟩
  | .local _ .vmem, ⟨6, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAIdeal.lean ====
abbrev S8448x2048 : Shape := ⟨2, ![8448, 2048]⟩
abbrev S1x2048x8224 : Shape := ⟨3, ![1, 2048, 8224]⟩
abbrev S1x8224x2048 : Shape := ⟨3, ![1, 8224, 2048]⟩
abbrev S8448x8192 : Shape := ⟨2, ![8448, 8192]⟩
abbrev S1056x2048 : Shape := ⟨2, ![1056, 2048]⟩
abbrev S1x1024x2048 : Shape := ⟨3, ![1, 1024, 2048]⟩
abbrev S1056x1024 : Shape := ⟨2, ![1056, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S1x8224x2048, .f32⟩
  | .hbm, ⟨3, _⟩ => ⟨S8448x8192, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1056x1024, .f32⟩
  | .local _ .vmem, ⟨5, _⟩ => ⟨S1056x1024, .f32⟩
  | .local _ .vmem, ⟨6, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InARefIdeal.lean ====
abbrev S8448x2048 : Shape := ⟨2, ![8448, 2048]⟩
abbrev S1x2048x8224 : Shape := ⟨3, ![1, 2048, 8224]⟩
abbrev S1x2048x8192 : Shape := ⟨3, ![1, 2048, 8192]⟩
abbrev S2048x8192 : Shape := ⟨2, ![2048, 8192]⟩
abbrev S8448x8192 : Shape := ⟨2, ![8448, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S8448x2048, .f32⟩
  | .hbm, ⟨3, _⟩ => ⟨S1x2048x8192, .f32⟩
  | .hbm, ⟨4, _⟩ => ⟨S2048x8192, .f32⟩
  | .hbm, ⟨5, _⟩ => ⟨S8448x8192, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InB.lean ====
abbrev S8448x2048 : Shape := ⟨2, ![8448, 2048]⟩
abbrev S1x2048x8208 : Shape := ⟨3, ![1, 2048, 8208]⟩
abbrev S1x8208x2048 : Shape := ⟨3, ![1, 8208, 2048]⟩
abbrev S8448x8192 : Shape := ⟨2, ![8448, 8192]⟩
abbrev S1056x2048 : Shape := ⟨2, ![1056, 2048]⟩
abbrev S1x1024x2048 : Shape := ⟨3, ![1, 1024, 2048]⟩
abbrev S1056x1024 : Shape := ⟨2, ![1056, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x8208, .f32⟩
  | .hbm, ⟨2, _⟩ => ⟨S1x8208x2048, .f32⟩
  | .hbm, ⟨3, _⟩ => ⟨S8448x8192, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1056x1024, .f32⟩
  | .local _ .vmem, ⟨5, _⟩ => ⟨S1056x1024, .f32⟩
  | .local _ .vmem, ⟨6, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InBRefIdeal.lean ====
abbrev S8448x2048 : Shape := ⟨2, ![8448, 2048]⟩
abbrev S1x2048x8208 : Shape := ⟨3, ![1, 2048, 8208]⟩
abbrev S1x2048x8192 : Shape := ⟨3, ![1, 2048, 8192]⟩
abbrev S2048x8192 : Shape := ⟨2, ![2048, 8192]⟩
abbrev S8448x8192 : Shape := ⟨2, ![8448, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8208, .f32⟩
  | .hbm, ⟨2, _⟩ => ⟨S8448x2048, .f32⟩
  | .hbm, ⟨3, _⟩ => ⟨S1x2048x8192, .f32⟩
  | .hbm, ⟨4, _⟩ => ⟨S2048x8192, .f32⟩
  | .hbm, ⟨5, _⟩ => ⟨S8448x8192, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S1x2048x2048 : Shape := ⟨3, ![1, 2048, 2048]⟩
abbrev S8448x2048 : Shape := ⟨2, ![8448, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8448x2048, .f32⟩
  | .hbm, ⟨3, _⟩ => ⟨S8448x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S8192x2048 : Shape := ⟨2, ![8192, 2048]⟩
abbrev S1x2048x2048 : Shape := ⟨3, ![1, 2048, 2048]⟩
abbrev S8448x2048 : Shape := ⟨2, ![8448, 2048]⟩
abbrev S2048x2048 : Shape := ⟨2, ![2048, 2048]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8448x2048, .f32⟩
  | .hbm, ⟨3, _⟩ => ⟨S8192x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S256x2048, .f32⟩
  | .hbm, ⟨9, _⟩ => ⟨S8448x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== YPrompt.lean ====
abbrev S8448x8192 : Shape := ⟨2, ![8448, 8192]⟩
abbrev S2x8192x2048 : Shape := ⟨3, ![2, 8192, 2048]⟩
abbrev S8448x2048 : Shape := ⟨2, ![8448, 2048]⟩
abbrev S8192x2048 : Shape := ⟨2, ![8192, 2048]⟩
abbrev S512x8192 : Shape := ⟨2, ![512, 8192]⟩
abbrev S1x8192x512 : Shape := ⟨3, ![1, 8192, 512]⟩
abbrev S512x512 : Shape := ⟨2, ![512, 512]⟩
abbrev S8192x512 : Shape := ⟨2, ![8192, 512]⟩

abbrev nBuf : Space → Nat
  | .hbm => 5
  | .vmem => 8
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S2x8192x2048, .bf16⟩
  | .hbm, ⟨4, _⟩ => ⟨S8192x2048, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== YPromptRefIdeal.lean ====
abbrev S8448x8192 : Shape := ⟨2, ![8448, 8192]⟩
abbrev S2x8192x2048 : Shape := ⟨3, ![2, 8192, 2048]⟩
abbrev S8448x2048 : Shape := ⟨2, ![8448, 2048]⟩
abbrev S8192x2048 : Shape := ⟨2, ![8192, 2048]⟩
abbrev S8192x8192 : Shape := ⟨2, ![8192, 8192]⟩
abbrev S1x8192x2048 : Shape := ⟨3, ![1, 8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S8192x2048, .f32⟩
  | .hbm, ⟨4, _⟩ => ⟨S8192x8192, .bf16⟩
  | .hbm, ⟨5, _⟩ => ⟨S8192x8192, .f32⟩
  | .hbm, ⟨6, _⟩ => ⟨S1x8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== YSample.lean ====
abbrev S8448x8192 : Shape := ⟨2, ![8448, 8192]⟩
abbrev S2x8192x2048 : Shape := ⟨3, ![2, 8192, 2048]⟩
abbrev S8448x2048 : Shape := ⟨2, ![8448, 2048]⟩
abbrev S256x2048 : Shape := ⟨2, ![256, 2048]⟩
abbrev S256x8192 : Shape := ⟨2, ![256, 8192]⟩
abbrev S1x8192x512 : Shape := ⟨3, ![1, 8192, 512]⟩
abbrev S256x512 : Shape := ⟨2, ![256, 512]⟩
abbrev S8192x512 : Shape := ⟨2, ![8192, 512]⟩

abbrev nBuf : Space → Nat
  | .hbm => 5
  | .vmem => 7
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S2x8192x2048, .bf16⟩
  | .hbm, ⟨4, _⟩ => ⟨S256x2048, .f32⟩
  | .local _ .vmem, ⟨0, _⟩ => ⟨S256x8192, .bf16⟩
  | .local _ .vmem, ⟨1, _⟩ => ⟨S1x8192x512, .bf16⟩
  | .local _ .vmem, ⟨2, _⟩ => ⟨S1x8192x512, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S8448x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== YSampleRefIdeal.lean ====
abbrev S8448x8192 : Shape := ⟨2, ![8448, 8192]⟩
abbrev S2x8192x2048 : Shape := ⟨3, ![2, 8192, 2048]⟩
abbrev S8448x2048 : Shape := ⟨2, ![8448, 2048]⟩
abbrev S256x2048 : Shape := ⟨2, ![256, 2048]⟩
abbrev S256x8192 : Shape := ⟨2, ![256, 8192]⟩
abbrev S1x8192x2048 : Shape := ⟨3, ![1, 8192, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x8192, .bf16⟩
  | .hbm, ⟨1, _⟩ => ⟨S2x8192x2048, .f32⟩
  | .hbm, ⟨2, _⟩ => ⟨S8448x2048, .f32⟩
  | .hbm, ⟨3, _⟩ => ⟨S256x2048, .f32⟩
  | .hbm, ⟨4, _⟩ => ⟨S256x8192, .bf16⟩
  | .hbm, ⟨5, _⟩ => ⟨S256x8192, .f32⟩
  | .hbm, ⟨6, _⟩ => ⟨S1x8192x2048, .f32⟩
  | .hbm, ⟨7, _⟩ => ⟨S8192x2048, .f32⟩
  | .hbm, ⟨8, _⟩ => ⟨S256x2048, .f32⟩
  | .hbm, ⟨9, _⟩ => ⟨S256x2048, .f32⟩
  | _, _ => ⟨S8448x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== PrepP.lean ====
abbrev S8448x8192 : Shape := ⟨2, ![8448, 8192]⟩
abbrev S8448x128 : Shape := ⟨2, ![8448, 128]⟩
abbrev S128 : Shape := ⟨1, ![128]⟩
abbrev S16 : Shape := ⟨1, ![16]⟩
abbrev S_ : Shape := ⟨0, ![]⟩
abbrev S1x128 : Shape := ⟨2, ![1, 128]⟩
abbrev S1x16 : Shape := ⟨2, ![1, 16]⟩
abbrev S8192x2048 : Shape := ⟨2, ![8192, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S8192x16 : Shape := ⟨2, ![8192, 16]⟩

abbrev nBuf : Space → Nat
  | .hbm => 20
  | .vmem => 23
  | .smem => 0
  | _ => 0

abbrev bufTy : (tb : Table) → Fin (tcTables nBuf tb) → BufTy
  | .hbm, ⟨0, _⟩ => ⟨S8448x8192, .f32⟩
  | .hbm, ⟨1, _⟩ => ⟨S8448x128, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S_, .f32⟩
  | .hbm, ⟨6, _⟩ => ⟨S1x128, .f32⟩
  | .hbm, ⟨7, _⟩ => ⟨S1x16, .f32⟩
  | .hbm, ⟨8, _⟩ => ⟨S_, .i32⟩
  | .hbm, ⟨9, _⟩ => ⟨S_, .i32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x2048, .f32⟩
  | .hbm, ⟨17, _⟩ => ⟨S8192x2048, .bf16⟩
  | .hbm, ⟨18, _⟩ => ⟨S8192x128, .f32⟩
  | .hbm, ⟨19, _⟩ => ⟨S8192x16, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | .local _ .vmem, ⟨21, _⟩ => ⟨S256x128, .f32⟩
  | .local _ .vmem, ⟨22, _⟩ => ⟨S256x128, .f32⟩
  | _, _ => ⟨S8448x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c2_i32 : BitVec 32 := 2#32
  let c0_i32_0 : BitVec 32 := 0#32
  ![v0.toNat, c2_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PrepPIdeal.lean ====
variable {F : FTy → Type} [FloatOps F] [Named F]
def κ : String → Option EReal := fun
  | "qscale" => some (((Real.sqrt 128)⁻¹ * (Real.log 2)⁻¹ : ℝ) : EReal)
  | _ => none
-- ==== PrepPRefIdeal.lean ====
abbrev S8448x8192 : Shape := ⟨2, ![8448, 8192]⟩
abbrev S8448x128 : Shape := ⟨2, ![8448, 128]⟩
abbrev S128 : Shape := ⟨1, ![128]⟩
abbrev S16 : Shape := ⟨1, ![16]⟩
abbrev S8192x8192 : Shape := ⟨2, ![8192, 8192]⟩
abbrev S8192x128 : Shape := ⟨2, ![8192, 128]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S1x16 : Shape := ⟨2, ![1, 16]⟩

abbrev nBuf : Space → Nat
  | .hbm => 76
  | .vmem => 0
  | .smem => 0
  | _ => 0

abbrev bufTy : (tb : Table) → Fin (tcTables nBuf tb) → BufTy
  | .hbm, ⟨0, _⟩ => ⟨S8448x8192, .f32⟩
  | .hbm, ⟨1, _⟩ => ⟨S8448x128, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S8192x8192, .f32⟩
  | .hbm, ⟨6, _⟩ => ⟨S8192x128, .f32⟩
  | .hbm, ⟨7, _⟩ => ⟨S8192x2048, .f32⟩
  | .hbm, ⟨8, _⟩ => ⟨S8192x16x128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S1x1x128, .f32⟩
  | .hbm, ⟨23, _⟩ => ⟨S8192x16x128, .f32⟩
  | .hbm, ⟨24, _⟩ => ⟨S8192x16x128, .f32⟩
  | .hbm, ⟨25, _⟩ => ⟨S8192x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x16x128, .f32⟩
  | .hbm, ⟨35, _⟩ => ⟨S8192x16x128, .f32⟩
  | .hbm, ⟨36, _⟩ => ⟨S_, .f32⟩
  | .hbm, ⟨37, _⟩ => ⟨S8192x16, .f32⟩
  | .hbm, ⟨38, _⟩ => ⟨S8192x16x1, .f32⟩
  | .hbm, ⟨39, _⟩ => ⟨S_, .f32⟩
  | .hbm, ⟨40, _⟩ => ⟨S8192x16x1, .f32⟩
  | .hbm, ⟨41, _⟩ => ⟨S8192x16x1, .f32⟩
  | .hbm, ⟨42, _⟩ => ⟨S_, .f32⟩
  | .hbm, ⟨43, _⟩ => ⟨S8192x16x1, .f32⟩
  | .hbm, ⟨44, _⟩ => ⟨S8192x16x1, .f32⟩
  | .hbm, ⟨45, _⟩ => ⟨S8192x16x1, .f32⟩
  | .hbm, ⟨46, _⟩ => ⟨S8192x16x128, .f32⟩
  | .hbm, ⟨47, _⟩ => ⟨S8192x16x128, .f32⟩
  | .hbm, ⟨48, _⟩ => ⟨S1x1x128, .f32⟩
  | .hbm, ⟨49, _⟩ => ⟨S8192x16x128, .f32⟩
  | .hbm, ⟨50, _⟩ => ⟨S8192x16x128, .f32⟩
  | .hbm, ⟨51, _⟩ => ⟨S8192x2048, .f32⟩
  | .hbm, ⟨52, _⟩ => ⟨S8192x2048, .f32⟩
  | .hbm, ⟨53, _⟩ => ⟨S8192x16, .f32⟩
  | .hbm, ⟨54, _⟩ => ⟨S1x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S_, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .i1⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x2048, .bf16⟩
  | .hbm, ⟨74, _⟩ => ⟨S8192x2048, .bf16⟩
  | .hbm, ⟨75, _⟩ => ⟨S8192x2048, .bf16⟩
  | _, _ => ⟨S8448x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== PrepS.lean ====
abbrev S8448x8192 : Shape := ⟨2, ![8448, 8192]⟩
abbrev S8448x128 : Shape := ⟨2, ![8448, 128]⟩
abbrev S128 : Shape := ⟨1, ![128]⟩
abbrev S16 : Shape := ⟨1, ![16]⟩
abbrev S_ : Shape := ⟨0, ![]⟩
abbrev S1x128 : Shape := ⟨2, ![1, 128]⟩
abbrev S1x16 : Shape := ⟨2, ![1, 16]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x16 : Shape := ⟨2, ![256, 16]⟩

abbrev nBuf : Space → Nat
  | .hbm => 20
  | .vmem => 13
  | .smem => 0
  | _ => 0

abbrev bufTy : (tb : Table) → Fin (tcTables nBuf tb) → BufTy
  | .hbm, ⟨0, _⟩ => ⟨S8448x8192, .f32⟩
  | .hbm, ⟨1, _⟩ => ⟨S8448x128, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S_, .f32⟩
  | .hbm, ⟨6, _⟩ => ⟨S1x128, .f32⟩
  | .hbm, ⟨7, _⟩ => ⟨S1x16, .f32⟩
  | .hbm, ⟨8, _⟩ => ⟨S_, .i32⟩
  | .hbm, ⟨9, _⟩ => ⟨S_, .i32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S256x2048, .bf16⟩
  | .hbm, ⟨14, _⟩ => ⟨S256x2048, .f32⟩
  | .hbm, ⟨15, _⟩ => ⟨S256x2048, .bf16⟩
  | .hbm, ⟨16, _⟩ => ⟨S256x2048, .f32⟩
  | .hbm, ⟨17, _⟩ => ⟨S256x2048, .bf16⟩
  | .hbm, ⟨18, _⟩ => ⟨S256x128, .f32⟩
  | .hbm, ⟨19, _⟩ => ⟨S256x16, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S256x2048, .bf16⟩
  | .local _ .vmem, ⟨8, _⟩ => ⟨S256x2048, .f32⟩
  | .local _ .vmem, ⟨9, _⟩ => ⟨S256x2048, .bf16⟩
  | .local _ .vmem, ⟨10, _⟩ => ⟨S256x2048, .f32⟩
  | .local _ .vmem, ⟨11, _⟩ => ⟨S256x2048, .bf16⟩
  | .local _ .vmem, ⟨12, _⟩ => ⟨S256x128, .f32⟩
  | _, _ => ⟨S8448x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== PrepSIdeal.lean ====
variable {F : FTy → Type} [FloatOps F] [Named F]
def κ : String → Option EReal := fun
  | "qscale" => some (((Real.sqrt 128)⁻¹ * (Real.log 2)⁻¹ : ℝ) : EReal)
  | _ => none
-- ==== PrepSRefIdeal.lean ====
abbrev S8448x8192 : Shape := ⟨2, ![8448, 8192]⟩
abbrev S8448x128 : Shape := ⟨2, ![8448, 128]⟩
abbrev S128 : Shape := ⟨1, ![128]⟩
abbrev S16 : Shape := ⟨1, ![16]⟩
abbrev S256x8192 : Shape := ⟨2, ![256, 8192]⟩
abbrev S256x128 : Shape := ⟨2, ![256, 128]⟩
abbrev S256x2048 : Shape := ⟨2, ![256, 2048]⟩
abbrev S256x16x128 : Shape := ⟨3, ![256, 16, 128]⟩
abbrev S_ : Shape := ⟨0, ![]⟩
abbrev S256x16 : Shape := ⟨2, ![256, 16]⟩
abbrev S256x16x1 : Shape := ⟨3, ![256, 16, 1]⟩
abbrev S1x1x128 : Shape := ⟨3, ![1, 1, 128]⟩
abbrev S1x16 : Shape := ⟨2, ![1, 16]⟩

abbrev nBuf : Space → Nat
  | .hbm => 76
  | .vmem => 0
  | .smem => 0
  | _ => 0

abbrev bufTy : (tb : Table) → Fin (tcTables nBuf tb) → BufTy
  | .hbm, ⟨0, _⟩ => ⟨S8448x8192, .f32⟩
  | .hbm, ⟨1, _⟩ => ⟨S8448x128, .f32⟩
  | .hbm, ⟨2, _⟩ => ⟨S128, .f32⟩
  | .hbm, ⟨3, _⟩ => ⟨S128, .f32⟩
  | .hbm, ⟨4, _⟩ => ⟨S16, .f32⟩
  | .hbm, ⟨5, _⟩ => ⟨S256x8192, .f32⟩
  | .hbm, ⟨6, _⟩ => ⟨S256x128, .f32⟩
  | .hbm, ⟨7, _⟩ => ⟨S256x2048, .f32⟩
  | .hbm, ⟨8, _⟩ => ⟨S256x16x128, .f32⟩
  | .hbm, ⟨9, _⟩ => ⟨S256x16x128, .f32⟩
  | .hbm, ⟨10, _⟩ => ⟨S_, .f32⟩
  | .hbm, ⟨11, _⟩ => ⟨S256x16, .f32⟩
  | .hbm, ⟨12, _⟩ => ⟨S256x16x1, .f32⟩
  | .hbm, ⟨13, _⟩ => ⟨S_, .f32⟩
  | .hbm, ⟨14, _⟩ => ⟨S256x16x1, .f32⟩
  | .hbm, ⟨15, _⟩ => ⟨S256x16x1, .f32⟩
  | .hbm, ⟨16, _⟩ => ⟨S_, .f32⟩
  | .hbm, ⟨17, _⟩ => ⟨S256x16x1, .f32⟩
  | .hbm, ⟨18, _⟩ => ⟨S256x16x1, .f32⟩
  | .hbm, ⟨19, _⟩ => ⟨S256x16x1, .f32⟩
  | .hbm, ⟨20, _⟩ => ⟨S256x16x128, .f32⟩
  | .hbm, ⟨21, _⟩ => ⟨S256x16x128, .f32⟩
  | .hbm, ⟨22, _⟩ => ⟨S1x1x128, .f32⟩
  | .hbm, ⟨23, _⟩ => ⟨S256x16x128, .f32⟩
  | .hbm, ⟨24, _⟩ => ⟨S256x16x128, .f32⟩
  | .hbm, ⟨25, _⟩ => ⟨S256x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S256x16x128, .f32⟩
  | .hbm, ⟨35, _⟩ => ⟨S256x16x128, .f32⟩
  | .hbm, ⟨36, _⟩ => ⟨S_, .f32⟩
  | .hbm, ⟨37, _⟩ => ⟨S256x16, .f32⟩
  | .hbm, ⟨38, _⟩ => ⟨S256x16x1, .f32⟩
  | .hbm, ⟨39, _⟩ => ⟨S_, .f32⟩
  | .hbm, ⟨40, _⟩ => ⟨S256x16x1, .f32⟩
  | .hbm, ⟨41, _⟩ => ⟨S256x16x1, .f32⟩
  | .hbm, ⟨42, _⟩ => ⟨S_, .f32⟩
  | .hbm, ⟨43, _⟩ => ⟨S256x16x1, .f32⟩
  | .hbm, ⟨44, _⟩ => ⟨S256x16x1, .f32⟩
  | .hbm, ⟨45, _⟩ => ⟨S256x16x1, .f32⟩
  | .hbm, ⟨46, _⟩ => ⟨S256x16x128, .f32⟩
  | .hbm, ⟨47, _⟩ => ⟨S256x16x128, .f32⟩
  | .hbm, ⟨48, _⟩ => ⟨S1x1x128, .f32⟩
  | .hbm, ⟨49, _⟩ => ⟨S256x16x128, .f32⟩
  | .hbm, ⟨50, _⟩ => ⟨S256x16x128, .f32⟩
  | .hbm, ⟨51, _⟩ => ⟨S256x2048, .f32⟩
  | .hbm, ⟨52, _⟩ => ⟨S256x2048, .f32⟩
  | .hbm, ⟨53, _⟩ => ⟨S256x16, .f32⟩
  | .hbm, ⟨54, _⟩ => ⟨S1x16, .f32⟩
  | .hbm, ⟨55, _⟩ => ⟨S256x16, .f32⟩
  | .hbm, ⟨56, _⟩ => ⟨S256x16, .f32⟩
  | .hbm, ⟨57, _⟩ => ⟨S256x16, .f32⟩
  | .hbm, ⟨58, _⟩ => ⟨S_, .f32⟩
  | .hbm, ⟨59, _⟩ => ⟨S256x16, .f32⟩
  | .hbm, ⟨60, _⟩ => ⟨S256x16, .f32⟩
  | .hbm, ⟨61, _⟩ => ⟨S256x16, .f32⟩
  | .hbm, ⟨62, _⟩ => ⟨S256x16, .f32⟩
  | .hbm, ⟨63, _⟩ => ⟨S256x16, .i1⟩
  | .hbm, ⟨64, _⟩ => ⟨S256x16, .f32⟩
  | .hbm, ⟨65, _⟩ => ⟨S256x16, .f32⟩
  | .hbm, ⟨66, _⟩ => ⟨S256x16, .f32⟩
  | .hbm, ⟨67, _⟩ => ⟨S256x16, .f32⟩
  | .hbm, ⟨68, _⟩ => ⟨S256x16, .f32⟩
  | .hbm, ⟨69, _⟩ => ⟨S256x16, .f32⟩
  | .hbm, ⟨70, _⟩ => ⟨S256x16, .f32⟩
  | .hbm, ⟨71, _⟩ => ⟨S256x16, .f32⟩
  | .hbm, ⟨72, _⟩ => ⟨S256x16, .f32⟩
  | .hbm, ⟨73, _⟩ => ⟨S256x2048, .bf16⟩
  | .hbm, ⟨74, _⟩ => ⟨S256x2048, .bf16⟩
  | .hbm, ⟨75, _⟩ => ⟨S256x2048, .bf16⟩
  | _, _ => ⟨S8448x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_call0_cst : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_v5 : Ref sig .tc := ⟨.hbm, 64, rfl⟩
abbrev main_call0_call0_v6 : Ref sig .tc := ⟨.hbm, 65, rfl⟩
abbrev main_call0_call0_v7 : Ref sig .tc := ⟨.hbm, 66, rfl⟩
abbrev main_call0_call0_v8 : Ref sig .tc := ⟨.hbm, 67, rfl⟩
abbrev main_call0_call0_v9 : Ref sig .tc := ⟨.hbm, 68, rfl⟩
abbrev main_call0_call0_v10 : Ref sig .tc := ⟨.hbm, 69, rfl⟩
abbrev main_call0_call0_v11 : Ref sig .tc := ⟨.hbm, 70, rfl⟩
abbrev main_call0_v1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== GateA.lean ====
abbrev S8448x2048 : Shape := ⟨2, ![8448, 2048]⟩
abbrev S1x2048x8224 : Shape := ⟨3, ![1, 2048, 8224]⟩
abbrev S1x8224x2048 : Shape := ⟨3, ![1, 8224, 2048]⟩
abbrev S1x32x2048 : Shape := ⟨3, ![1, 32, 2048]⟩
abbrev S_ : Shape := ⟨0, ![]⟩
abbrev S1x128x2048 : Shape := ⟨3, ![1, 128, 2048]⟩
abbrev S8448x128 : Shape := ⟨2, ![8448, 128]⟩
abbrev S1056x2048 : Shape := ⟨2, ![1056, 2048]⟩
abbrev S1056x128 : Shape := ⟨2, ![1056, 128]⟩
abbrev S128x2048 : Shape := ⟨2, ![128, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S1x8224x2048, .f32⟩
  | .hbm, ⟨3, _⟩ => ⟨S1x32x2048, .f32⟩
  | .hbm, ⟨4, _⟩ => ⟨S_, .i32⟩
  | .hbm, ⟨5, _⟩ => ⟨S_, .f32⟩
  | .hbm, ⟨6, _⟩ => ⟨S1x128x2048, .f32⟩
  | .hbm, ⟨7, _⟩ => ⟨S8448x128, .f32⟩
  | .local _ .vmem, ⟨0, _⟩ => ⟨S1056x2048, .bf16⟩
  | .local _ .vmem, ⟨1, _⟩ => ⟨S1056x2048, .bf16⟩
  | .local _ .vmem, ⟨2, _⟩ => ⟨S1x128x2048, .f32⟩
  | .local _ .vmem, ⟨3, _⟩ => ⟨S1056x128, .f32⟩
  | .local _ .vmem, ⟨4, _⟩ => ⟨S1056x128, .f32⟩
  | .local _ .vmem, ⟨5, _⟩ => ⟨S128x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateAIdeal.lean ====
abbrev S8448x2048 : Shape := ⟨2, ![8448, 2048]⟩
abbrev S1x2048x8224 : Shape := ⟨3, ![1, 2048, 8224]⟩
abbrev S1x8224x2048 : Shape := ⟨3, ![1, 8224, 2048]⟩
abbrev S1x32x2048 : Shape := ⟨3, ![1, 32, 2048]⟩
abbrev S_ : Shape := ⟨0, ![]⟩
abbrev S1x128x2048 : Shape := ⟨3, ![1, 128, 2048]⟩
abbrev S8448x128 : Shape := ⟨2, ![8448, 128]⟩
abbrev S1056x2048 : Shape := ⟨2, ![1056, 2048]⟩
abbrev S1056x128 : Shape := ⟨2, ![1056, 128]⟩
abbrev S128x2048 : Shape := ⟨2, ![128, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S1x8224x2048, .f32⟩
  | .hbm, ⟨3, _⟩ => ⟨S1x32x2048, .f32⟩
  | .hbm, ⟨4, _⟩ => ⟨S_, .i32⟩
  | .hbm, ⟨5, _⟩ => ⟨S_, .f32⟩
  | .hbm, ⟨6, _⟩ => ⟨S1x128x2048, .f32⟩
  | .hbm, ⟨7, _⟩ => ⟨S8448x128, .f32⟩
  | .local _ .vmem, ⟨0, _⟩ => ⟨S1056x2048, .bf16⟩
  | .local _ .vmem, ⟨1, _⟩ => ⟨S1056x2048, .bf16⟩
  | .local _ .vmem, ⟨2, _⟩ => ⟨S1x128x2048, .f32⟩
  | .local _ .vmem, ⟨3, _⟩ => ⟨S1056x128, .f32⟩
  | .local _ .vmem, ⟨4, _⟩ => ⟨S1056x128, .f32⟩
  | .local _ .vmem, ⟨5, _⟩ => ⟨S128x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateARefIdeal.lean ====
abbrev S8448x2048 : Shape := ⟨2, ![8448, 2048]⟩
abbrev S1x2048x8224 : Shape := ⟨3, ![1, 2048, 8224]⟩
abbrev S1x2048x32 : Shape := ⟨3, ![1, 2048, 32]⟩
abbrev S2048x32 : Shape := ⟨2, ![2048, 32]⟩
abbrev S8448x32 : Shape := ⟨2, ![8448, 32]⟩
abbrev S_ : Shape := ⟨0, ![]⟩
abbrev S8448x128 : Shape := ⟨2, ![8448, 128]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S8448x2048, .f32⟩
  | .hbm, ⟨3, _⟩ => ⟨S1x2048x32, .f32⟩
  | .hbm, ⟨4, _⟩ => ⟨S2048x32, .f32⟩
  | .hbm, ⟨5, _⟩ => ⟨S8448x32, .f32⟩
  | .hbm, ⟨6, _⟩ => ⟨S_, .i32⟩
  | .hbm, ⟨7, _⟩ => ⟨S_, .f32⟩
  | .hbm, ⟨8, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateB.lean ====
abbrev S8448x2048 : Shape := ⟨2, ![8448, 2048]⟩
abbrev S1x2048x8208 : Shape := ⟨3, ![1, 2048, 8208]⟩
abbrev S1x8208x2048 : Shape := ⟨3, ![1, 8208, 2048]⟩
abbrev S1x16x2048 : Shape := ⟨3, ![1, 16, 2048]⟩
abbrev S_ : Shape := ⟨0, ![]⟩
abbrev S1x128x2048 : Shape := ⟨3, ![1, 128, 2048]⟩
abbrev S8448x128 : Shape := ⟨2, ![8448, 128]⟩
abbrev S1056x2048 : Shape := ⟨2, ![1056, 2048]⟩
abbrev S1056x128 : Shape := ⟨2, ![1056, 128]⟩
abbrev S128x2048 : Shape := ⟨2, ![128, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S1x2048x8208, .f32⟩
  | .hbm, ⟨2, _⟩ => ⟨S1x8208x2048, .f32⟩
  | .hbm, ⟨3, _⟩ => ⟨S1x16x2048, .f32⟩
  | .hbm, ⟨4, _⟩ => ⟨S_, .i32⟩
  | .hbm, ⟨5, _⟩ => ⟨S_, .f32⟩
  | .hbm, ⟨6, _⟩ => ⟨S1x128x2048, .f32⟩
  | .hbm, ⟨7, _⟩ => ⟨S8448x128, .f32⟩
  | .local _ .vmem, ⟨0, _⟩ => ⟨S1056x2048, .bf16⟩
  | .local _ .vmem, ⟨1, _⟩ => ⟨S1056x2048, .bf16⟩
  | .local _ .vmem, ⟨2, _⟩ => ⟨S1x128x2048, .f32⟩
  | .local _ .vmem, ⟨3, _⟩ => ⟨S1056x128, .f32⟩
  | .local _ .vmem, ⟨4, _⟩ => ⟨S1056x128, .f32⟩
  | .local _ .vmem, ⟨5, _⟩ => ⟨S128x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateBRefIdeal.lean ====
abbrev S8448x2048 : Shape := ⟨2, ![8448, 2048]⟩
abbrev S1x2048x8208 : Shape := ⟨3, ![1, 2048, 8208]⟩
abbrev S1x2048x16 : Shape := ⟨3, ![1, 2048, 16]⟩
abbrev S2048x16 : Shape := ⟨2, ![2048, 16]⟩
abbrev S8448x16 : Shape := ⟨2, ![8448, 16]⟩
abbrev S_ : Shape := ⟨0, ![]⟩
abbrev S8448x128 : Shape := ⟨2, ![8448, 128]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8208, .f32⟩
  | .hbm, ⟨2, _⟩ => ⟨S8448x2048, .f32⟩
  | .hbm, ⟨3, _⟩ => ⟨S1x2048x16, .f32⟩
  | .hbm, ⟨4, _⟩ => ⟨S2048x16, .f32⟩
  | .hbm, ⟨5, _⟩ => ⟨S8448x16, .f32⟩
  | .hbm, ⟨6, _⟩ => ⟨S_, .i32⟩
  | .hbm, ⟨7, _⟩ => ⟨S_, .f32⟩
  | .hbm, ⟨8, _⟩ => ⟨S8448x128, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Cumsum.lean ====
abbrev S4x2048x128 : Shape := ⟨3, ![4, 2048, 128]⟩
abbrev S1x256x128 : Shape := ⟨3, ![1, 256, 128]⟩
abbrev S1x128 : Shape := ⟨2, ![1, 128]⟩
abbrev S256x128 : Shape := ⟨2, ![256, 128]⟩
abbrev S256x256 : Shape := ⟨2, ![256, 256]⟩

abbrev nBuf : Space → Nat
  | .hbm => 2
  | .vmem => 5
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CumsumRefIdeal.lean ====
abbrev S4x2048x128 : Shape := ⟨3, ![4, 2048, 128]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S_, .f32⟩
  | .hbm, ⟨2, _⟩ => ⟨S_, .f32⟩
  | .hbm, ⟨3, _⟩ => ⟨S4x2048x128, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Conv.lean ====
abbrev S8448x2048 : Shape := ⟨2, ![8448, 2048]⟩
abbrev S1x2048x8224 : Shape := ⟨3, ![1, 2048, 8224]⟩
abbrev S1x8224x2048 : Shape := ⟨3, ![1, 8224, 2048]⟩
abbrev S8448x8192 : Shape := ⟨2, ![8448, 8192]⟩
abbrev S1056x2048 : Shape := ⟨2, ![1056, 2048]⟩
abbrev S1x1024x2048 : Shape := ⟨3, ![1, 1024, 2048]⟩
abbrev S1056x1024 : Shape := ⟨2, ![1056, 1024]⟩
abbrev S1024x2048 : Shape := ⟨2, ![1024, 2048]⟩
abbrev S3x6144 : Shape := ⟨2, ![3, 6144]⟩
abbrev S1x3x6144 : Shape := ⟨3, ![1, 3, 6144]⟩
abbrev S4x3x6144 : Shape := ⟨3, ![4, 3, 6144]⟩
abbrev S256x8192 : Shape := ⟨2, ![256, 8192]⟩
abbrev S32x8x8192 : Shape := ⟨3, ![32, 8, 8192]⟩
abbrev S32x3x6144 : Shape := ⟨3, ![32, 3, 6144]⟩

abbrev nBuf : Space → Nat
  | .hbm => 16
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S1x8224x2048, .f32⟩
  | .hbm, ⟨3, _⟩ => ⟨S8448x8192, .f32⟩
  | .hbm, ⟨4, _⟩ => ⟨S3x6144, .f32⟩
  | .hbm, ⟨5, _⟩ => ⟨S3x6144, .f32⟩
  | .hbm, ⟨6, _⟩ => ⟨S3x6144, .f32⟩
  | .hbm, ⟨7, _⟩ => ⟨S3x6144, .f32⟩
  | .hbm, ⟨8, _⟩ => ⟨S1x3x6144, .f32⟩
  | .hbm, ⟨9, _⟩ => ⟨S1x3x6144, .f32⟩
  | .hbm, ⟨10, _⟩ => ⟨S1x3x6144, .f32⟩
  | .hbm, ⟨11, _⟩ => ⟨S1x3x6144, .f32⟩
  | .hbm, ⟨12, _⟩ => ⟨S4x3x6144, .f32⟩
  | .hbm, ⟨13, _⟩ => ⟨S256x8192, .f32⟩
  | .hbm, ⟨14, _⟩ => ⟨S32x8x8192, .f32⟩
  | .hbm, ⟨15, _⟩ => ⟨S32x3x6144, .f32⟩
  | .local _ .vmem, ⟨0, _⟩ => ⟨S1056x2048, .bf16⟩
  | .local _ .vmem, ⟨1, _⟩ => ⟨S1056x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1056x1024, .f32⟩
  | .local _ .vmem, ⟨5, _⟩ => ⟨S1056x1024, .f32⟩
  | .local _ .vmem, ⟨6, _⟩ => ⟨S1024x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvRefIdeal.lean ====
abbrev S8448x2048 : Shape := ⟨2, ![8448, 2048]⟩
abbrev S1x2048x8224 : Shape := ⟨3, ![1, 2048, 8224]⟩
abbrev S1x2048x6144 : Shape := ⟨3, ![1, 2048, 6144]⟩
abbrev S2048x6144 : Shape := ⟨2, ![2048, 6144]⟩
abbrev S8448x6144 : Shape := ⟨2, ![8448, 6144]⟩
abbrev S8192x6144 : Shape := ⟨2, ![8192, 6144]⟩
abbrev S4x2048x6144 : Shape := ⟨3, ![4, 2048, 6144]⟩
abbrev S4x3x6144 : Shape := ⟨3, ![4, 3, 6144]⟩
abbrev S256x6144 : Shape := ⟨2, ![256, 6144]⟩
abbrev S32x8x6144 : Shape := ⟨3, ![32, 8, 6144]⟩
abbrev S32x3x6144 : Shape := ⟨3, ![32, 3, 6144]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S1x2048x8224, .f32⟩
  | .hbm, ⟨2, _⟩ => ⟨S8448x2048, .f32⟩
  | .hbm, ⟨3, _⟩ => ⟨S1x2048x6144, .f32⟩
  | .hbm, ⟨4, _⟩ => ⟨S2048x6144, .f32⟩
  | .hbm, ⟨5, _⟩ => ⟨S8448x6144, .f32⟩
  | .hbm, ⟨6, _⟩ => ⟨S8192x6144, .f32⟩
  | .hbm, ⟨7, _⟩ => ⟨S4x2048x6144, .f32⟩
  | .hbm, ⟨8, _⟩ => ⟨S4x3x6144, .f32⟩
  | .hbm, ⟨9, _⟩ => ⟨S256x6144, .f32⟩
  | .hbm, ⟨10, _⟩ => ⟨S32x8x6144, .f32⟩
  | .hbm, ⟨11, _⟩ => ⟨S32x3x6144, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Norm.lean ====
abbrev S8448x2048 : Shape := ⟨2, ![8448, 2048]⟩
abbrev S2048 : Shape := ⟨1, ![2048]⟩
abbrev S1x2048 : Shape := ⟨2, ![1, 2048]⟩
abbrev S768x2048 : Shape := ⟨2, ![768, 2048]⟩
abbrev S768 : Shape := ⟨1, ![768]⟩
abbrev S768x1 : Shape := ⟨2, ![768, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S1x2048, .f32⟩
  | .hbm, ⟨3, _⟩ => ⟨S8448x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S768x2048, .bf16⟩
  | .local _ .vmem, ⟨4, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8448x2048 : Shape := ⟨2, ![8448, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048, .f32⟩
  | .hbm, ⟨2, _⟩ => ⟨S8448x2048, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x2048, .f32⟩
  | .hbm, ⟨14, _⟩ => ⟨S8448x2048, .f32⟩
  | .hbm, ⟨15, _⟩ => ⟨S1x2048, .f32⟩
  | .hbm, ⟨16, _⟩ => ⟨S8448x2048, .f32⟩
  | .hbm, ⟨17, _⟩ => ⟨S8448x2048, .f32⟩
  | .hbm, ⟨18, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Up.lean ====
module

public import proofs.«01_k».proof.Proof.Gen.UpIdeal.Frame
public import proofs.«01_k».proof.Proof.Gen.UpRefIdeal.Run
public import Idealize.ShloMosaic.Lib.Pipeline.ValueKit
public import Idealize.ShloMosaic.Lib.Pipeline.ReadBack

@[expose] public section

set_option maxRecDepth 16384

/-! The up-projection with its squared ReLU: the tiled product, whose weight block is kept in scratch while the
    row tiles pass by, is the plain product. -/

noncomputable section

open Idealize.ShloMosaic Idealize.ShloMosaic.TcCoe Idealize.SL.Sem
open Idealize.ShloMosaic.Pipeline (Dat)

namespace Cert.UpIdeal.Product

open Cert.UpIdeal Cert.UpIdeal.Gen

variable (m : (ℓ : Loc nD τ sig) → Buf (Elt Ideal) ℓ)

/-- The reference's term: the product with layer 0 of the weights, negative entries cut off, squared. -/
abbrev REF (X : FVec Ideal S8448x2048 .bf16) (W : FVec Ideal S2x2048x8192 .f32) : FVec Ideal S8448x8192 .bf16 :=
  truncf .bf16 (mulf
    (maximumf (Host.dotGeneral Cert.UpRefIdeal.dot_S8448x2048_S2048x8192_S8448x8192_1_0_0_1_n_n none
        (extf .f32 X Cert.UpRefIdeal.Gen.bitsLt_bf16_f32)
        (shapeCast _ (extractStridedSlice Cert.UpRefIdeal.S1x2048x8192 ![0, 0, 0] W
          Cert.UpRefIdeal.Gen.slices_S2x2048x8192_S1x2048x8192_0_0_0) Cert.UpRefIdeal.Gen.shapeCasts_S1x2048x8192_S2048x8192))
      (broadcastInDim Cert.UpRefIdeal.S8448x8192 ![] Cert.UpRefIdeal.Gen.bcast_S_S8448x8192
        (constant Cert.UpRefIdeal.S_ .f32 0x00000000#32)))
    (maximumf (Host.dotGeneral Cert.UpRefIdeal.dot_S8448x2048_S2048x8192_S8448x8192_1_0_0_1_n_n none
        (extf .f32 X Cert.UpRefIdeal.Gen.bitsLt_bf16_f32)
        (shapeCast _ (extractStridedSlice Cert.UpRefIdeal.S1x2048x8192 ![0, 0, 0] W
          Cert.UpRefIdeal.Gen.slices_S2x2048x8192_S1x2048x8192_0_0_0) Cert.UpRefIdeal.Gen.shapeCasts_S1x2048x8192_S2048x8192))
      (broadcastInDim Cert.UpRefIdeal.S8448x8192 ![] Cert.UpRefIdeal.Gen.bcast_S_S8448x8192
        (constant Cert.UpRefIdeal.S_ .f32 0x00000000#32)))) Cert.UpRefIdeal.Gen.bitsLt_bf16_f32

/-- The windows' block indices over the grid: row tile `t % 8`, column tile `t / 8`. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Two points of one column tile read the same block of weights. -/
theorem block_eq (c : Dev nD) (s t : Fin cfg0.N) (h : s.val / 8 = t.val / 8) : iblk m c 1 s = iblk m c 1 t := by
  funext y
  blk_ext [iblk, V, idx s, idx t]

/-- The scratch holds the cast weights of the column tile being worked on. -/
theorem scratch (c : Dev nD) : ∀ (n : ℕ) (h : n < cfg0.N),
    (outsAt0 m c n h).2 = k0_pay1 (F := Ideal) (iblk m c 1 ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (ih (Nat.lt_of_succ_lt h)).trans ?_
      rw [block_eq m c ⟨n, Nat.lt_of_succ_lt h⟩ ⟨n + 1, h⟩ (by dsimp only; omega)]

/-- One tile of the result: what a point stores is the reference at the place of the array the block lies at. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  pointwise [k0_pay2, k0_pay1, REF]
  blk_point [iblk, V, idx t]

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch,
      block_eq m c ⟨t.val - 1, Nat.lt_of_le_of_lt (Nat.sub_le _ _) t.isLt⟩ t (by dsimp only; omega)]
    frame_out
    rw [read_unread_whole]
    exact point m c t y

end Cert.UpIdeal.Product

end
-- ==== Proof.Down.lean ====
module

public import proofs.«01_k».proof.Proof.Gen.DownIdeal.Frame
public import proofs.«01_k».proof.Proof.Gen.DownRefIdeal.Run
public import Idealize.ShloMosaic.Lib.Pipeline.ValueKit

@[expose] public section

set_option maxRecDepth 16384

/-! The down-projection added to the residual: every tile contracts the whole hidden axis at once. -/

noncomputable section

open Idealize.ShloMosaic Idealize.ShloMosaic.TcCoe Idealize.SL.Sem
open Idealize.ShloMosaic.Pipeline (Dat)

namespace Cert.DownIdeal.Product

open Cert.DownIdeal Cert.DownIdeal.Gen

variable (m : (ℓ : Loc nD τ sig) → Buf (Elt Ideal) ℓ)

/-- The reference's term: the residual plus the product with layer 0 of the weights. -/
abbrev REF (A : FVec Ideal S8448x8192 .bf16) (W : FVec Ideal S2x8192x2048 .f32) (X : FVec Ideal S8448x2048 .f32) :
    FVec Ideal S8448x2048 .f32 :=
  addf X (Host.dotGeneral Cert.DownRefIdeal.dot_S8448x8192_S8192x2048_S8448x2048_1_0_0_1_n_n none
    (extf .f32 A Cert.DownRefIdeal.Gen.bitsLt_bf16_f32)
    (shapeCast _ (extractStridedSlice Cert.DownRefIdeal.S1x8192x2048 ![0, 0, 0] W
      Cert.DownRefIdeal.Gen.slices_S2x8192x2048_S1x8192x2048_0_0_0) Cert.DownRefIdeal.Gen.shapeCasts_S1x8192x2048_S8192x2048))

/-- The windows' block indices over the grid: row tile `t / 4`, column tile `t % 4`. -/
theorem idx : ∀ t : Fin cfg0.N, win0_0.index t = ![t.val / 4, 0] ∧ win0_1.index t = ![0, 0, t.val % 4]
    ∧ win0_2.index t = ![t.val / 4, t.val % 4] ∧ win0_3.index t = ![t.val / 4, t.val % 4] :=
  (by decide +kernel : ∀ t : Fin grid0.N, _)

/-- One tile of the result. -/
theorem point (c : Dev nD) (t : Fin cfg0.N) (y) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  rw [add_comm]
  blk_point [iblk, V, idx t]

/-- The result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.DownIdeal.Product

end
-- ==== Proof.InA.lean ====
module

public import proofs.«01_k».proof.Proof.Gen.InAIdeal.Frame
public import proofs.«01_k».proof.Proof.Gen.InARefIdeal.Run
public import Idealize.ShloMosaic.Lib.Pipeline.ValueKit
public import Idealize.ShloMosaic.Lib.Pipeline.ReadBack

@[expose] public section

set_option maxRecDepth 16384

/-! The first mixer's in-projection: the product with the transposed weights, tile by tile, is the plain product. -/

noncomputable section

open Idealize.ShloMosaic Idealize.ShloMosaic.TcCoe Idealize.SL.Sem
open Idealize.ShloMosaic.Pipeline (Dat)

namespace Cert.InAIdeal.Product

open Cert.InAIdeal Cert.InAIdeal.Gen

variable (m : (ℓ : Loc nD τ sig) → Buf (Elt Ideal) ℓ)

/-- The reference's term: the product with the first 8192 columns of the weights. -/
abbrev REF (X : FVec Ideal S8448x2048 .bf16) (W : FVec Ideal S1x2048x8224 .f32) : FVec Ideal S8448x8192 .f32 :=
  Host.dotGeneral Cert.InARefIdeal.dot_S8448x2048_S2048x8192_S8448x8192_1_0_0_1_n_n none
    (extf .f32 X Cert.InARefIdeal.Gen.bitsLt_bf16_f32)
    (shapeCast _ (extractStridedSlice Cert.InARefIdeal.S1x2048x8192 ![0, 0, 0] W
      Cert.InARefIdeal.Gen.slices_S1x2048x8224_S1x2048x8192_0_0_0) Cert.InARefIdeal.Gen.shapeCasts_S1x2048x8192_S2048x8192)

/-- The windows' block indices over the grid: row tile `t % 8`, column tile `t / 8`. -/
theorem idx : ∀ t : Fin cfg0.N, win0_0.index t = ![t.val % 8, 0] ∧ win0_1.index t = ![0, t.val / 8, 0]
    ∧ win0_2.index t = ![t.val % 8, t.val / 8] :=
  (by decide +kernel : ∀ t : Fin grid0.N, _)

/-- A block of weights at an index of it: the weights' own entry, row and column exchanged. -/
theorem weights (c : Dev nD) (t : Fin cfg0.N) (j : Fin 1024) (k : Fin 2048) (h : t.val / 8 * 1024 + j.val < 8224) :
    (show FVec Ideal S1x1024x2048 .f32 from X0_1 m c t) (ix3 0 j k)
      = (show FVec Ideal S1x2048x8224 .f32 from m ((c : Thread nD τ).loc main_arg1)) (ix3 0 k ⟨t.val / 8 * 1024 + j.val, h⟩) := by
  show X0_1 m c t (ix3 0 j k) = _
  unfold X0_1 Pipeline.Window.fill
  rw [dif_pos (moved0_1 t _)]
  blk_simp [iblk, idx t]
  entry_read
  pointwise
  blk_ext [idx t]

/-- Two points of one column tile read the same block of weights. -/
theorem block_eq (c : Dev nD) (s t : Fin cfg0.N) (h : s.val / 8 = t.val / 8) : X0_1 m c s = X0_1 m c t := by
  funext y
  have hs : s.val < 64 := s.isLt
  have ht : t.val < 64 := t.isLt
  obtain ⟨u, j, k, rfl⟩ : ∃ (u : Fin 1) (j : Fin 1024) (k : Fin 2048), y = (ix3 u j k : S1x1024x2048.Idx) :=
    ⟨y 0, y 1, y 2, eq_ix3 y⟩
  obtain rfl : u = 0 := Subsingleton.elim _ _
  refine (weights m c s j k (by omega)).trans (Eq.trans ?_ (weights m c t j k (by omega)).symm)
  simp only [h]

/-- The scratch holds the cast weights of the column tile being worked on. -/
theorem scratch (c : Dev nD) : ∀ (n : ℕ) (h : n < cfg0.N),
    (outsAt0 m c n h).2 = k0_pay1 (F := Ideal) (X0_1 m c ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (ih (Nat.lt_of_succ_lt h)).trans ?_
      rw [block_eq m c ⟨n, Nat.lt_of_succ_lt h⟩ ⟨n + 1, h⟩ (by dsimp only; omega)]

/-- One tile of the result, from any block of weights that reads as it should. -/
theorem tile (X : FVec Ideal S1056x2048 .bf16) (B : FVec Ideal S1x1024x2048 .f32) (r : Fin 1056) (j : Fin 1024) :
    k0_pay2 (F := Ideal) X (k0_pay1 (F := Ideal) B) (ix2 r j) = ∑ k : Fin 2048, X (ix2 r k) * B (ix3 0 j k) := by
  pointwise [k0_pay2, k0_pay1]

/-- The reference's term at an index. -/
theorem ref_at (X : FVec Ideal S8448x2048 .bf16) (W : FVec Ideal S1x2048x8224 .f32) (r : Fin 8448) (j : Fin 8192) :
    REF X W (ix2 r j) = ∑ k : Fin 2048, X (ix2 r k) * W (ix3 0 k ⟨j.val, by omega⟩) := by
  pointwise [REF]

/-- What a point stores is the reference at the place of the array the block lies at. -/
theorem point (c : Dev nD) (t : Fin cfg0.N) (y) :
    k0_pay2 (F := Ideal) (iblk m c 0 t) (k0_pay1 (F := Ideal) (X0_1 m c t)) y
      = REF (m ((c : Thread nD τ).loc main_arg0)) (m ((c : Thread nD τ).loc main_arg1)) (((cfg0.win 2).blk t).view.emb y) := by
  have ht : t.val < 64 := t.isLt
  obtain ⟨r, j, rfl⟩ : ∃ (r : Fin 1056) (j : Fin 1024), y = (ix2 r j : S1056x1024.Idx) := ⟨y 0, y 1, eq_ix2 y⟩
  refine (tile _ _ r j).trans ?_
  have he : ((cfg0.win 2).blk t).view.emb (ix2 r j : S1056x1024.Idx)
      = (ix2 ⟨t.val % 8 * 1056 + r.val, by omega⟩ ⟨t.val / 8 * 1024 + j.val, by omega⟩ : S8448x8192.Idx) := by
    blk_ext [idx t]
  rw [he]
  refine Eq.trans ?_ (ref_at _ _ _ _).symm
  refine Finset.sum_congr rfl fun k _ => ?_
  refine Ideal.mul_congr ?_ (weights m c t j k (by omega))
  blk_ext [iblk, V, idx t]

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch,
      block_eq m c ⟨t.val - 1, Nat.lt_of_le_of_lt (Nat.sub_le _ _) t.isLt⟩ t (by dsimp only; omega)]
    frame_out
    rw [read_unread_whole]
    exact point m c t y

end Cert.InAIdeal.Product

end
-- ==== Proof.InB.lean ====
module

public import proofs.«01_k».proof.Proof.Gen.InBIdeal.Frame
public import proofs.«01_k».proof.Proof.Gen.InBRefIdeal.Run
public import Idealize.ShloMosaic.Lib.Pipeline.ValueKit
public import Idealize.ShloMosaic.Lib.Pipeline.ReadBack

@[expose] public section

set_option maxRecDepth 16384

/-! The second mixer's in-projection: the product with the transposed weights, tile by tile, is the plain product. -/

noncomputable section

open Idealize.ShloMosaic Idealize.ShloMosaic.TcCoe Idealize.SL.Sem
open Idealize.ShloMosaic.Pipeline (Dat)

namespace Cert.InBIdeal.Product

open Cert.InBIdeal Cert.InBIdeal.Gen

variable (m : (ℓ : Loc nD τ sig) → Buf (Elt Ideal) ℓ)

/-- The reference's term: the product with the first 8192 columns of the weights. -/
abbrev REF (X : FVec Ideal S8448x2048 .bf16) (W : FVec Ideal S1x2048x8208 .f32) : FVec Ideal S8448x8192 .f32 :=
  Host.dotGeneral Cert.InBRefIdeal.dot_S8448x2048_S2048x8192_S8448x8192_1_0_0_1_n_n none
    (extf .f32 X Cert.InBRefIdeal.Gen.bitsLt_bf16_f32)
    (shapeCast _ (extractStridedSlice Cert.InBRefIdeal.S1x2048x8192 ![0, 0, 0] W
      Cert.InBRefIdeal.Gen.slices_S1x2048x8208_S1x2048x8192_0_0_0) Cert.InBRefIdeal.Gen.shapeCasts_S1x2048x8192_S2048x8192)

/-- The windows' block indices over the grid: row tile `t % 8`, column tile `t / 8`. -/
theorem idx : ∀ t : Fin cfg0.N, win0_0.index t = ![t.val % 8, 0] ∧ win0_1.index t = ![0, t.val / 8, 0]
    ∧ win0_2.index t = ![t.val % 8, t.val / 8] :=
  (by decide +kernel : ∀ t : Fin grid0.N, _)

/-- A block of weights at an index of it: the weights' own entry, row and column exchanged. -/
theorem weights (c : Dev nD) (t : Fin cfg0.N) (j : Fin 1024) (k : Fin 2048) (h : t.val / 8 * 1024 + j.val < 8208) :
    (show FVec Ideal S1x1024x2048 .f32 from X0_1 m c t) (ix3 0 j k)
      = (show FVec Ideal S1x2048x8208 .f32 from m ((c : Thread nD τ).loc main_arg1)) (ix3 0 k ⟨t.val / 8 * 1024 + j.val, h⟩) := by
  show X0_1 m c t (ix3 0 j k) = _
  unfold X0_1 Pipeline.Window.fill
  rw [dif_pos (moved0_1 t _)]
  blk_simp [iblk, idx t]
  entry_read
  pointwise
  blk_ext [idx t]

/-- Two points of one column tile read the same block of weights. -/
theorem block_eq (c : Dev nD) (s t : Fin cfg0.N) (h : s.val / 8 = t.val / 8) : X0_1 m c s = X0_1 m c t := by
  funext y
  have hs : s.val < 64 := s.isLt
  have ht : t.val < 64 := t.isLt
  obtain ⟨u, j, k, rfl⟩ : ∃ (u : Fin 1) (j : Fin 1024) (k : Fin 2048), y = (ix3 u j k : S1x1024x2048.Idx) :=
    ⟨y 0, y 1, y 2, eq_ix3 y⟩
  obtain rfl : u = 0 := Subsingleton.elim _ _
  refine (weights m c s j k (by omega)).trans (Eq.trans ?_ (weights m c t j k (by omega)).symm)
  simp only [h]

/-- The scratch holds the cast weights of the column tile being worked on. -/
theorem scratch (c : Dev nD) : ∀ (n : ℕ) (h : n < cfg0.N),
    (outsAt0 m c n h).2 = k0_pay1 (F := Ideal) (X0_1 m c ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (ih (Nat.lt_of_succ_lt h)).trans ?_
      rw [block_eq m c ⟨n, Nat.lt_of_succ_lt h⟩ ⟨n + 1, h⟩ (by dsimp only; omega)]

/-- One tile of the result, from any block of weights that reads as it should. -/
theorem tile (X : FVec Ideal S1056x2048 .bf16) (B : FVec Ideal S1x1024x2048 .f32) (r : Fin 1056) (j : Fin 1024) :
    k0_pay2 (F := Ideal) X (k0_pay1 (F := Ideal) B) (ix2 r j) = ∑ k : Fin 2048, X (ix2 r k) * B (ix3 0 j k) := by
  pointwise [k0_pay2, k0_pay1]

/-- The reference's term at an index. -/
theorem ref_at (X : FVec Ideal S8448x2048 .bf16) (W : FVec Ideal S1x2048x8208 .f32) (r : Fin 8448) (j : Fin 8192) :
    REF X W (ix2 r j) = ∑ k : Fin 2048, X (ix2 r k) * W (ix3 0 k ⟨j.val, by omega⟩) := by
  pointwise [REF]

/-- What a point stores is the reference at the place of the array the block lies at. -/
theorem point (c : Dev nD) (t : Fin cfg0.N) (y) :
    k0_pay2 (F := Ideal) (iblk m c 0 t) (k0_pay1 (F := Ideal) (X0_1 m c t)) y
      = REF (m ((c : Thread nD τ).loc main_arg0)) (m ((c : Thread nD τ).loc main_arg1)) (((cfg0.win 2).blk t).view.emb y) := by
  have ht : t.val < 64 := t.isLt
  obtain ⟨r, j, rfl⟩ : ∃ (r : Fin 1056) (j : Fin 1024), y = (ix2 r j : S1056x1024.Idx) := ⟨y 0, y 1, eq_ix2 y⟩
  refine (tile _ _ r j).trans ?_
  have he : ((cfg0.win 2).blk t).view.emb (ix2 r j : S1056x1024.Idx)
      = (ix2 ⟨t.val % 8 * 1056 + r.val, by omega⟩ ⟨t.val / 8 * 1024 + j.val, by omega⟩ : S8448x8192.Idx) := by
    blk_ext [idx t]
  rw [he]
  refine Eq.trans ?_ (ref_at _ _ _ _).symm
  refine Finset.sum_congr rfl fun k _ => ?_
  refine Ideal.mul_congr ?_ (weights m c t j k (by omega))
  blk_ext [iblk, V, idx t]

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch,
      block_eq m c ⟨t.val - 1, Nat.lt_of_le_of_lt (Nat.sub_le _ _) t.isLt⟩ t (by dsimp only; omega)]
    frame_out
    rw [read_unread_whole]
    exact point m c t y

end Cert.InBIdeal.Product

end
-- ==== Proof.Out.lean ====
module

public import proofs.«01_k».proof.Proof.Gen.OutIdeal.Frame
public import proofs.«01_k».proof.Proof.Gen.OutRefIdeal.Run
public import Idealize.ShloMosaic.Lib.Pipeline.ValueKit
public import Idealize.ShloMosaic.Lib.Pipeline.ReadBack

@[expose] public section

set_option maxRecDepth 16384

/-! The out-projection written over the residual's prompt rows: the rows after them keep the residual. -/

noncomputable section

open Idealize.ShloMosaic Idealize.ShloMosaic.TcCoe Idealize.SL.Sem
open Idealize.ShloMosaic.Pipeline (Dat)

namespace Cert.OutIdeal.Product

open Cert.OutIdeal Cert.OutIdeal.Gen

variable (m : (ℓ : Loc nD τ sig) → Buf (Elt Ideal) ℓ)

/-- The reference's term: the residual, with the product added on its first 8192 rows. -/
abbrev REF (Y : FVec Ideal S8192x2048 .bf16) (W : FVec Ideal S1x2048x2048 .f32) (X : FVec Ideal S8448x2048 .f32) :
    FVec Ideal S8448x2048 .f32 :=
  concatenate Cert.OutRefIdeal.S8448x2048 0 [⟨Cert.OutRefIdeal.S8192x2048,
      (addf (extractStridedSlice Cert.OutRefIdeal.S8192x2048 ![0, 0] X Cert.OutRefIdeal.Gen.slices_S8448x2048_S8192x2048_0_0)
        (Host.dotGeneral Cert.OutRefIdeal.dot_S8192x2048_S2048x2048_S8192x2048_1_0_0_1_n_n none
          (extf .f32 Y Cert.OutRefIdeal.Gen.bitsLt_bf16_f32)
          (shapeCast _ W Cert.OutRefIdeal.Gen.shapeCasts_S1x2048x2048_S2048x2048)))⟩,
    ⟨Cert.OutRefIdeal.S256x2048, (extractStridedSlice Cert.OutRefIdeal.S256x2048 ![8192, 0] X
      Cert.OutRefIdeal.Gen.slices_S8448x2048_S256x2048_8192_0)⟩] Cert.OutRefIdeal.Gen.concatenates_S8192x2048_S256x2048_S8448x2048_d0

/-- The windows' block indices over the grid: row tile `t % 8`, column tile `t / 8`. -/
theorem idx : ∀ t : Fin cfg0.N, win0_0.index t = ![t.val % 8, 0] ∧ win0_1.index t = ![0, 0, t.val / 8]
    ∧ win0_2.index t = ![t.val % 8, t.val / 8] ∧ win0_3.index t = ![t.val % 8, t.val / 8] :=
  (by decide +kernel : ∀ t : Fin grid0.N, _)

/-- Two points of one column tile read the same block of weights. -/
theorem block_eq (c : Dev nD) (s t : Fin cfg0.N) (h : s.val / 8 = t.val / 8) : iblk m c 1 s = iblk m c 1 t := by
  funext y
  blk_ext [iblk, V, idx s, idx t]

/-- A block of the residual at an index of it. -/
theorem residual (c : Dev nD) (t : Fin cfg0.N) (r j : Fin 1024) (hr : t.val % 8 * 1024 + r.val < 8448)
    (hj : t.val / 8 * 1024 + j.val < 2048) :
    (show FVec Ideal S1024x1024 .f32 from X0_2 m c t) (ix2 r j)
      = (show FVec Ideal S8448x2048 .f32 from m ((c : Thread nD τ).loc main_arg2)) (ix2 ⟨_, hr⟩ ⟨_, hj⟩) := by
  show X0_2 m c t (ix2 r j) = _
  unfold X0_2 Pipeline.Window.fill
  rw [dif_pos (moved0_2 t _)]
  blk_ext [iblk, V, idx t]

/-- The scratch holds the cast weights of the column tile being worked on. -/
theorem scratch (c : Dev nD) : ∀ (n : ℕ) (h : n < cfg0.N),
    (outsAt0 m c n h).2 = k0_pay1 (F := Ideal) (iblk m c 1 ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (ih (Nat.lt_of_succ_lt h)).trans ?_
      rw [block_eq m c ⟨n, Nat.lt_of_succ_lt h⟩ ⟨n + 1, h⟩ (by dsimp only; omega)]

/-- One tile of the result. -/
theorem tile (Y : FVec Ideal S1024x2048 .bf16) (B : FVec Ideal S1x2048x1024 .f32) (X : FVec Ideal S1024x1024 .f32) (r j : Fin 1024) :
    k0_pay2 (F := Ideal) Y (k0_pay1 (F := Ideal) B) X (ix2 r j)
      = (∑ k : Fin 2048, Y (ix2 r k) * B (ix3 0 k j)) + X (ix2 r j) := by
  pointwise [k0_pay2, k0_pay1]

/-- The reference's term at an index of the prompt's rows. -/
theorem ref_at (Y : FVec Ideal S8192x2048 .bf16) (W : FVec Ideal S1x2048x2048 .f32) (X : FVec Ideal S8448x2048 .f32)
    (i : Fin 8448) (j : Fin 2048) (h : i.val < 8192) :
    REF Y W X (ix2 i j) = (∑ k : Fin 2048, Y (ix2 ⟨i.val, h⟩ k) * W (ix3 0 k j)) + X (ix2 i j) := by
  pointwise [REF]
  rw [dif_pos h, add_comm]

/-- The reference's term at an index of the rows after the prompt's. -/
theorem ref_rest (Y : FVec Ideal S8192x2048 .bf16) (W : FVec Ideal S1x2048x2048 .f32) (X : FVec Ideal S8448x2048 .f32)
    (i : Fin 8448) (j : Fin 2048) (h : ¬ i.val < 8192) : REF Y W X (ix2 i j) = X (ix2 i j) := by
  pointwise [REF]
  rw [dif_neg h]
  blk_ext

/-- What a point stores is the reference at the place of the array the block lies at. -/
theorem point (c : Dev nD) (t : Fin cfg0.N) (y : S1024x1024.Idx) (z : S8448x2048.Idx)
    (h0 : (z 0 : ℕ) = t.val % 8 * 1024 + y 0) (h1 : (z 1 : ℕ) = t.val / 8 * 1024 + y 1) :
    k0_pay2 (F := Ideal) (iblk m c 0 t) (k0_pay1 (F := Ideal) (iblk m c 1 t)) (X0_2 m c t) y
      = REF (m ((c : Thread nD τ).loc main_arg0)) (m ((c : Thread nD τ).loc main_arg1)) (m ((c : Thread nD τ).loc main_arg2)) z := by
  have ht : t.val < 16 := t.isLt
  obtain ⟨r, j, rfl⟩ : ∃ (r j : Fin 1024), y = (ix2 r j : S1024x1024.Idx) := ⟨y 0, y 1, eq_ix2 y⟩
  have hr : t.val % 8 * 1024 + r.val < 8448 := by omega
  have hj : t.val / 8 * 1024 + j.val < 2048 := by omega
  obtain ⟨p, q, rfl⟩ : ∃ (p : Fin 8448) (q : Fin 2048), z = (ix2 p q : S8448x2048.Idx) := ⟨z 0, z 1, eq_ix2 z⟩
  obtain rfl : p = ⟨t.val % 8 * 1024 + r.val, hr⟩ := Fin.ext h0
  obtain rfl : q = ⟨t.val / 8 * 1024 + j.val, hj⟩ := Fin.ext h1
  refine (tile _ _ _ r j).trans (Eq.trans ?_ (ref_at _ _ _ _ _ (by dsimp only; omega)).symm)
  refine Ideal.add_congr ?_ (residual m c t r j _ _)
  blk_point [iblk, V, idx t]

/-- The residual's array as the call finds it: the argument, which the result is written over. -/
theorem entry (c : Dev nD) : V m c (Pipeline.arrRef spec0 3) = m ((c : Thread nD τ).loc main_arg2) := by
  entry_read
  rfl

/-- The result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  have hw : (dats m 0 c).arrAt 3 (cfgs 0).N = fun i => if (i 0 : ℕ) < 8192 then
      REF (m ((c : Thread nD τ).loc main_arg0)) (m ((c : Thread nD τ).loc main_arg1)) (m ((c : Thread nD τ).loc main_arg2)) i
      else V m c (Pipeline.arrRef spec0 3) i := by
    refine (dats m 0 c).arrAt_eq_of_coversWhere 3 _ (fun β => β 0 < 8) (by decide +kernel) (fun t hf y => ?_)
      (fun j => by blk_simp [Pipeline.Window.cell_apply]; omega)
    blk_simp
    rw [after0_3]
    by_cases h0 : t.val % 8 = 0
    · rw [outsAt0_A m c t h0]
      frame_out
      refine point m c t _ _ ?_ ?_ <;> blk_simp [idx t] <;> try omega
    · rw [outsAt0_B m c t h0, scratch,
        block_eq m c ⟨t.val - 1, Nat.lt_of_le_of_lt (Nat.sub_le _ _) t.isLt⟩ t (by dsimp only; omega)]
      frame_out
      rw [read_unread_whole]
      refine point m c t _ _ ?_ ?_ <;> blk_simp [idx t] <;> try omega
  rw [hw, entry]
  funext i
  obtain ⟨r, j, rfl⟩ : ∃ (r : Fin 8448) (j : Fin 2048), i = (ix2 r j : S8448x2048.Idx) := ⟨i 0, i 1, eq_ix2 i⟩
  by_cases h : r.val < 8192
  · exact if_pos h
  · exact (if_neg h).trans (ref_rest _ _ _ r j h).symm

end Cert.OutIdeal.Product

end
-- ==== Proof.Matmuls.lean ====
module

public import proofs.«01_k».proof.Defs
public import proofs.«01_k».proof.Proof.Up
public import proofs.«01_k».proof.Proof.Down
public import proofs.«01_k».proof.Proof.InA
public import proofs.«01_k».proof.Proof.InB
public import proofs.«01_k».proof.Proof.Out
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Gen.InAIdeal.Value
public import proofs.«01_k».proof.Proof.Gen.InARefIdeal.Run
public import proofs.«01_k».proof.Proof.Gen.InBIdeal.Value
public import proofs.«01_k».proof.Proof.Gen.InBRefIdeal.Run
public import proofs.«01_k».proof.Proof.Gen.OutIdeal.Value
public import proofs.«01_k».proof.Proof.Gen.OutRefIdeal.Run
public import Idealize.ShloMosaic.Adequacy
public import Idealize.ShloMosaic.Init

@[expose] public section

set_option maxRecDepth 16384

/-! The value claims of the projections: each kernel's result array is its reference's term. -/

noncomputable section

open Idealize.ShloMosaic Idealize.SL.Sem

namespace Cert.Projections

/-- The up-projection of the kernel is the reference's. -/
theorem algebraic_Up : Cert.algebraic_UpIdeal_UpRefIdeal := by
  pair_intro
  · run_from Cert.UpIdeal.Gen.run_main m g
  · hlo_run
    exact (Cert.UpIdeal.Product.final m c).symm

/-- The down-projection of the kernel is the reference's. -/
theorem algebraic_Down : Cert.algebraic_DownIdeal_DownRefIdeal := by
  pair_intro
  · run_from Cert.DownIdeal.Gen.run_main m g
  · hlo_run
    exact (Cert.DownIdeal.Product.final m c).symm

/-- The first mixer's in-projection of the kernel is the reference's. -/
theorem algebraic_InA : Cert.algebraic_InAIdeal_InARefIdeal := by
  pair_intro
  · run_from Cert.InAIdeal.Gen.run_main m g
  · hlo_run
    exact (Cert.InAIdeal.Product.final m c).symm

/-- The second mixer's in-projection of the kernel is the reference's. -/
theorem algebraic_InB : Cert.algebraic_InBIdeal_InBRefIdeal := by
  pair_intro
  · run_from Cert.InBIdeal.Gen.run_main m g
  · hlo_run
    exact (Cert.InBIdeal.Product.final m c).symm

/-- The out-projection of the kernel is the reference's. -/
theorem algebraic_Out : Cert.algebraic_OutIdeal_OutRefIdeal := by
  pair_intro
  · run_from Cert.OutIdeal.Gen.run_main m g
  · hlo_run
    rw [(hagree c).2.2]
    exact (Cert.OutIdeal.Product.final m c).symm

end Cert.Projections

end
-- ==== Proof.SoftmaxAlg.lean ====
module

public import Idealize.ShloMosaic.Lib.Pipeline.ValueKit

@[expose] public section

/-! A causal softmax mean, written with base-2 exponentials over the keys up to a bound, is the one written with natural exponentials
    over every key: the weights agree, those of the masked keys are zero, and the division by the positive sum distributes. -/

noncomputable section

open Idealize.ShloMosaic

namespace Cert.Causal

/-- The greatest element of a family is its fold of `max` from the least extended real. -/
theorem fold_max {n : ℕ} (f : Fin n → EReal) (x : EReal) (hx : ∃ j, f j = x) (hle : ∀ j, f j ≤ x) :
    Finset.univ.fold max ⊥ f = x := by
  apply le_antisymm
  · exact (Finset.fold_max_le _).2 ⟨bot_le, fun j _ => hle j⟩
  · obtain ⟨j, rfl⟩ := hx
    exact (Finset.le_fold_max _).2 (Or.inr ⟨j, Finset.mem_univ j, le_rfl⟩)

/-- Multiplying by a nonnegative real distributes over a sum. -/
theorem sum_mul {ι : Type} (s : Finset ι) (f : ι → EReal) {c : ℝ} (hc : 0 ≤ c) : (∑ j ∈ s, f j) * (c : EReal) = ∑ j ∈ s, f j * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A sum over the first `n` of `N` places is one over all of them with zeros at the others. -/
theorem sum_extend {n N : ℕ} (hn : n ≤ N) (f : Fin N → EReal) (hf : ∀ j : Fin N, n ≤ j.val → f j = 0) :
    ∑ j : Fin n, f ⟨j.val, lt_of_lt_of_le j.isLt hn⟩ = ∑ j : Fin N, f j := by
  refine Finset.sum_of_injOn (fun j : Fin n => (⟨j.val, lt_of_lt_of_le j.isLt hn⟩ : Fin N)) ?_ ?_ ?_ ?_
  · intro a _ b _ h
    exact Fin.ext (congrArg (fun x : Fin N => x.val) h)
  · intro a _
    exact Finset.mem_coe.2 (Finset.mem_univ _)
  · intro j _ hj
    refine hf j ?_
    by_contra h
    exact hj ⟨⟨j.val, Nat.lt_of_not_le h⟩, Finset.mem_coe.2 (Finset.mem_univ _), rfl⟩
  · intro j _
    rfl

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A base-2 exponential is the natural one of its exponent times ln 2. -/
theorem rpow_two (x : ℝ) : Real.rpow 2 x = Real.exp (x * Real.log 2) := by
  show (2 : ℝ) ^ x = _
  rw [Real.rpow_def_of_pos (by norm_num), mul_comm]

/-- The greatest of the first `t + 1` of a family of reals. -/
theorem exists_top {N : ℕ} (a : Fin N → ℝ) (t : ℕ) (ht : t < N) : ∃ k : Fin N, k.val ≤ t ∧ ∀ j : Fin N, j.val ≤ t → a j ≤ a k := by
  obtain ⟨k, hk, hm⟩ := Finset.exists_max_image (Finset.univ.filter fun j : Fin N => j.val ≤ t) a
    ⟨⟨t, ht⟩, Finset.mem_filter.2 ⟨Finset.mem_univ _, le_rfl⟩⟩
  exact ⟨k, (Finset.mem_filter.1 hk).2, fun j hj => hm j (Finset.mem_filter.2 ⟨Finset.mem_univ _, hj⟩)⟩

/-- The two writings of a causal softmax mean agree. `a` are the base-2 logits, `a j * ln 2 + C` the natural ones. -/
theorem mean_eq {n N : ℕ} (hn : n ≤ N) (t : ℕ) (ht : t < n) (a : Fin N → ℝ) (C : ℝ) (v : Fin N → EReal)
    (s o w : Fin n → EReal) (u : Fin N → EReal)
    (hs : ∀ j : Fin n, s j = if j.val ≤ t then (a ⟨j.val, lt_of_lt_of_le j.isLt hn⟩ : EReal) else ⊥)
    (hu : ∀ j : Fin N, u j = if j.val ≤ t then ((a j * Real.log 2 + C : ℝ) : EReal) else ⊥)
    (ho : ∀ j, o j = 1) (hw : ∀ j : Fin n, w j = v ⟨j.val, lt_of_lt_of_le j.isLt hn⟩) :
    Ideal.div (∑ j : Fin n, Ideal.exp2 (s j - Finset.univ.fold max ⊥ s) * w j)
        (∑ j : Fin n, Ideal.exp2 (s j - Finset.univ.fold max ⊥ s) * o j)
      = ∑ j : Fin N, v j * Ideal.div (Ideal.exp (u j - Finset.univ.fold max ⊥ u))
          (∑ k : Fin N, Ideal.exp (u k - Finset.univ.fold max ⊥ u)) := by
  obtain ⟨k, hk, hmax⟩ := exists_top a t (lt_of_lt_of_le ht hn)
  have hl : 0 < Real.log 2 := Real.log_pos (by norm_num)
  have hS : Finset.univ.fold max ⊥ s = (a k : EReal) := by
    refine fold_max s _ ⟨⟨k.val, lt_of_le_of_lt hk ht⟩, ?_⟩ fun j => ?_
    · rw [hs, if_pos hk]
    · rw [hs]
      split
      · exact_mod_cast hmax _ (by assumption)
      · exact bot_le
  have hU : Finset.univ.fold max ⊥ u = ((a k * Real.log 2 + C : ℝ) : EReal) := by
    refine fold_max u _ ⟨k, ?_⟩ fun j => ?_
    · rw [hu, if_pos hk]
    · rw [hu]
      split
      · have := mul_le_mul_of_nonneg_right (hmax j (by assumption)) hl.le
        exact_mod_cast add_le_add_left this C
      · exact bot_le
  set p : Fin N → ℝ := fun j => if j.val ≤ t then Real.exp ((a j - a k) * Real.log 2) else 0 with hp
  have hp0 : ∀ j, 0 ≤ p j := fun j => by
    simp only [hp]; split
    · exact (Real.exp_pos _).le
    · exact le_rfl
  have he2 : ∀ j : Fin n, Ideal.exp2 (s j - Finset.univ.fold max ⊥ s) = (p ⟨j.val, lt_of_lt_of_le j.isLt hn⟩ : EReal) := fun j => by
    rw [hS, hs]; simp only [hp]; split
    · rw [← EReal.coe_sub, Ideal.exp2_coe, rpow_two]
    · rw [EReal.bot_sub, Ideal.exp2_bot, EReal.coe_zero]
  have he : ∀ j : Fin N, Ideal.exp (u j - Finset.univ.fold max ⊥ u) = (p j : EReal) := fun j => by
    rw [hU, hu]; simp only [hp]; split
    · rw [← EReal.coe_sub, Ideal.exp_coe]; congr 2; ring
    · rw [EReal.bot_sub, Ideal.exp_bot, EReal.coe_zero]
  have hout : ∀ j : Fin N, n ≤ j.val → p j = 0 := fun j hj => by
    simp only [hp]; rw [if_neg (by omega)]
  have hD : 0 < ∑ j, p j :=
    Finset.sum_pos' (fun j _ => hp0 j) ⟨k, Finset.mem_univ k, by simp only [hp]; rw [if_pos hk]; exact Real.exp_pos _⟩
  simp only [he, he2, ho, hw, mul_one]
  rw [sum_extend hn (fun j => (p j : EReal) * v j) (fun j hj => by simp only [hout j hj, EReal.coe_zero, zero_mul]),
    sum_extend hn (fun j => (p j : EReal)) (fun j hj => by simp only [hout j hj, EReal.coe_zero]),
    ← coe_sum, Ideal.div_coe hD.ne', sum_mul _ _ (one_div_pos.2 hD).le]
  refine Finset.sum_congr rfl fun j _ => ?_
  rw [Ideal.div_coe hD.ne', mul_comm (p j : EReal) (v j), mul_assoc]

end Cert.Causal

end
-- ==== Proof.AttnRef.lean ====
module

public import proofs.«01_k».proof.Proof.Gen.AttnRefIdeal.Run
public import proofs.«01_k».proof.Proof.SoftmaxAlg
public import Idealize.ShloMosaic.Lib.Pipeline.ValueKit
public import Idealize.ShloMosaic.Lib.WordCmp

@[expose] public section

set_option maxRecDepth 16384

/-! The reference's attention at an index: masked logits, their softmax, and the gated mean of the values. -/

noncomputable section

open Idealize.ShloMosaic Idealize.ShloMosaic.TcCoe Idealize.SL.Sem

namespace Cert.AttnRefIdeal.Softmax

open Cert.AttnRefIdeal Cert.AttnRefIdeal.Gen Cert.AttnRefIdeal.Value

/-- The reference's logits, minus infinity at the keys after the query. -/
def logits (Q K : FVec Ideal S8192x2048 .bf16) (C : FVec Ideal S4x2048x128 .f32) : FVec Ideal S4x16x2048x2048 .f32 :=
  select (broadcastInDim S4x16x2048x2048 ![2, 3] bcast_S2048x2048_S4x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (addf (Host.divf (Host.dotGeneral dot_S4x2048x16x128_S4x2048x16x128_S4x16x2048x2048_3_3_1_1_02_02 none
            (shapeCast _ (mulf (extf .f32 Q bitsLt_bf16_f32)
              (broadcastInDim S8192x2048 ![] bcast_S_S8192x2048 (mulf (Host.sqrt (constant S_ .f32 0x43000000#32)) (Host.log (constant S_ .f32 0x40000000#32)))))
              shapeCasts_S8192x2048_S4x2048x16x128)
            (shapeCast _ (extf .f32 K bitsLt_bf16_f32) shapeCasts_S8192x2048_S4x2048x16x128))
          (broadcastInDim S4x16x2048x2048 ![] bcast_S_S4x16x2048x2048 (Host.sqrt (constant S_ .f32 0x43000000#32))))
        (broadcastInDim S4x16x2048x2048 ![0, 1, 2, 3] bcast_S4x16x2048x1_S4x16x2048x2048_0_1_2_3 (broadcastInDim S4x16x2048x1 ![0, 1, 2] bcast_S4x16x2048_S4x16x2048x1_0_1_2
          (transpose S4x16x2048 [0, 2, 1] (extractStridedSlice S4x2048x16 ![0, 0, 0] C slices_S4x2048x128_S4x2048x16_0_0_0) transposes_S4x2048x16_S4x16x2048_0_2_1))))
      (broadcastInDim S4x16x2048x2048 ![0, 1, 2, 3] bcast_S4x16x1x2048_S4x16x2048x2048_0_1_2_3 (broadcastInDim S4x16x1x2048 ![0, 1, 3] bcast_S4x16x2048_S4x16x1x2048_0_1_3
        (transpose S4x16x2048 [0, 2, 1] (extractStridedSlice S4x2048x16 ![0, 0, 0] C slices_S4x2048x128_S4x2048x16_0_0_0) transposes_S4x2048x16_S4x16x2048_0_2_1))))
    (broadcastInDim S4x16x2048x2048 ![] bcast_S_S4x16x2048x2048 (id (constant S_ .f32 0xFF800000#32)))

/-- A row's greatest element. -/
def top (S : FVec Ideal S4x16x2048x2048 .f32) : FVec Ideal S4x16x2048 .f32 :=
  Host.reduce FloatOps.maximumf S (constant S_ .f32 0xFF800000#32) reducesTo_S4x16x2048x2048_S4x16x2048_d3 h_S_

/-- The exponentials of a row less a number, at least minus infinity. -/
def shifted (S : FVec Ideal S4x16x2048x2048 .f32) (M : FVec Ideal S4x16x2048 .f32) : FVec Ideal S4x16x2048x2048 .f32 :=
  Host.exp (subf S (broadcastInDim S4x16x2048x2048 ![0, 1, 2, 3] bcast_S4x16x2048x1_S4x16x2048x2048_0_1_2_3
    (broadcastInDim S4x16x2048x1 ![0, 1, 2] bcast_S4x16x2048_S4x16x2048x1_0_1_2
      (maximumf (broadcastInDim S4x16x2048 ![] bcast_S_S4x16x2048 (constant S_ .f32 0xFF800000#32)) M))))

/-- A row over its sum. -/
def normed (E : FVec Ideal S4x16x2048x2048 .f32) : FVec Ideal S4x16x2048x2048 .f32 :=
  Host.divf E (broadcastInDim S4x16x2048x2048 ![0, 1, 2, 3] bcast_S4x16x2048x1_S4x16x2048x2048_0_1_2_3
    (broadcastInDim S4x16x2048x1 ![0, 1, 2] bcast_S4x16x2048_S4x16x2048x1_0_1_2
      (Host.reduceAdd E (constant S_ .f32 0x00000000#32) reducesTo_S4x16x2048x2048_S4x16x2048_d3 h_S_)))

/-- The mean of the values under the weights, gated. -/
def gated (W : FVec Ideal S4x16x2048x2048 .f32) (V : FVec Ideal S8192x2048 .bf16) (G : FVec Ideal S8448x8192 .f32) : FVec Ideal S4x4x512x2048 .bf16 :=
  truncf .bf16 (shapeCast _ (mulf (shapeCast _ (transpose S4x2048x16x128 [0, 3, 1, 2]
      (Host.dotGeneral dot_S4x2048x16x128_S4x16x2048x2048_S4x16x128x2048_1_3_3_2_02_01 none
        (shapeCast _ (extf .f32 V bitsLt_bf16_f32) shapeCasts_S8192x2048_S4x2048x16x128) W)
      transposes_S4x16x128x2048_S4x2048x16x128_0_3_1_2) shapeCasts_S4x2048x16x128_S8192x2048)
    (Host.divf (broadcastInDim S8192x2048 ![] bcast_S_S8192x2048 (constant S_ .f32 0x3F800000#32))
      (addf (broadcastInDim S8192x2048 ![] bcast_S_S8192x2048 (constant S_ .f32 0x3F800000#32))
        (Host.exp (Host.negf (extractStridedSlice S8192x2048 ![0, 6144] G slices_S8448x8192_S8192x2048_0_6144))))))
    shapeCasts_S8192x2048_S4x4x512x2048) bitsLt_bf16_f32

/-- The gated mean of the values under the softmax of the logits. -/
def attention (S : FVec Ideal S4x16x2048x2048 .f32) (V : FVec Ideal S8192x2048 .bf16) (G : FVec Ideal S8448x8192 .f32) : FVec Ideal S4x4x512x2048 .bf16 :=
  gated (normed (shifted S (top S))) V G

/-- The reference's result is the gated mean under the softmax of the logits. -/
theorem result_eq (m : (ℓ : Loc nD τ sig) → Buf (Elt Ideal) ℓ) (c : Dev nD) : res_main_v53 m c
    = attention (logits (m ((c : Thread nD τ).loc main_arg0)) (m ((c : Thread nD τ).loc main_arg1)) (m ((c : Thread nD τ).loc main_arg3)))
        (m ((c : Thread nD τ).loc main_arg2)) (m ((c : Thread nD τ).loc main_arg4)) := rfl

/-- The word of minus infinity. -/
theorem minus_inf : Ideal.ofBits FTy.f32 0xFF800000#32 = ⊥ := by
  simp [Ideal.ofBits, Ideal.ieee]

/-- A host fold along the last of four axes, at an index. -/
theorem fold_last {α : Type} (f : α → α → α) [Std.Commutative f] [Std.Associative f] {n0 n1 n2 n3 : ℕ} {u : Shape}
    (h : (⟨4, ![n0, n1, n2, n3]⟩ : Shape).ReducesTo [3] ⟨3, ![n0, n1, n2]⟩) (hu : 0 < u.numel)
    (S : (⟨4, ![n0, n1, n2, n3]⟩ : Shape).Idx → α) (init : u.Idx → α) (a : Fin n0) (b : Fin n1) (c : Fin n2) :
    Host.reduce f S init h hu (ix3 a b c) = Finset.univ.fold f (init (Shape.Idx.first hu)) fun j : Fin n3 => S (ix4 a b c j) := by
  rw [Host.reduce_eq_fold, Shape.ReducesTo.fold_fiber_r4_a3]
  rfl

/-- The fold of the ideal maximum is the fold of `max`. -/
theorem fold_eq {n : ℕ} (x : EReal) (f : Fin n → EReal) :
    Finset.univ.fold (FloatOps.maximumf : Ideal .f32 → Ideal .f32 → Ideal .f32) x f = Finset.univ.fold max x f := rfl

/-- The initial value of the row's maximum. -/
theorem init_at (x) : (constant (F := Ideal) S_ .f32 0xFF800000#32) x = Ideal.ofBits FTy.f32 0xFF800000#32 := rfl

/-- A row's greatest element at an index. -/
theorem top_at (S : FVec Ideal S4x16x2048x2048 .f32) (b : Fin 4) (h : Fin 16) (t : Fin 2048) :
    top S (ix3 b h t) = Finset.univ.fold max ⊥ fun j : Fin 2048 => S (ix4 b h t j) := by
  have h1 := fold_last (FloatOps.maximumf : Ideal .f32 → Ideal .f32 → Ideal .f32) reducesTo_S4x16x2048x2048_S4x16x2048_d3 h_S_ S
    (constant S_ .f32 0xFF800000#32) b h t
  rw [init_at, minus_inf, fold_eq] at h1
  exact h1

/-- The exponentials at an index. -/
theorem shifted_at (S : FVec Ideal S4x16x2048x2048 .f32) (M : FVec Ideal S4x16x2048 .f32) (b : Fin 4) (h : Fin 16) (t j : Fin 2048) :
    shifted S M (ix4 b h t j) = Ideal.exp (S (ix4 b h t j) - M (ix3 b h t)) := by
  pointwise [shifted]
  rw [minus_inf, bot_sup_eq]

/-- A normed row at an index. -/
theorem normed_at (S : FVec Ideal S4x16x2048x2048 .f32) (b : Fin 4) (h : Fin 16) (t j : Fin 2048) :
    normed S (ix4 b h t j) = Ideal.div (S (ix4 b h t j)) (∑ x : Fin 2048, S (ix4 b h t x)) := by
  pointwise [normed]

/-- The gated mean at an index. -/
theorem gated_at (W : FVec Ideal S4x16x2048x2048 .f32) (V : FVec Ideal S8192x2048 .bf16) (G : FVec Ideal S8448x8192 .f32)
    (b : Fin 4) (i : Fin 4) (r : Fin 512) (w : Fin 2048) :
    gated W V G (ix4 b i r w) = (∑ j : Fin 2048, V (ix2 ⟨b.val * 2048 + j.val, by omega⟩ w)
          * W (ix4 b ⟨w.val / 128, by omega⟩ ⟨i.val * 512 + r.val, by omega⟩ j))
        * Ideal.div 1 (1 + Ideal.exp (-G (ix2 ⟨b.val * 2048 + i.val * 512 + r.val, by omega⟩ ⟨6144 + w.val, by omega⟩))) := by
  pointwise [gated]
  blk_point []

/-- The attention at an index. -/
theorem attention_at (S : FVec Ideal S4x16x2048x2048 .f32) (V : FVec Ideal S8192x2048 .bf16) (G : FVec Ideal S8448x8192 .f32)
    (b : Fin 4) (i : Fin 4) (r : Fin 512) (w : Fin 2048) (h : Fin 16) (t : Fin 2048) (hh : h.val = w.val / 128) (ht : t.val = i.val * 512 + r.val) :
    attention S V G (ix4 b i r w) = (∑ j : Fin 2048, V (ix2 ⟨b.val * 2048 + j.val, by omega⟩ w)
          * Ideal.div (Ideal.exp (S (ix4 b h t j) - Finset.univ.fold max ⊥ fun k : Fin 2048 => S (ix4 b h t k)))
              (∑ x : Fin 2048, Ideal.exp (S (ix4 b h t x) - Finset.univ.fold max ⊥ fun k : Fin 2048 => S (ix4 b h t k))))
        * Ideal.div 1 (1 + Ideal.exp (-G (ix2 ⟨b.val * 2048 + i.val * 512 + r.val, by omega⟩ ⟨6144 + w.val, by omega⟩))) := by
  refine (gated_at _ V G b i r w).trans ?_
  rw [show (⟨w.val / 128, by omega⟩ : Fin 16) = h from Fin.ext hh.symm, show (⟨i.val * 512 + r.val, by omega⟩ : Fin 2048) = t from Fin.ext ht.symm]
  simp only [normed_at, shifted_at, top_at]

/-- The words of 128 and of 2. -/
theorem word_128 : Ideal.ofBits FTy.f32 0x43000000#32 = ((128 : ℝ) : EReal) := by
  simp [Ideal.ofBits, Ideal.ieee, -EReal.coe_mul]
  norm_num

theorem word_2 : Ideal.ofBits FTy.f32 0x40000000#32 = ((2 : ℝ) : EReal) := by
  simp [Ideal.ofBits, Ideal.ieee, -EReal.coe_mul]
  norm_num

/-- Choosing by the order of two positions. -/
theorem select_le {α : Type} {x y : ℕ} (hx : x < 2048) (hy : y < 2048) (p q : α) :
    Scalar.select (IntOp.cmpi .sle (BitVec.ofNat 32 x) (BitVec.ofNat 32 y)) p q = if x ≤ y then p else q := by
  rw [WordCmp.cmpi_sle_ofNat (by omega) (by omega), WordCmp.select_ofBool]
  simp only [decide_eq_true_eq]

/-- A logit, of real queries, keys and decays: ln 2 times the base-2 logit, plus the query's own decay. -/
theorem logits_at (Q K : FVec Ideal S8192x2048 .bf16) (C : FVec Ideal S4x2048x128 .f32) (b : Fin 4) (h : Fin 16) (t j : Fin 2048)
    (q k : Fin 128 → ℝ) (ct cj : ℝ)
    (hq : ∀ x : Fin 128, Q (ix2 ⟨b.val * 2048 + t.val, by omega⟩ ⟨h.val * 128 + x.val, by omega⟩) = (q x : EReal))
    (hk : ∀ x : Fin 128, K (ix2 ⟨b.val * 2048 + j.val, by omega⟩ ⟨h.val * 128 + x.val, by omega⟩) = (k x : EReal))
    (ht : C (ix3 b t ⟨h.val, by omega⟩) = (ct : EReal)) (hj : C (ix3 b j ⟨h.val, by omega⟩) = (cj : EReal)) :
    logits Q K C (ix4 b h t j)
      = if j.val ≤ t.val then ((((∑ x, q x * k x) - cj * (Real.log 2)⁻¹) * Real.log 2 + ct : ℝ) : EReal) else ⊥ := by
  have hl : 0 < Real.log 2 := Real.log_pos (by norm_num)
  have hs : 0 < Real.sqrt 128 := Real.sqrt_pos.2 (by norm_num)
  pointwise [logits]
  rw [select_le j.isLt t.isLt]
  refine if_congr Iff.rfl ?_ minus_inf
  rw [word_128, word_2, Ideal.sqrt_coe, if_neg (by norm_num), Ideal.log_coe, if_neg (by norm_num), ht, hj]
  simp only [hq, hk]
  rw [show ∑ x, (q x : EReal) * ((Real.sqrt 128 : EReal) * (Real.log 2 : EReal)) * (k x : EReal)
      = ((∑ x, q x * (Real.sqrt 128 * Real.log 2) * k x : ℝ) : EReal) by
    rw [Causal.coe_sum]; simp only [EReal.coe_mul], Ideal.div_coe hs.ne', ← EReal.coe_mul, ← EReal.coe_add, ← EReal.coe_sub]
  congr 1
  rw [show ∑ x, q x * (Real.sqrt 128 * Real.log 2) * k x = (∑ x, q x * k x) * (Real.sqrt 128 * Real.log 2) by
    rw [Finset.sum_mul]; exact Finset.sum_congr rfl fun x _ => by ring]
  field_simp
  ring

end Cert.AttnRefIdeal.Softmax

end
-- ==== Proof.AttnTile.lean ====
module

public import proofs.«01_k».proof.Proof.Gen.AttnIdeal.Frame
public import proofs.«01_k».proof.Proof.AttnRef
public import Idealize.ShloMosaic.Lib.Pipeline.ValueKit
public import Idealize.ShloMosaic.Lib.Pipeline.ReadBack

@[expose] public section

set_option maxRecDepth 16384

/-! One query tile of the kernel's attention: the masked base-2 logits of 512 queries against the keys up to the
tile's end, their exponentials, and the gated mean of the values, the sum of the weights being read off a column of
ones beside the values. -/

noncomputable section

open Idealize.ShloMosaic Idealize.ShloMosaic.TcCoe Idealize.SL.Sem
open Cert.AttnRefIdeal.Softmax (select_le minus_inf)

namespace Cert.AttnIdeal.Tiles

open Cert.AttnIdeal Cert.AttnIdeal.Gen

/-- A logit out of a query, a key and the key's decay. -/
def logit {n : ℕ} (q : FVec Ideal S1x1x512x128 .bf16) (k : FVec Ideal ⟨2, ![n, 128]⟩ .bf16) (p : FVec Ideal ⟨4, ![1, 1, 1, n]⟩ .f32)
    (r : Fin 512) (j : Fin n) : EReal :=
  (∑ x : Fin 128, q (ix4 0 0 r x) * k (ix2 j x)) - p (ix4 0 0 0 j) * (((Real.log 2)⁻¹ : ℝ) : EReal)

/-- The logits of a row, minus infinity at the keys after the query. -/
def score {n : ℕ} (o : ℕ) (q : FVec Ideal S1x1x512x128 .bf16) (k : FVec Ideal ⟨2, ![n, 128]⟩ .bf16) (p : FVec Ideal ⟨4, ![1, 1, 1, n]⟩ .f32)
    (r : Fin 512) (j : Fin n) : EReal :=
  if j.val ≤ o + r.val then logit q k p r j else ⊥

/-- A row's base-2 exponentials, less its greatest element. -/
def weight {n : ℕ} (s : Fin n → EReal) (j : Fin n) : EReal := Ideal.exp2 (s j - Finset.univ.fold max ⊥ s)

/-- The gated mean: the weighted sum of the values over the weighted sum of ones. -/
def mean {n : ℕ} (e w o : Fin n → EReal) (x : EReal) : EReal :=
  Ideal.div (∑ j, e j * w j) (∑ j, e j * o j) * Ideal.div 1 (1 + Ideal.exp (0 - x))

theorem log2e : (Named.named κ "log2e" 0x3FB8AA3B#32 : Ideal .f32) = (((Real.log 2)⁻¹ : ℝ) : EReal) :=
  IdealRules.named_const.ideal_named_scalar _ _ _ _ rfl

theorem mask : (Named.named κ "mask" 0xF149F2CA#32 : Ideal .f32) = (⊥ : EReal) :=
  IdealRules.named_const.ideal_named_scalar _ _ _ _ rfl

/-- Masking the last 512 keys alone masks the keys after the query: those before them all come before the query. -/
theorem ladder {n o : ℕ} (hn : n = o + 512) (hl : n ≤ 2048) (f : Fin n → EReal) (r : Fin 512) (j : Fin n) :
    (if _ : j.val < o then f j else
      Scalar.select (IntOp.cmpi .sle (BitVec.ofNat 32 (j.val - o)) (BitVec.ofNat 32 r.val)) (f ⟨o + (j.val - o), by omega⟩) ⊥)
    = if j.val ≤ o + r.val then f j else ⊥ := by
  by_cases h : j.val < o
  · rw [dif_pos h, if_pos (by omega)]
  · rw [dif_neg h, select_le (by omega) (by omega)]
    refine if_congr (by omega) (congrArg f (Fin.ext ?_)) rfl
    dsimp only
    omega

/-- The first tile's keys are the last 512 themselves. -/
theorem ladder0 (f : Fin 512 → EReal) (r j : Fin 512) :
    Scalar.select (IntOp.cmpi .sle (BitVec.ofNat 32 j.val) (BitVec.ofNat 32 r.val)) (f j) ⊥ = if j.val ≤ 0 + r.val then f j else ⊥ := by
  rw [select_le (by omega) (by omega), Nat.zero_add]

/-- A row of weights, out of how each of its logits is spelled. -/
theorem weight_of {n : ℕ} (s u : Fin n → EReal) (h : ∀ j, u j = s j) (j : Fin n) :
    Ideal.exp2 (u j - Finset.univ.fold max ⊥ u) = weight s j := by
  rw [funext h]; rfl

theorem weights0_at (q : FVec Ideal S1x1x512x128 .bf16) (k : FVec Ideal S512x128 .bf16) (p : FVec Ideal S1x1x1x512 .f32)
    (r : Fin 512) (j : Fin 512) : k0_pay17 (F := Ideal) q k p (ix2 r j) = weight (score 0 q k p r) j := by
  pointwise [k0_pay17]
  simp only [log2e, mask, minus_inf]
  exact weight_of _ _ (ladder0 (logit q k p r) r) j

/-- The second tile's weights. -/
def weights1 (q : FVec Ideal S1x1x512x128 .bf16) (k : FVec Ideal S1024x128 .bf16) (p : FVec Ideal S1x1x1x1024 .f32) : FVec Ideal S512x1024 .f32 :=
  have s : FVec Ideal S512x1024 .f32 := concatenate S512x1024 1
    [⟨S512x512, extractStridedSlice S512x512 ![0, 0] (k0_pay19 q k p) slices_S512x1024_o0_0_S512x512⟩,
      ⟨S512x512, select k0_pay20 (k0_pay21 q k p) k0_pay22⟩] concatenates_S512x512_S512x512_S512x1024_d1
  exp2 (subf s (broadcastTo S512x1024
    (shapeCast S512x1 (multiReduction .maximumf [1] S512 s 0xFF800000#32 reduces_S512x1024_S512 (.inl rfl) rfl) shapeCasts_S512_S512x1)
    broadcasts_S512x1_S512x1024))

/-- The second tile's gated mean. -/
def mean1 (e : FVec Ideal S512x1024 .f32) (v : FVec Ideal S1x1024x256 .bf16) (g : FVec Ideal S512x128 .f32) : FVec Ideal S1x1x512x128 .bf16 :=
  have a : FVec Ideal S512x256 .f32 := matmul dot_S512x1024_S1024x256_S512x256_1_0_0_1_n_n none (truncf .bf16 e bitsLt_bf16_f32)
    (shapeCast S1024x256 v shapeCasts_S1x1024x256_S1024x256) (constant S512x256 .f32 0#32)
  shapeCast S1x1x512x128 (truncf .bf16 (mulf
    (divf (extractStridedSlice S512x128 ![0, 0] a slices_S512x256_o0_0_S512x128) (extractStridedSlice S512x128 ![0, 128] a slices_S512x256_o0_128_S512x128))
    (divf (broadcast S512x128 (Scalar.ofBits .f32 0x3F800000#32)) (addf (broadcast S512x128 (Scalar.ofBits .f32 0x3F800000#32))
      (exp (subf (broadcast S512x128 (Scalar.ofBits .f32 0#32)) g))))) bitsLt_bf16_f32) shapeCasts_S512x128_S1x1x512x128

theorem weights1_at (q : FVec Ideal S1x1x512x128 .bf16) (k : FVec Ideal S1024x128 .bf16) (p : FVec Ideal S1x1x1x1024 .f32)
    (r : Fin 512) (j : Fin 1024) : weights1 q k p (ix2 r j) = weight (score 512 q k p r) j := by
  pointwise [weights1, k0_pay19, k0_pay20, k0_pay21, k0_pay22]
  simp only [log2e, mask, minus_inf]
  exact weight_of _ _ (ladder rfl (by omega) (logit q k p r) r) j

theorem weights2_at (q : FVec Ideal S1x1x512x128 .bf16) (k : FVec Ideal S1536x128 .bf16) (p : FVec Ideal S1x1x1x1536 .f32)
    (r : Fin 512) (j : Fin 1536) : k0_pay34 (F := Ideal) q k p (ix2 r j) = weight (score 1024 q k p r) j := by
  pointwise [k0_pay34]
  simp only [log2e, mask, minus_inf]
  exact weight_of _ _ (ladder rfl (by omega) (logit q k p r) r) j

theorem weights3_at (q : FVec Ideal S1x1x512x128 .bf16) (k : FVec Ideal S2048x128 .bf16) (p : FVec Ideal S1x1x1x2048 .f32)
    (r : Fin 512) (j : Fin 2048) : k0_pay50 (F := Ideal) q k p (ix2 r j) = weight (score 1536 q k p r) j := by
  pointwise [k0_pay50]
  simp only [log2e, mask, minus_inf]
  exact weight_of _ _ (ladder rfl (by omega) (logit q k p r) r) j

/-- A tile of the result, at an index of it: out of its rows of queries, its keys and their decays, the values beside the ones, and the gate. -/
abbrev Cell {n : ℕ} (o : ℕ) (T : FVec Ideal S1x1x512x128 .bf16 → FVec Ideal ⟨2, ![n, 128]⟩ .bf16 → FVec Ideal ⟨4, ![1, 1, 1, n]⟩ .f32 →
    FVec Ideal ⟨3, ![1, n, 256]⟩ .bf16 → FVec Ideal S512x128 .f32 → FVec Ideal S1x1x512x128 .bf16) : Prop :=
  ∀ q k p v g (r : Fin 512) (d : Fin 128), T q k p v g (ix4 0 0 r d)
    = mean (weight (score o q k p r)) (fun j => v (ix3 0 j ⟨d.val, by omega⟩)) (fun j => v (ix3 0 j ⟨128 + d.val, by omega⟩)) (g (ix2 r d))

/-- A gated mean out of weights, at an index of it. -/
abbrev Averages {n : ℕ} {φ : FTy} (M : FVec Ideal ⟨2, ![512, n]⟩ φ → FVec Ideal ⟨3, ![1, n, 256]⟩ .bf16 → FVec Ideal S512x128 .f32 →
    FVec Ideal S1x1x512x128 .bf16) : Prop :=
  ∀ e v g (r : Fin 512) (d : Fin 128), M e v g (ix4 0 0 r d)
    = mean (fun j => e (ix2 r j)) (fun j => v (ix3 0 j ⟨d.val, by omega⟩)) (fun j => v (ix3 0 j ⟨128 + d.val, by omega⟩)) (g (ix2 r d))

theorem mean0_at : Averages fun e v g => k0_pay18 (F := Ideal) e v g := by
  intro e v g r d
  pointwise [k0_pay18, mean]

theorem mean1_at : Averages mean1 := by
  intro e v g r d
  pointwise [mean1, mean]

theorem mean2_at : Averages fun e v g => k0_pay35 (F := Ideal) (k0_pay33 v) e (constant S512x256 .f32 0#32) g := by
  intro e v g r d
  pointwise [k0_pay35, k0_pay33, mean]

theorem mean3_at : Averages fun e v g => k0_pay51 (F := Ideal) e v g := by
  intro e v g r d
  pointwise [k0_pay51, mean]

/-- The tiles: the weights, then the mean under them. -/
theorem tile0 : Cell 0 fun q k p v g => k0_pay18 (F := Ideal) (k0_pay17 q k p) v g := fun q k p v g r d => by
  rw [← funext (weights0_at q k p r)]; exact mean0_at _ v g r d

theorem tile1 : Cell 512 fun q k p v g => mean1 (weights1 q k p) v g := fun q k p v g r d => by
  rw [← funext (weights1_at q k p r)]; exact mean1_at _ v g r d

theorem tile2 : Cell 1024 fun q k p v g => k0_pay35 (F := Ideal) (k0_pay33 v) (k0_pay34 q k p) (constant S512x256 .f32 0#32) g :=
  fun q k p v g r d => by
  rw [← funext (weights2_at q k p r)]; exact mean2_at _ v g r d

theorem tile3 : Cell 1536 fun q k p v g => k0_pay51 (F := Ideal) (k0_pay50 q k p) v g := fun q k p v g r d => by
  rw [← funext (weights3_at q k p r)]; exact mean3_at _ v g r d

/-- The third tile's other heads: the same operations, cut elsewhere. -/
theorem tile2_1 : Cell 1024 fun q k p v g => k0_pay38 (F := Ideal) (k0_pay36 q k p) (k0_pay37 q k p) v g := tile2

theorem tile2_2 : Cell 1024 fun q k p v g => k0_pay40 (F := Ideal) (k0_pay39 q k p) v g := tile2

theorem tile2_3 : Cell 1024 fun q k p v g => k0_pay42 (F := Ideal) (k0_pay41 q k) p v g := tile2

end Cert.AttnIdeal.Tiles

end
-- ==== Proof.AttnReads.lean ====
module

public import proofs.«01_k».proof.Proof.AttnTile

@[expose] public section

set_option maxRecDepth 16384

/-! What the attention's blocks hold: the arguments at the point's sequence and heads, and the scratch of values
beside ones. -/

noncomputable section

open Idealize.ShloMosaic Idealize.ShloMosaic.TcCoe Idealize.SL.Sem
open Idealize.ShloMosaic.Pipeline (Dat)

namespace Cert.AttnIdeal.Tiles

open Cert.AttnIdeal Cert.AttnIdeal.Gen

variable (m : (ℓ : Loc nD τ sig) → Buf (Elt Ideal) ℓ)

/-- The windows' block indices over the grid: sequence `t / 4`, four heads from `t % 4 * 4`. -/
theorem idx : ∀ t : Fin cfg0.N, win0_0.index t = ![t.val / 4, 0, 0, t.val % 4] ∧ win0_1.index t = ![t.val / 4, t.val % 4]
    ∧ win0_2.index t = ![t.val / 4, t.val % 4] ∧ win0_3.index t = ![t.val / 4, t.val % 4, 0, 0]
    ∧ win0_4.index t = ![t.val / 4 * 4, 12 + t.val % 4] ∧ win0_5.index t = ![t.val / 4 * 4 + 1, 12 + t.val % 4]
    ∧ win0_6.index t = ![t.val / 4 * 4 + 2, 12 + t.val % 4] ∧ win0_7.index t = ![t.val / 4 * 4 + 3, 12 + t.val % 4]
    ∧ win0_8.index t = ![t.val / 4, 0, 0, t.val % 4] :=
  (by decide +kernel : ∀ t : Fin grid0.N, _)

/-- The block of queries. -/
theorem query (c : Dev nD) (t : Fin cfg0.N) (i : Fin 4) (r e : Fin 512) (hr : t.val / 4 * 2048 + (i.val * 512 + r.val) < 8192)
    (he : t.val % 4 * 512 + e.val < 2048) :
    (show FVec Ideal S1x4x512x512 .bf16 from iblk m c 0 t) (ix4 0 i r e)
      = (show FVec Ideal S8192x2048 .bf16 from m ((c : Thread nD τ).loc main_arg0)) (ix2 ⟨_, hr⟩ ⟨_, he⟩) := by
  show iblk m c 0 t (ix4 0 i r e) = _
  blk_point [iblk, V, idx t]

/-- The block of keys. -/
theorem key (c : Dev nD) (t : Fin cfg0.N) (j : Fin 2048) (e : Fin 512) (hj : t.val / 4 * 2048 + j.val < 8192) (he : t.val % 4 * 512 + e.val < 2048) :
    (show FVec Ideal S2048x512 .bf16 from iblk m c 1 t) (ix2 j e)
      = (show FVec Ideal S8192x2048 .bf16 from m ((c : Thread nD τ).loc main_arg1)) (ix2 ⟨_, hj⟩ ⟨_, he⟩) := by
  show iblk m c 1 t (ix2 j e) = _
  blk_point [iblk, V, idx t]

/-- The block of values. -/
theorem value (c : Dev nD) (t : Fin cfg0.N) (j : Fin 2048) (e : Fin 512) (hj : t.val / 4 * 2048 + j.val < 8192) (he : t.val % 4 * 512 + e.val < 2048) :
    (show FVec Ideal S2048x512 .bf16 from iblk m c 2 t) (ix2 j e)
      = (show FVec Ideal S8192x2048 .bf16 from m ((c : Thread nD τ).loc main_arg2)) (ix2 ⟨_, hj⟩ ⟨_, he⟩) := by
  show iblk m c 2 t (ix2 j e) = _
  blk_point [iblk, V, idx t]

/-- The block of decays. -/
theorem decay (c : Dev nD) (t : Fin cfg0.N) (h : Fin 4) (j : Fin 2048) (hb : t.val / 4 < 4) (hh : t.val % 4 * 4 + h.val < 128) :
    (show FVec Ideal S1x4x1x2048 .f32 from iblk m c 3 t) (ix4 0 h 0 j)
      = (show FVec Ideal S4x2048x128 .f32 from m ((c : Thread nD τ).loc main_arg3)) (ix3 ⟨_, hb⟩ j ⟨_, hh⟩) := by
  show iblk m c 3 t (ix4 0 h 0 j) = _
  blk_point [iblk, V, idx t]

/-- The blocks of gates, a tile of queries each. -/
theorem gate0 (c : Dev nD) (t : Fin cfg0.N) (r e : Fin 512) (hr : t.val / 4 * 2048 + r.val < 8448) (he : 6144 + (t.val % 4 * 512 + e.val) < 8192) :
    (show FVec Ideal S512x512 .f32 from X0_4 m c t) (ix2 r e)
      = (show FVec Ideal S8448x8192 .f32 from m ((c : Thread nD τ).loc main_arg4)) (ix2 ⟨_, hr⟩ ⟨_, he⟩) := by
  show X0_4 m c t (ix2 r e) = _
  unfold X0_4 Pipeline.Window.fill
  rw [dif_pos (moved0_4 t _)]
  blk_ext [iblk, V, idx t]

theorem gate1 (c : Dev nD) (t : Fin cfg0.N) (r e : Fin 512) (hr : t.val / 4 * 2048 + 512 + r.val < 8448) (he : 6144 + (t.val % 4 * 512 + e.val) < 8192) :
    (show FVec Ideal S512x512 .f32 from X0_5 m c t) (ix2 r e)
      = (show FVec Ideal S8448x8192 .f32 from m ((c : Thread nD τ).loc main_arg4)) (ix2 ⟨_, hr⟩ ⟨_, he⟩) := by
  show X0_5 m c t (ix2 r e) = _
  unfold X0_5 Pipeline.Window.fill
  rw [dif_pos (moved0_5 t _)]
  blk_ext [iblk, V, idx t]

theorem gate2 (c : Dev nD) (t : Fin cfg0.N) (r e : Fin 512) (hr : t.val / 4 * 2048 + 1024 + r.val < 8448) (he : 6144 + (t.val % 4 * 512 + e.val) < 8192) :
    (show FVec Ideal S512x512 .f32 from X0_6 m c t) (ix2 r e)
      = (show FVec Ideal S8448x8192 .f32 from m ((c : Thread nD τ).loc main_arg4)) (ix2 ⟨_, hr⟩ ⟨_, he⟩) := by
  show X0_6 m c t (ix2 r e) = _
  unfold X0_6 Pipeline.Window.fill
  rw [dif_pos (moved0_6 t _)]
  blk_ext [iblk, V, idx t]

theorem gate3 (c : Dev nD) (t : Fin cfg0.N) (r e : Fin 512) (hr : t.val / 4 * 2048 + 1536 + r.val < 8448) (he : 6144 + (t.val % 4 * 512 + e.val) < 8192) :
    (show FVec Ideal S512x512 .f32 from X0_7 m c t) (ix2 r e)
      = (show FVec Ideal S8448x8192 .f32 from m ((c : Thread nD τ).loc main_arg4)) (ix2 ⟨_, hr⟩ ⟨_, he⟩) := by
  show X0_7 m c t (ix2 r e) = _
  unfold X0_7 Pipeline.Window.fill
  rw [dif_pos (moved0_7 t _)]
  blk_ext [iblk, V, idx t]

/-- The values of four heads, ones beside each. -/
def beside (B : FVec Ideal S2048x512 .bf16) : FVec Ideal S4x2048x256 .bf16 := fun y =>
  if h : (y 2 : ℕ) < 128 then B (ix2 (y 1) ⟨(y 0 : ℕ) * 128 + (y 2 : ℕ), by have := (y 0).isLt; simp only [Matrix.cons_val_zero] at this; omega⟩) else 1

/-- What the stores leave in the scratch. -/
theorem scratch (B : FVec Ideal S2048x512 .bf16) :
    View.canon (Val := Elt Ideal) (s := S4x2048x256) (e := .bf16)
      [⟨Rect.unit ![3, 0, 128] ![1, 2048, 128] inb_S4x2048x256_S1x2048x128_3_0_128, k0_pay2 (F := Ideal)⟩,
        ⟨Rect.unit ![3, 0, 0] ![1, 2048, 128] inb_S4x2048x256_S1x2048x128_3_0_0,
          k0_pay1 (F := Ideal) (View.ld (Val := Elt Ideal) (e' := .bf16) B (Rect.unit (s := S2048x512) ![0, 384] S2048x128.size inb_S2048x512_S2048x128_0_384))⟩,
        ⟨Rect.unit ![2, 0, 128] ![1, 2048, 128] inb_S4x2048x256_S1x2048x128_2_0_128, k0_pay9 (F := Ideal)⟩,
        ⟨Rect.unit ![2, 0, 0] ![1, 2048, 128] inb_S4x2048x256_S1x2048x128_2_0_0,
          k0_pay8 (F := Ideal) (View.ld (Val := Elt Ideal) (e' := .bf16) B (Rect.unit (s := S2048x512) ![0, 256] S2048x128.size inb_S2048x512_S2048x128_0_256))⟩,
        ⟨Rect.unit ![1, 0, 128] ![1, 2048, 128] inb_S4x2048x256_S1x2048x128_1_0_128, k0_pay7 (F := Ideal)⟩,
        ⟨Rect.unit ![1, 0, 0] ![1, 2048, 128] inb_S4x2048x256_S1x2048x128_1_0_0,
          k0_pay6 (F := Ideal) (View.ld (Val := Elt Ideal) (e' := .bf16) B (Rect.unit (s := S2048x512) ![0, 128] S2048x128.size inb_S2048x512_S2048x128_0_128))⟩,
        ⟨Rect.unit ![0, 0, 128] ![1, 2048, 128] inb_S4x2048x256_S1x2048x128_0_0_128, k0_pay5 (F := Ideal)⟩,
        ⟨Rect.unit ![0, 0, 0] ![1, 2048, 128] inb_S4x2048x256_S1x2048x128_0_0_0,
          k0_pay4 (F := Ideal) (View.ld (Val := Elt Ideal) (e' := .bf16) B (Rect.unit (s := S2048x512) ![0, 0] S2048x128.size inb_S2048x512_S2048x128_0_0))⟩] = beside B := by
  funext y
  unfold beside
  canon_tiles x h
  all_goals (open_payloads; pointwise; first | rw [dif_neg (by omega)] | (rw [dif_pos (by omega)]; blk_ext))

end Cert.AttnIdeal.Tiles

end
-- ==== Proof.AttnRow.lean ====
module

public import proofs.«01_k».proof.Proof.AttnTile

@[expose] public section

set_option maxRecDepth 16384

/-! A tile's gated mean is the reference's attention there, once the tile's operands are what the arguments hold at
its place: the keys after the tile's end weigh nothing in the reference. -/

noncomputable section

open Idealize.ShloMosaic Idealize.ShloMosaic.TcCoe Idealize.SL.Sem
open Cert.AttnRefIdeal.Softmax (attention logits attention_at logits_at)

namespace Cert.AttnIdeal.Tiles

open Cert.AttnIdeal Cert.AttnIdeal.Gen

theorem meets {n : ℕ} (i : Fin 4) (hn : n = i.val * 512 + 512) (q : FVec Ideal S1x1x512x128 .bf16) (k : FVec Ideal ⟨2, ![n, 128]⟩ .bf16)
    (p : FVec Ideal ⟨4, ![1, 1, 1, n]⟩ .f32) (w o : Fin n → EReal) (x : EReal)
    (Q K V : FVec Ideal S8192x2048 .bf16) (C : FVec Ideal S4x2048x128 .f32) (G : FVec Ideal S8448x8192 .f32)
    (fQ : ∀ a, ∃ y : ℝ, Q a = y) (fK : ∀ a, ∃ y : ℝ, K a = y)
    (fC : ∀ (b : Fin 4) (t : Fin 2048) (h : Fin 16), ∃ y : ℝ, C (ix3 b t ⟨h.val, by omega⟩) = y)
    (b : Fin 4) (h : Fin 16) (r : Fin 512) (d : Fin 128)
    (hq : ∀ e : Fin 128, q (ix4 0 0 r e) = Q (ix2 ⟨b.val * 2048 + (i.val * 512 + r.val), by omega⟩ ⟨h.val * 128 + e.val, by omega⟩))
    (hk : ∀ (j : Fin n) (e : Fin 128), k (ix2 j e) = K (ix2 ⟨b.val * 2048 + j.val, by omega⟩ ⟨h.val * 128 + e.val, by omega⟩))
    (hp : ∀ j : Fin n, p (ix4 0 0 0 j) = C (ix3 b ⟨j.val, by omega⟩ ⟨h.val, by omega⟩))
    (hw : ∀ j : Fin n, w j = V (ix2 ⟨b.val * 2048 + j.val, by omega⟩ ⟨h.val * 128 + d.val, by omega⟩))
    (ho : ∀ j, o j = 1)
    (hx : x = G (ix2 ⟨b.val * 2048 + i.val * 512 + r.val, by omega⟩ ⟨6144 + (h.val * 128 + d.val), by omega⟩)) :
    mean (weight (score (i.val * 512) q k p r)) w o x = attention (logits Q K C) V G (ix4 b i r ⟨h.val * 128 + d.val, by omega⟩) := by
  choose Qr hQ using fQ
  choose Kr hK using fK
  choose Cr hC using fC
  rw [attention_at (logits Q K C) V G b i r ⟨h.val * 128 + d.val, by omega⟩ h ⟨i.val * 512 + r.val, by omega⟩ (by dsimp only; omega) rfl]
  refine congrArg₂ (· * ·) ?_ (by rw [hx, sub_eq_add_neg, zero_add])
  refine Causal.mean_eq (n := n) (N := 2048) (by omega) (i.val * 512 + r.val) (by omega)
    (fun j => (∑ e : Fin 128, Qr (ix2 ⟨b.val * 2048 + (i.val * 512 + r.val), by omega⟩ ⟨h.val * 128 + e.val, by omega⟩)
      * Kr (ix2 ⟨b.val * 2048 + j.val, by omega⟩ ⟨h.val * 128 + e.val, by omega⟩)) - Cr b j h * (Real.log 2)⁻¹)
    (Cr b ⟨i.val * 512 + r.val, by omega⟩ h) _ _ o w _ (fun j => ?_) (fun j => ?_) ho hw
  · unfold score logit
    refine if_congr Iff.rfl ?_ rfl
    simp only [hq, hk, hp, hQ, hK, hC, ← EReal.coe_mul, ← Causal.coe_sum, ← EReal.coe_sub]
  · exact logits_at Q K C b h ⟨i.val * 512 + r.val, by omega⟩ j _ _ _ _ (fun _ => hQ _) (fun _ => hK _) (hC ..) (hC ..)

end Cert.AttnIdeal.Tiles

end
-- ==== Proof.Attn.lean ====
module

public import proofs.«01_k».proof.Proof.AttnReads
public import proofs.«01_k».proof.Proof.AttnRow

@[expose] public section

set_option maxRecDepth 16384

/-! The kernel's attention is the reference's, tile by tile. -/

noncomputable section

open Idealize.ShloMosaic Idealize.ShloMosaic.TcCoe Idealize.SL.Sem
open Idealize.ShloMosaic.Pipeline (Dat)
open Cert.AttnRefIdeal.Softmax (attention logits)

namespace Cert.AttnIdeal.Tiles

open Cert.AttnIdeal Cert.AttnIdeal.Gen

variable (m : (ℓ : Loc nD τ sig) → Buf (Elt Ideal) ℓ)

/-- The reference's attention of the arguments. -/
abbrev REF (c : Dev nD) : FVec Ideal S4x4x512x2048 .bf16 :=
  attention (logits (m ((c : Thread nD τ).loc main_arg0)) (m ((c : Thread nD τ).loc main_arg1)) (m ((c : Thread nD τ).loc main_arg3)))
    (m ((c : Thread nD τ).loc main_arg2)) (m ((c : Thread nD τ).loc main_arg4))

/-- A tile's gated mean at a point is the reference's attention at the place of the array the element is stored to. -/
theorem meets_at (c : Dev nD) (t : Fin cfg0.N)
    (fQ : ∀ a, ∃ x : ℝ, m ((c : Thread nD τ).loc main_arg0) a = (x : EReal)) (fK : ∀ a, ∃ x : ℝ, m ((c : Thread nD τ).loc main_arg1) a = (x : EReal))
    (fC : ∀ (b : Fin 4) (s : Fin 2048) (h : Fin 16), ∃ x : ℝ, m ((c : Thread nD τ).loc main_arg3) (ix3 b s ⟨h.val, by omega⟩) = (x : EReal))
    {n : ℕ} (i : Fin 4) (u : ℕ) (hu : u < 4) (hn : n = i.val * 512 + 512) (q : FVec Ideal S1x1x512x128 .bf16) (k : FVec Ideal ⟨2, ![n, 128]⟩ .bf16)
    (p : FVec Ideal ⟨4, ![1, 1, 1, n]⟩ .f32) (w o : Fin n → EReal) (x : EReal) (r : Fin 512) (d : Fin 128)
    (y : S1x4x512x512.Idx) (z : S4x4x512x2048.Idx)
    (z0 : (z 0 : ℕ) = t.val / 4) (z1 : (z 1 : ℕ) = y 1) (z2 : (z 2 : ℕ) = y 2) (z3 : (z 3 : ℕ) = t.val % 4 * 512 + y 3)
    (h1 : (y 1 : ℕ) = i.val) (h2 : (y 2 : ℕ) = r.val) (h3 : (y 3 : ℕ) = u * 128 + d.val)
    (hq : ∀ e : Fin 128, q (ix4 0 0 r e) = (show FVec Ideal S8192x2048 .bf16 from m ((c : Thread nD τ).loc main_arg0))
      (ix2 ⟨t.val / 4 * 2048 + (i.val * 512 + r.val), by have : t.val < 16 := t.isLt; omega⟩ ⟨(t.val % 4 * 4 + u) * 128 + e.val, by omega⟩))
    (hk : ∀ (j : Fin n) (e : Fin 128), k (ix2 j e) = (show FVec Ideal S8192x2048 .bf16 from m ((c : Thread nD τ).loc main_arg1))
      (ix2 ⟨t.val / 4 * 2048 + j.val, by have : t.val < 16 := t.isLt; omega⟩ ⟨(t.val % 4 * 4 + u) * 128 + e.val, by omega⟩))
    (hp : ∀ j : Fin n, p (ix4 0 0 0 j) = (show FVec Ideal S4x2048x128 .f32 from m ((c : Thread nD τ).loc main_arg3))
      (ix3 ⟨t.val / 4, by have : t.val < 16 := t.isLt; omega⟩ ⟨j.val, by omega⟩ ⟨t.val % 4 * 4 + u, by omega⟩))
    (hw : ∀ j : Fin n, w j = (show FVec Ideal S8192x2048 .bf16 from m ((c : Thread nD τ).loc main_arg2))
      (ix2 ⟨t.val / 4 * 2048 + j.val, by have : t.val < 16 := t.isLt; omega⟩ ⟨(t.val % 4 * 4 + u) * 128 + d.val, by omega⟩))
    (ho : ∀ j, o j = 1)
    (hx : x = (show FVec Ideal S8448x8192 .f32 from m ((c : Thread nD τ).loc main_arg4))
      (ix2 ⟨t.val / 4 * 2048 + i.val * 512 + r.val, by have : t.val < 16 := t.isLt; omega⟩ ⟨6144 + ((t.val % 4 * 4 + u) * 128 + d.val), by omega⟩)) :
    mean (weight (score (i.val * 512) q k p r)) w o x = REF m c z := by
  have ht : t.val < 16 := t.isLt
  refine (meets i hn q k p w o x _ _ _ _ _ fQ fK fC ⟨t.val / 4, by omega⟩ ⟨t.val % 4 * 4 + u, by omega⟩ r d hq hk hp hw ho hx).trans
    (congrArg (REF m c) ?_)
  blk_ext

/-- A unit-stride rectangle's index, by its coordinates. -/
theorem unit_idx {S : Shape} {off size : Fin S.rank → ℕ} (inb : ∀ a, off a + size a ≤ S.size a) (x : (Rect.unit off size inb).shape.Idx) (y : S.Idx)
    (h : ∀ a, (y a : ℕ) = off a + (x a : ℕ)) : (Rect.unit off size inb).idx x = y :=
  funext fun a => Fin.ext ((congrArg (off a + ·) (Nat.one_mul (x a).val)).trans (h a).symm)

/-- A load through one, by its coordinates. -/
theorem ld_at {S : Shape} {e : EltTy} (X : S.Idx → Elt Ideal e) {off size : Fin S.rank → ℕ} (inb : ∀ a, off a + size a ≤ S.size a)
    (x : (Rect.unit off size inb).shape.Idx) (y : S.Idx) (h : ∀ a, (y a : ℕ) = off a + (x a : ℕ)) :
    View.ld (Val := Elt Ideal) X (Rect.unit off size inb) x = X y := congrArg X (unit_idx inb x y h)

/-- The same over the blocks a tile's stores read: `i` the tile, `u` the head. -/
theorem cell (c : Dev nD) (t : Fin cfg0.N)
    (fQ : ∀ a, ∃ x : ℝ, m ((c : Thread nD τ).loc main_arg0) a = (x : EReal)) (fK : ∀ a, ∃ x : ℝ, m ((c : Thread nD τ).loc main_arg1) a = (x : EReal))
    (fC : ∀ (b : Fin 4) (s : Fin 2048) (h : Fin 16), ∃ x : ℝ, m ((c : Thread nD τ).loc main_arg3) (ix3 b s ⟨h.val, by omega⟩) = (x : EReal))
    {n : ℕ} (i u : Fin 4) (hn : n = i.val * 512 + 512)
    (bq : ∀ a, (![0, i.val, 0, u.val * 128] : Fin 4 → ℕ) a + (![1, 1, 512, 128] : Fin 4 → ℕ) a ≤ S1x4x512x512.size a)
    (bk : ∀ a, (![0, u.val * 128] : Fin 2 → ℕ) a + (![n, 128] : Fin 2 → ℕ) a ≤ S2048x512.size a)
    (bp : ∀ a, (![0, u.val, 0, 0] : Fin 4 → ℕ) a + (![1, 1, 1, n] : Fin 4 → ℕ) a ≤ S1x4x1x2048.size a)
    (bv : ∀ a, (![u.val, 0, 0] : Fin 3 → ℕ) a + (![1, n, 256] : Fin 3 → ℕ) a ≤ S4x2048x256.size a)
    (bg : ∀ a, (![0, u.val * 128] : Fin 2 → ℕ) a + (![512, 128] : Fin 2 → ℕ) a ≤ S512x512.size a)
    (X : FVec Ideal S512x512 .f32)
    (hX : ∀ (r e : Fin 512) (hr : t.val / 4 * 2048 + i.val * 512 + r.val < 8448) (he : 6144 + (t.val % 4 * 512 + e.val) < 8192),
      X (ix2 r e) = (show FVec Ideal S8448x8192 .f32 from m ((c : Thread nD τ).loc main_arg4)) (ix2 ⟨_, hr⟩ ⟨_, he⟩))
    (r : Fin 512) (d : Fin 128) (y : S1x4x512x512.Idx) (z : S4x4x512x2048.Idx)
    (z0 : (z 0 : ℕ) = t.val / 4) (z1 : (z 1 : ℕ) = y 1) (z2 : (z 2 : ℕ) = y 2) (z3 : (z 3 : ℕ) = t.val % 4 * 512 + y 3)
    (h1 : (y 1 : ℕ) = i.val) (h2 : (y 2 : ℕ) = r.val) (h3 : (y 3 : ℕ) = u.val * 128 + d.val) :
    mean (weight (score (i.val * 512)
        (View.ld (Val := Elt Ideal) (e' := .bf16) (S := S1x4x512x512) (iblk m c 0 t) (Rect.unit (s := S1x4x512x512) ![0, i.val, 0, u.val * 128] ![1, 1, 512, 128] bq))
        (View.ld (Val := Elt Ideal) (e' := .bf16) (S := S2048x512) (iblk m c 1 t) (Rect.unit (s := S2048x512) ![0, u.val * 128] ![n, 128] bk))
        (View.ld (Val := Elt Ideal) (e' := .f32) (S := S1x4x1x2048) (iblk m c 3 t) (Rect.unit (s := S1x4x1x2048) ![0, u.val, 0, 0] ![1, 1, 1, n] bp)) r))
      (fun j => beside (iblk m c 2 t) ((Rect.unit (s := S4x2048x256) ![u.val, 0, 0] ![1, n, 256] bv).idx (ix3 0 j ⟨d.val, by omega⟩)))
      (fun j => beside (iblk m c 2 t) ((Rect.unit (s := S4x2048x256) ![u.val, 0, 0] ![1, n, 256] bv).idx (ix3 0 j ⟨128 + d.val, by omega⟩)))
      (View.ld (Val := Elt Ideal) (e' := .f32) (S := S512x512) X (Rect.unit (s := S512x512) ![0, u.val * 128] ![512, 128] bg) (ix2 r d))
    = REF m c z := by
  have ht : t.val < 16 := t.isLt
  refine meets_at m c t fQ fK fC i u.val u.isLt hn _ _ _ _ _ _ r d y z z0 z1 z2 z3 h1 h2 h3 (fun e => ?_) (fun j e => ?_) (fun j => ?_)
    (fun j => ?_) (fun j => ?_) ?_
  · exact (ld_at _ bq _ (ix4 0 i r ⟨u.val * 128 + e.val, by omega⟩) (by intro a; fin_cases a <;> simp [ix4])).trans
      ((query m c t i r ⟨u.val * 128 + e.val, by omega⟩ (by omega) (by dsimp only; omega)).trans (by blk_ext))
  · exact (ld_at _ bk _ (ix2 ⟨j.val, by omega⟩ ⟨u.val * 128 + e.val, by omega⟩) (by intro a; fin_cases a <;> simp [ix2])).trans
      ((key m c t ⟨j.val, by omega⟩ ⟨u.val * 128 + e.val, by omega⟩ (by dsimp only; omega) (by dsimp only; omega)).trans (by blk_ext))
  · exact (ld_at _ bp _ (ix4 0 u 0 ⟨j.val, by omega⟩) (by intro a; fin_cases a <;> simp [ix4])).trans
      (decay m c t u ⟨j.val, by omega⟩ (by omega) (by omega))
  · rw [unit_idx bv (ix3 0 j ⟨d.val, by omega⟩) (ix3 u ⟨j.val, by omega⟩ ⟨d.val, by omega⟩) (by intro a; fin_cases a <;> simp [ix3])]
    refine (dif_pos d.isLt).trans ((value m c t ⟨j.val, by omega⟩ ⟨u.val * 128 + d.val, by omega⟩ (by dsimp only; omega) (by dsimp only; omega)).trans (by blk_ext))
  · rw [unit_idx bv (ix3 0 j ⟨128 + d.val, by omega⟩) (ix3 u ⟨j.val, by omega⟩ ⟨128 + d.val, by omega⟩) (by intro a; fin_cases a <;> simp [ix3])]
    exact dif_neg (by show ¬ 128 + d.val < 128; omega)
  · exact (ld_at _ bg _ (ix2 r ⟨u.val * 128 + d.val, by omega⟩) (by intro a; fin_cases a <;> simp [ix2])).trans
      ((hX r ⟨u.val * 128 + d.val, by omega⟩ (by omega) (by dsimp only; omega)).trans (by blk_ext))

/-- A tile's index, by its row and its column. -/
theorem split (x : S1x1x512x128.Idx) : ∃ (r : Fin 512) (d : Fin 128), x = ix4 0 0 r d ∧ (x 1 : ℕ) = 0 ∧ (x 2 : ℕ) = r.val ∧ (x 3 : ℕ) = d.val :=
  ⟨x 2, x 3, by blk_ext, by have := (x 1).isLt; simpa using this, rfl, rfl⟩

/-- What a point stores is the reference at the place of the array the block lies at. -/
theorem point (c : Dev nD) (t : Fin cfg0.N) (y : S1x4x512x512.Idx) (z : S4x4x512x2048.Idx)
    (fQ : ∀ a, ∃ x : ℝ, m ((c : Thread nD τ).loc main_arg0) a = (x : EReal)) (fK : ∀ a, ∃ x : ℝ, m ((c : Thread nD τ).loc main_arg1) a = (x : EReal))
    (fC : ∀ (b : Fin 4) (s : Fin 2048) (h : Fin 16), ∃ x : ℝ, m ((c : Thread nD τ).loc main_arg3) (ix3 b s ⟨h.val, by omega⟩) = (x : EReal))
    (z0 : (z 0 : ℕ) = t.val / 4) (z1 : (z 1 : ℕ) = y 1) (z2 : (z 2 : ℕ) = y 2) (z3 : (z 3 : ℕ) = t.val % 4 * 512 + y 3) :
    outsAt0 m c t y = REF m c z := by
  unfold Gen.outsAt0
  frame_out
  simp only [View.readCov_eq_canon', Memref.IsWhole.read_unread]
  rw [scratch]
  canon_tiles x h
  all_goals
    obtain ⟨r, d, hx, e1, e2, e3⟩ := split x
    rw [e1] at h1
    rw [e2] at h2
    rw [e3] at h3
    subst hx
  case piece15 => exact (tile0 _ _ _ _ _ r d).trans (cell m c t fQ fK fC 0 0 rfl _ _ _ _ _ _ (gate0 m c t) r d y z z0 z1 z2 z3 h1 h2 (by omega))
  case piece14 => exact (tile0 _ _ _ _ _ r d).trans (cell m c t fQ fK fC 0 1 rfl _ _ _ _ _ _ (gate0 m c t) r d y z z0 z1 z2 z3 h1 h2 (by omega))
  case piece13 => exact (tile0 _ _ _ _ _ r d).trans (cell m c t fQ fK fC 0 2 rfl _ _ _ _ _ _ (gate0 m c t) r d y z z0 z1 z2 z3 h1 h2 (by omega))
  case piece12 => exact (tile0 _ _ _ _ _ r d).trans (cell m c t fQ fK fC 0 3 rfl _ _ _ _ _ _ (gate0 m c t) r d y z z0 z1 z2 z3 h1 h2 (by omega))
  case piece11 =>
    repeat rw [Memref.IsWhole.read_unread]
    exact (tile1 _ _ _ _ _ r d).trans (cell m c t fQ fK fC 1 0 rfl _ _ _ _ _ _ (gate1 m c t) r d y z z0 z1 z2 z3 h1 h2 (by omega))
  case piece10 => exact (tile1 _ _ _ _ _ r d).trans (cell m c t fQ fK fC 1 1 rfl _ _ _ _ _ _ (gate1 m c t) r d y z z0 z1 z2 z3 h1 h2 (by omega))
  case piece9 => exact (tile1 _ _ _ _ _ r d).trans (cell m c t fQ fK fC 1 2 rfl _ _ _ _ _ _ (gate1 m c t) r d y z z0 z1 z2 z3 h1 h2 (by omega))
  case piece8 => exact (tile1 _ _ _ _ _ r d).trans (cell m c t fQ fK fC 1 3 rfl _ _ _ _ _ _ (gate1 m c t) r d y z z0 z1 z2 z3 h1 h2 (by omega))
  case piece7 => exact (tile2 _ _ _ _ _ r d).trans (cell m c t fQ fK fC 2 0 rfl _ _ _ _ _ _ (gate2 m c t) r d y z z0 z1 z2 z3 h1 h2 (by omega))
  case piece6 => exact (tile2_1 _ _ _ _ _ r d).trans (cell m c t fQ fK fC 2 1 rfl _ _ _ _ _ _ (gate2 m c t) r d y z z0 z1 z2 z3 h1 h2 (by omega))
  case piece5 => exact (tile2_2 _ _ _ _ _ r d).trans (cell m c t fQ fK fC 2 2 rfl _ _ _ _ _ _ (gate2 m c t) r d y z z0 z1 z2 z3 h1 h2 (by omega))
  case piece4 => exact (tile2_3 _ _ _ _ _ r d).trans (cell m c t fQ fK fC 2 3 rfl _ _ _ _ _ _ (gate2 m c t) r d y z z0 z1 z2 z3 h1 h2 (by omega))
  case piece3 => exact (tile3 _ _ _ _ _ r d).trans (cell m c t fQ fK fC 3 0 rfl _ _ _ _ _ _ (gate3 m c t) r d y z z0 z1 z2 z3 h1 h2 (by omega))
  case piece2 => exact (tile3 _ _ _ _ _ r d).trans (cell m c t fQ fK fC 3 1 rfl _ _ _ _ _ _ (gate3 m c t) r d y z z0 z1 z2 z3 h1 h2 (by omega))
  case piece1 => exact (tile3 _ _ _ _ _ r d).trans (cell m c t fQ fK fC 3 2 rfl _ _ _ _ _ _ (gate3 m c t) r d y z z0 z1 z2 z3 h1 h2 (by omega))
  case piece0 => exact (tile3 _ _ _ _ _ r d).trans (cell m c t fQ fK fC 3 3 rfl _ _ _ _ _ _ (gate3 m c t) r d y z z0 z1 z2 z3 h1 h2 (by omega))

end Cert.AttnIdeal.Tiles

end
-- ==== Proof.AttnClaim.lean ====
module

public import proofs.«01_k».proof.Defs
public import proofs.«01_k».proof.Proof.Attn
public import proofs.«01_k».proof.Proof.Gen.Pre_finite
public import proofs.«01_k».proof.Proof.Gen.AttnIdeal.Value
public import proofs.«01_k».proof.Proof.Gen.AttnRefIdeal.Run
public import Idealize.ShloMosaic.Adequacy
public import Idealize.ShloMosaic.Init

@[expose] public section

set_option maxRecDepth 16384

/-! The value claim of the attention: of finite queries, keys and decays, the kernel's result array is the reference's. -/

noncomputable section

open Idealize.ShloMosaic Idealize.ShloMosaic.TcCoe Idealize.SL.Sem
open Idealize.ShloMosaic.Pipeline (Dat)
open Cert.AttnRefIdeal.Softmax (attention logits result_eq)

namespace Cert.AttnIdeal.Tiles

open Cert.AttnIdeal Cert.AttnIdeal.Gen

/-- The word of plus infinity. -/
theorem plus_inf : Ideal.ofBits FTy.f32 0x7F800000#32 = ⊤ := by
  simp [Ideal.ofBits, Ideal.ieee]

/-- What compares below plus infinity in absolute value is a real. -/
theorem real_of_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The first array the precondition speaks of, at an index. -/
theorem pre_fst (Q K V : FVec Ideal S8192x2048 .bf16) (C : FVec Ideal S4x2048x128 .f32) (G : FVec Ideal S8448x8192 .f32)
    (h : (Cert.Pre_finite.fn (F := Ideal) Q K V C G).1 = fun _ => 1#1) (a : S8192x2048.Idx) : ∃ r : ℝ, Q a = (r : EReal) := by
  have e := congrFun h a
  dsimp only [Cert.Pre_finite.fn] at e
  pointwise at e
  rw [plus_inf] at e
  exact real_of_lt _ e

/-- The second array the precondition speaks of, at an index. -/
theorem pre_snd (Q K V : FVec Ideal S8192x2048 .bf16) (C : FVec Ideal S4x2048x128 .f32) (G : FVec Ideal S8448x8192 .f32)
    (h : (Cert.Pre_finite.fn (F := Ideal) Q K V C G).2.1 = fun _ => 1#1) (a : S8192x2048.Idx) : ∃ r : ℝ, K a = (r : EReal) := by
  have e := congrFun h a
  dsimp only [Cert.Pre_finite.fn] at e
  pointwise at e
  rw [plus_inf] at e
  exact real_of_lt _ e

/-- The decays the precondition speaks of, at an index. -/
theorem pre_trd (Q K V : FVec Ideal S8192x2048 .bf16) (C : FVec Ideal S4x2048x128 .f32) (G : FVec Ideal S8448x8192 .f32)
    (h : (Cert.Pre_finite.fn (F := Ideal) Q K V C G).2.2 = fun _ => 1#1) (b : Fin 4) (s : Fin 2048) (n : Fin 16) :
    ∃ r : ℝ, C (ix3 b s ⟨n.val, by omega⟩) = (r : EReal) := by
  have e := congrFun h (ix3 b s n)
  dsimp only [Cert.Pre_finite.fn] at e
  pointwise at e
  rw [plus_inf] at e
  exact real_of_lt _ e

variable (m : (ℓ : Loc nD τ sig) → Buf (Elt Ideal) ℓ)

/-- The launch's result array is the reference's attention. -/
theorem final (c : Dev nD)
    (fQ : ∀ a, ∃ x : ℝ, m ((c : Thread nD τ).loc main_arg0) a = (x : EReal)) (fK : ∀ a, ∃ x : ℝ, m ((c : Thread nD τ).loc main_arg1) a = (x : EReal))
    (fC : ∀ (b : Fin 4) (s : Fin 2048) (h : Fin 16), ∃ x : ℝ, m ((c : Thread nD τ).loc main_arg3) (ix3 b s ⟨h.val, by omega⟩) = (x : EReal)) :
    (dats m 0 c).arrAt 8 (cfgs 0).N = REF m c := by
  refine (dats m 0 c).arrAt_eq_of_covers 8 _ (by decide +kernel) fun t _ y => ?_
  blk_simp
  rw [after0_8]
  refine point m c t _ _ fQ fK fC ?_ ?_ ?_ ?_ <;> blk_simp [idx t] <;> try omega

/-- The attention of the kernel is the reference's. -/
theorem algebraic_Attn : Cert.algebraic_AttnIdeal_AttnRefIdeal_pre_finite := by
  pair_intro
  · run_from Cert.AttnIdeal.Gen.run_main m g
  · hlo_run
    exact (final m c (pre_fst _ _ _ _ _ (hpre c).1) (pre_snd _ _ _ _ _ (hpre c).2.1) (pre_trd _ _ _ _ _ (hpre c).2.2)).symm

end Cert.AttnIdeal.Tiles

end
-- ==== Proof.YPrompt.lean ====
module

public import proofs.«01_k».proof.Proof.Gen.YPromptIdeal.Frame
public import proofs.«01_k».proof.Proof.Gen.YPromptRefIdeal.Run
public import Idealize.ShloMosaic.Lib.Pipeline.ValueKit

@[expose] public section

set_option maxRecDepth 16384

/-! The last layer's down-projection of the prompt's rows: the model's result for them. -/

noncomputable section

open Idealize.ShloMosaic Idealize.ShloMosaic.TcCoe Idealize.SL.Sem
open Idealize.ShloMosaic.Pipeline (Dat)

namespace Cert.YPromptIdeal.Product

open Cert.YPromptIdeal Cert.YPromptIdeal.Gen

variable (m : (ℓ : Loc nD τ sig) → Buf (Elt Ideal) ℓ)

/-- The reference's term: these rows of the residual plus their product with layer 1 of the weights. -/
abbrev REF (A : FVec Ideal S8448x8192 .bf16) (W : FVec Ideal S2x8192x2048 .f32) (X : FVec Ideal S8448x2048 .f32) :
    FVec Ideal S8192x2048 .f32 :=
  addf (extractStridedSlice Cert.YPromptRefIdeal.S8192x2048 ![0, 0] X Cert.YPromptRefIdeal.Gen.slices_S8448x2048_S8192x2048_0_0)
    (Host.dotGeneral Cert.YPromptRefIdeal.dot_S8192x8192_S8192x2048_S8192x2048_1_0_0_1_n_n none
      (extf .f32 (extractStridedSlice Cert.YPromptRefIdeal.S8192x8192 ![0, 0] A
        Cert.YPromptRefIdeal.Gen.slices_S8448x8192_S8192x8192_0_0) Cert.YPromptRefIdeal.Gen.bitsLt_bf16_f32)
      (shapeCast _ (extractStridedSlice Cert.YPromptRefIdeal.S1x8192x2048 ![1, 0, 0] W
        Cert.YPromptRefIdeal.Gen.slices_S2x8192x2048_S1x8192x2048_1_0_0) Cert.YPromptRefIdeal.Gen.shapeCasts_S1x8192x2048_S8192x2048))

/-- The windows' block indices over the grid. -/
theorem idx : ∀ t : Fin cfg0.N, win0_0.index t = ![t.val / 4, 0] ∧ win0_1.index t = ![1, 0, t.val % 4]
    ∧ win0_2.index t = ![t.val / 4, t.val % 4] ∧ win0_3.index t = ![t.val / 4, t.val % 4] :=
  (by decide +kernel : ∀ t : Fin grid0.N, _)

/-- A block of activations at an index of it. -/
theorem acts (c : Dev nD) (t : Fin cfg0.N) (r : Fin 512) (k : Fin 8192) (h : t.val / 4 * 512 + r.val < 8448) :
    (show FVec Ideal S512x8192 .bf16 from X0_0 m c t) (ix2 r k)
      = (show FVec Ideal S8448x8192 .bf16 from m ((c : Thread nD τ).loc main_arg0)) (ix2 ⟨t.val / 4 * 512 + r.val, h⟩ k) := by
  show X0_0 m c t (ix2 r k) = _
  unfold X0_0 Pipeline.Window.fill
  rw [dif_pos (moved0_0 t _)]
  blk_simp [iblk, V, idx t]
  blk_ext [idx t]

/-- A block of the residual at an index of it. -/
theorem resid (c : Dev nD) (t : Fin cfg0.N) (r : Fin 512) (j : Fin 512) (h : t.val / 4 * 512 + r.val < 8448) (h' : t.val % 4 * 512 + j.val < 2048) :
    (show FVec Ideal S512x512 .f32 from X0_2 m c t) (ix2 r j)
      = (show FVec Ideal S8448x2048 .f32 from m ((c : Thread nD τ).loc main_arg2)) (ix2 ⟨t.val / 4 * 512 + r.val, h⟩ ⟨t.val % 4 * 512 + j.val, h'⟩) := by
  show X0_2 m c t (ix2 r j) = _
  unfold X0_2 Pipeline.Window.fill
  rw [dif_pos (moved0_2 t _)]
  blk_simp [iblk, V, idx t]
  blk_ext [idx t]

/-- One tile of the result at an index. -/
theorem tile (A : FVec Ideal S512x8192 .bf16) (B : FVec Ideal S1x8192x512 .bf16) (X : FVec Ideal S512x512 .f32) (r j : Fin 512) :
    k0_pay1 (F := Ideal) A B X (ix2 r j) = (∑ k : Fin 8192, A (ix2 r k) * B (ix3 0 k j)) + X (ix2 r j) := by
  pointwise [k0_pay1]

/-- The reference's term at an index. -/
theorem ref_at (A : FVec Ideal S8448x8192 .bf16) (W : FVec Ideal S2x8192x2048 .f32) (X : FVec Ideal S8448x2048 .f32) (r : Fin 8192) (j : Fin 2048) :
    REF A W X (ix2 r j) = X (ix2 ⟨r.val, by omega⟩ j) + ∑ k : Fin 8192, A (ix2 ⟨r.val, by omega⟩ k) * W (ix3 1 k j) := by
  pointwise [REF]

/-- What a point stores is the reference at the place of the array the block lies at. -/
theorem point (c : Dev nD) (t : Fin cfg0.N) (y) :
    k0_pay1 (F := Ideal) (X0_0 m c t) (iblk m c 1 t) (X0_2 m c t) y
      = REF (m ((c : Thread nD τ).loc main_arg0)) (m ((c : Thread nD τ).loc main_arg1)) (m ((c : Thread nD τ).loc main_arg2))
          (((cfg0.win 3).blk t).view.emb y) := by
  have ht : t.val < 64 := t.isLt
  obtain ⟨r, j, rfl⟩ : ∃ (r : Fin 512) (j : Fin 512), y = (ix2 r j : S512x512.Idx) := ⟨y 0, y 1, eq_ix2 y⟩
  refine (tile _ _ _ r j).trans ?_
  have he : ((cfg0.win 3).blk t).view.emb (ix2 r j : S512x512.Idx)
      = (ix2 ⟨t.val / 4 * 512 + r.val, by omega⟩ ⟨t.val % 4 * 512 + j.val, by omega⟩ : S8192x2048.Idx) := by
    blk_ext [idx t]
  rw [he, add_comm]
  refine Eq.trans ?_ (ref_at _ _ _ _ _).symm
  refine congrArg₂ (· + ·) (resid m c t r j (by omega) (by omega)) (Finset.sum_congr rfl fun k _ => Ideal.mul_congr (acts m c t r k (by omega)) ?_)
  blk_simp [iblk, idx t]
  entry_read
  pointwise
  blk_ext [idx t]

/-- The result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine Eq.trans ?_ (point m c t y)
  refine congrFun (?_ : outsAt0 m c t = k0_pay1 (F := Ideal) (X0_0 m c t) (iblk m c 1 t) (X0_2 m c t)) y
  unfold outsAt0
  frame_out

end Cert.YPromptIdeal.Product

end
-- ==== Proof.YSample.lean ====
module

public import proofs.«01_k».proof.Proof.Gen.YSampleIdeal.Frame
public import proofs.«01_k».proof.Proof.Gen.YSampleRefIdeal.Run
public import Idealize.ShloMosaic.Lib.Pipeline.ValueKit

@[expose] public section

set_option maxRecDepth 16384

/-! The last layer's down-projection of the sample group's rows: the model's result for them. -/

noncomputable section

open Idealize.ShloMosaic Idealize.ShloMosaic.TcCoe Idealize.SL.Sem
open Idealize.ShloMosaic.Pipeline (Dat)

namespace Cert.YSampleIdeal.Product

open Cert.YSampleIdeal Cert.YSampleIdeal.Gen

variable (m : (ℓ : Loc nD τ sig) → Buf (Elt Ideal) ℓ)

/-- The reference's term: these rows of the residual plus their product with layer 1 of the weights. -/
abbrev REF (A : FVec Ideal S8448x8192 .bf16) (W : FVec Ideal S2x8192x2048 .f32) (X : FVec Ideal S8448x2048 .f32) :
    FVec Ideal S256x2048 .f32 :=
  addf (extractStridedSlice Cert.YSampleRefIdeal.S256x2048 ![8192, 0] X Cert.YSampleRefIdeal.Gen.slices_S8448x2048_S256x2048_8192_0)
    (Host.dotGeneral Cert.YSampleRefIdeal.dot_S256x8192_S8192x2048_S256x2048_1_0_0_1_n_n none
      (extf .f32 (extractStridedSlice Cert.YSampleRefIdeal.S256x8192 ![8192, 0] A
        Cert.YSampleRefIdeal.Gen.slices_S8448x8192_S256x8192_8192_0) Cert.YSampleRefIdeal.Gen.bitsLt_bf16_f32)
      (shapeCast _ (extractStridedSlice Cert.YSampleRefIdeal.S1x8192x2048 ![1, 0, 0] W
        Cert.YSampleRefIdeal.Gen.slices_S2x8192x2048_S1x8192x2048_1_0_0) Cert.YSampleRefIdeal.Gen.shapeCasts_S1x8192x2048_S8192x2048))

/-- The windows' block indices over the grid. -/
theorem idx : ∀ t : Fin cfg0.N, win0_0.index t = ![32, 0] ∧ win0_1.index t = ![1, 0, t.val % 4]
    ∧ win0_2.index t = ![32, t.val % 4] ∧ win0_3.index t = ![0, t.val % 4] :=
  (by decide +kernel : ∀ t : Fin grid0.N, _)

/-- One tile of the result. -/
theorem point (c : Dev nD) (t : Fin cfg0.N) (y) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  rw [add_comm]
  blk_point [iblk, V, idx t]

/-- The result array is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.YSampleIdeal.Product

end
-- ==== Proof.Norm.lean ====
module

public import proofs.«01_k».proof.Proof.Gen.NormIdeal.Frame
public import proofs.«01_k».proof.Proof.Gen.NormRefIdeal.Run
public import Idealize.ShloMosaic.Lib.Pipeline.ValueKit

@[expose] public section

set_option maxRecDepth 16384

/-! The residual stream's norm, row by row. -/

noncomputable section

open Idealize.ShloMosaic Idealize.ShloMosaic.TcCoe Idealize.SL.Sem
open Idealize.ShloMosaic.Pipeline (Dat)

namespace Cert.NormIdeal.Rows

open Cert.NormIdeal Cert.NormIdeal.Gen

variable (m : (ℓ : Loc nD τ sig) → Buf (Elt Ideal) ℓ)

/-- The root of a row's mean square, inverted, as the reference takes it. -/
abbrev scales (X : FVec Ideal S8448x2048 .f32) : FVec Ideal Cert.NormRefIdeal.S8448x1 .f32 :=
  Host.rsqrt (addf
    (Host.divf (broadcastInDim Cert.NormRefIdeal.S8448x1 ![0] Cert.NormRefIdeal.Gen.bcast_S8448_S8448x1_0
        (Host.reduceAdd (mulf X X) (constant Cert.NormRefIdeal.S_ .f32 0x00000000#32)
          Cert.NormRefIdeal.Gen.reducesTo_S8448x2048_S8448_d1 Cert.NormRefIdeal.Gen.h_S_))
      (broadcastInDim Cert.NormRefIdeal.S8448x1 ![] Cert.NormRefIdeal.Gen.bcast_S_S8448x1 (constant Cert.NormRefIdeal.S_ .f32 0x45000000#32)))
    (broadcastInDim Cert.NormRefIdeal.S8448x1 ![] Cert.NormRefIdeal.Gen.bcast_S_S8448x1 (constant Cert.NormRefIdeal.S_ .f32 0x358637BD#32)))

/-- The reference's term. -/
abbrev REF (X : FVec Ideal S8448x2048 .f32) (W : FVec Ideal S2048 .f32) : FVec Ideal S8448x2048 .bf16 :=
  truncf .bf16 (mulf (mulf X (broadcastInDim S8448x2048 ![0, 1] Cert.NormRefIdeal.Gen.bcast_S8448x1_S8448x2048_0_1 (scales X)))
    (broadcastInDim S8448x2048 ![0, 1] Cert.NormRefIdeal.Gen.bcast_S1x2048_S8448x2048_0_1
      (broadcastInDim S1x2048 ![1] Cert.NormRefIdeal.Gen.bcast_S2048_S1x2048_1 W))) Cert.NormRefIdeal.Gen.bitsLt_bf16_f32

/-- The windows' block indices over the grid. -/
theorem idx : ∀ t : Fin cfg0.N, win0_0.index t = ![t.val, 0] ∧ win0_1.index t = ![0, 0] ∧ win0_2.index t = ![t.val, 0] :=
  (by decide +kernel : ∀ t : Fin grid0.N, _)

/-- One entry of a normed block. -/
theorem tile (X : FVec Ideal S768x2048 .f32) (W : FVec Ideal S1x2048 .f32) (r : Fin 768) (j : Fin 2048) :
    k0_pay1 (F := Ideal) X W (ix2 r j)
      = X (ix2 r j) * Ideal.rsqrt (Ideal.div (∑ k : Fin 2048, X (ix2 r k) * X (ix2 r k)) (Ideal.ofBits .f32 0x45000000#32)
          + Ideal.ofBits .f32 0x358637BD#32) * W (ix2 0 j) := by
  pointwise [k0_pay1]

/-- The reference's term at an index. -/
theorem ref_at (X : FVec Ideal S8448x2048 .f32) (W : FVec Ideal S2048 .f32) (r : Fin 8448) (j : Fin 2048) :
    REF X W (ix2 r j)
      = X (ix2 r j) * Ideal.rsqrt (Ideal.div (∑ k : Fin 2048, X (ix2 r k) * X (ix2 r k)) (Ideal.ofBits .f32 0x45000000#32)
          + Ideal.ofBits .f32 0x358637BD#32) * W (ix1 j) := by
  pointwise [REF, scales]

/-- What a point stores is the reference at the place of the array the block lies at. -/
theorem point (c : Dev nD) (t : Fin cfg0.N) (y) :
    k0_pay1 (F := Ideal) (iblk m c 0 t) (iblk m c 1 t) y
      = REF (m ((c : Thread nD τ).loc main_arg0)) (m ((c : Thread nD τ).loc main_arg1)) (((cfg0.win 2).blk t).view.emb y) := by
  have ht : t.val < 11 := t.isLt
  obtain ⟨r, j, rfl⟩ : ∃ (r : Fin 768) (j : Fin 2048), y = (ix2 r j : S768x2048.Idx) := ⟨y 0, y 1, eq_ix2 y⟩
  refine (tile _ _ r j).trans ?_
  have he : ((cfg0.win 2).blk t).view.emb (ix2 r j : S768x2048.Idx) = (ix2 ⟨t.val * 768 + r.val, by omega⟩ j : S8448x2048.Idx) := by
    blk_ext [idx t]
  rw [he]
  refine Eq.trans ?_ (ref_at _ _ _ _).symm
  have hx : ∀ k : Fin 2048, (show FVec Ideal S768x2048 .f32 from iblk m c 0 t) (ix2 r k)
      = (show FVec Ideal S8448x2048 .f32 from m ((c : Thread nD τ).loc main_arg0)) (ix2 ⟨t.val * 768 + r.val, by omega⟩ k) := fun k => by
    blk_simp [iblk, V, idx t]
    blk_ext [idx t]
  have hw : (show FVec Ideal S1x2048 .f32 from iblk m c 1 t) (ix2 0 j)
      = (show FVec Ideal S2048 .f32 from m ((c : Thread nD τ).loc main_arg1)) (ix1 j) := by
    blk_simp [iblk, idx t]
    entry_read
    pointwise
    blk_ext [idx t]
  refine Ideal.mul_congr (Ideal.mul_congr (hx j) ?_) hw
  simp only [hx]

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NormIdeal.Rows

end
-- ==== Proof.Results.lean ====
module

public import proofs.«01_k».proof.Defs
public import proofs.«01_k».proof.Proof.YPrompt
public import proofs.«01_k».proof.Proof.YSample
public import proofs.«01_k».proof.Proof.Norm
public import proofs.«01_k».proof.Proof.Gen.YPromptIdeal.Value
public import proofs.«01_k».proof.Proof.Gen.YSampleIdeal.Value
public import proofs.«01_k».proof.Proof.Gen.NormIdeal.Value

@[expose] public section

set_option maxRecDepth 16384

/-! The block's two results and the norm: the kernels' runs leave what the references compute. -/

noncomputable section

open Idealize.ShloMosaic Idealize.ShloMosaic.TcCoe Idealize.SL.Sem

namespace Cert.Results

/-- The prompt's result of the kernel is the reference's. -/
theorem algebraic_YPrompt : Cert.algebraic_YPromptIdeal_YPromptRefIdeal := by
  pair_intro
  · run_from Cert.YPromptIdeal.Gen.run_main m g
  · hlo_run
    exact (Cert.YPromptIdeal.Product.final m c).symm

/-- The sample group's result of the kernel is the reference's. -/
theorem algebraic_YSample : Cert.algebraic_YSampleIdeal_YSampleRefIdeal := by
  pair_intro
  · run_from Cert.YSampleIdeal.Gen.run_main m g
  · hlo_run
    exact (Cert.YSampleIdeal.Product.final m c).symm

/-- The norm of the kernel is the reference's. -/
theorem algebraic_Norm : Cert.algebraic_NormIdeal_NormRefIdeal := by
  pair_intro
  · run_from Cert.NormIdeal.Gen.run_main m g
  · hlo_run
    exact (Cert.NormIdeal.Rows.final m c).symm

end Cert.Results

end
-- ==== Proof.Conv.lean ====
module

public import proofs.«01_k».proof.Proof.Gen.ConvIdeal.Frame
public import proofs.«01_k».proof.Proof.Gen.ConvRefIdeal.Run
public import proofs.«01_k».proof.Proof.InA
public import Idealize.ShloMosaic.Lib.Pipeline.ValueKit
public import Idealize.ShloMosaic.Lib.Pipeline.ReadBack

@[expose] public section

set_option maxRecDepth 16384

/-! The rows the first mixer's convolution keeps, out of its in-projection. -/

noncomputable section

open Idealize.ShloMosaic Idealize.ShloMosaic.TcCoe Idealize.SL.Sem
open Idealize.ShloMosaic.Pipeline (Dat)

namespace Cert.ConvIdeal.Product

open Cert.ConvIdeal Cert.ConvIdeal.Gen

variable (m : (ℓ : Loc nD τ sig) → Buf (Elt Ideal) ℓ)

/-- The whole in-projection, as its own claim states it. -/
abbrev PROJ (X : FVec Ideal S8448x2048 .bf16) (W : FVec Ideal S1x2048x8224 .f32) : FVec Ideal S8448x8192 .f32 :=
  Cert.InAIdeal.Product.REF X W

/-- The windows' block indices over the grid: row tile `t % 8`, column tile `t / 8`. -/
theorem idx : ∀ t : Fin cfg0.N, win0_0.index t = ![t.val % 8, 0] ∧ win0_1.index t = ![0, t.val / 8, 0]
    ∧ win0_2.index t = ![t.val % 8, t.val / 8] :=
  (by decide +kernel : ∀ t : Fin grid0.N, _)

/-- The weights as the region finds them: the argument transposed. -/
theorem entry_weights (c : Dev nD) : V0 m c (Proc.devRef .tc main_v0)
    = transpose S1x8224x2048 [0, 2, 1] (m ((c : Thread nD τ).loc main_arg1)) transposes_S1x2048x8224_S1x8224x2048_0_2_1 := by
  simp only [V0, hostOps0, List.flatten_cons, List.flatten_nil, List.append_nil, List.cons_append, List.nil_append]
  after_results
  try rfl

/-- A block of weights at an index of it: the weights' own entry, row and column exchanged. -/
theorem weights (c : Dev nD) (t : Fin cfg0.N) (j : Fin 1024) (k : Fin 2048) (h : t.val / 8 * 1024 + j.val < 8224) :
    (show FVec Ideal S1x1024x2048 .f32 from X0_1 m c t) (ix3 0 j k)
      = (show FVec Ideal S1x2048x8224 .f32 from m ((c : Thread nD τ).loc main_arg1)) (ix3 0 k ⟨t.val / 8 * 1024 + j.val, h⟩) := by
  show X0_1 m c t (ix3 0 j k) = _
  unfold X0_1 Pipeline.Window.fill
  rw [dif_pos (moved0_1 t _)]
  show V0 m c (Proc.devRef .tc main_v0) _ = _
  rw [entry_weights]
  blk_simp [iblk, idx t]
  pointwise
  blk_ext [idx t]

/-- Two points of one column tile read the same block of weights. -/
theorem block_eq (c : Dev nD) (s t : Fin cfg0.N) (h : s.val / 8 = t.val / 8) : X0_1 m c s = X0_1 m c t := by
  funext y
  have hs : s.val < 64 := s.isLt
  have ht : t.val < 64 := t.isLt
  obtain ⟨u, j, k, rfl⟩ : ∃ (u : Fin 1) (j : Fin 1024) (k : Fin 2048), y = (ix3 u j k : S1x1024x2048.Idx) :=
    ⟨y 0, y 1, y 2, eq_ix3 y⟩
  obtain rfl : u = 0 := Subsingleton.elim _ _
  refine (weights m c s j k (by omega)).trans (Eq.trans ?_ (weights m c t j k (by omega)).symm)
  simp only [h]

/-- The scratch holds the cast weights of the column tile being worked on. -/
theorem scratch (c : Dev nD) : ∀ (n : ℕ) (h : n < cfg0.N),
    (outsAt0 m c n h).2 = k0_pay1 (F := Ideal) (X0_1 m c ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (ih (Nat.lt_of_succ_lt h)).trans ?_
      rw [block_eq m c ⟨n, Nat.lt_of_succ_lt h⟩ ⟨n + 1, h⟩ (by dsimp only; omega)]

/-- One tile of the result, from any block of weights that reads as it should. -/
theorem tile (X : FVec Ideal S1056x2048 .bf16) (B : FVec Ideal S1x1024x2048 .f32) (r : Fin 1056) (j : Fin 1024) :
    k0_pay2 (F := Ideal) X (k0_pay1 (F := Ideal) B) (ix2 r j) = ∑ k : Fin 2048, X (ix2 r k) * B (ix3 0 j k) := by
  pointwise [k0_pay2, k0_pay1]

/-- What a point stores is the reference at the place of the array the block lies at. -/
theorem point (c : Dev nD) (t : Fin cfg0.N) (y) :
    k0_pay2 (F := Ideal) (iblk m c 0 t) (k0_pay1 (F := Ideal) (X0_1 m c t)) y
      = PROJ (m ((c : Thread nD τ).loc main_arg0)) (m ((c : Thread nD τ).loc main_arg1)) (((cfg0.win 2).blk t).view.emb y) := by
  have ht : t.val < 64 := t.isLt
  obtain ⟨r, j, rfl⟩ : ∃ (r : Fin 1056) (j : Fin 1024), y = (ix2 r j : S1056x1024.Idx) := ⟨y 0, y 1, eq_ix2 y⟩
  refine (tile _ _ r j).trans ?_
  have he : ((cfg0.win 2).blk t).view.emb (ix2 r j : S1056x1024.Idx)
      = (ix2 ⟨t.val % 8 * 1056 + r.val, by omega⟩ ⟨t.val / 8 * 1024 + j.val, by omega⟩ : S8448x8192.Idx) := by
    blk_ext [idx t]
  rw [he]
  refine Eq.trans ?_ (Cert.InAIdeal.Product.ref_at _ _ _ _).symm
  refine Finset.sum_congr rfl fun k _ => ?_
  refine Ideal.mul_congr ?_ (weights m c t j k (by omega))
  blk_ext [iblk, V, idx t]

/-- The result array is the reference's term of the arguments. -/
theorem final (c : Dev nD) : (dats m 0 c).arrAt 2 (cfgs 0).N
    = PROJ (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch,
      block_eq m c ⟨t.val - 1, Nat.lt_of_le_of_lt (Nat.sub_le _ _) t.isLt⟩ t (by dsimp only; omega)]
    frame_out
    rw [read_unread_whole]
    exact point m c t y

/-- The reference's product, of the columns the convolution runs over. -/
abbrev QKV (X : FVec Ideal S8448x2048 .bf16) (W : FVec Ideal S1x2048x8224 .f32) : FVec Ideal Cert.ConvRefIdeal.S8448x6144 .f32 :=
  Host.dotGeneral Cert.ConvRefIdeal.dot_S8448x2048_S2048x6144_S8448x6144_1_0_0_1_n_n none
    (extf .f32 X Cert.ConvRefIdeal.Gen.bitsLt_bf16_f32)
    (shapeCast _ (extractStridedSlice Cert.ConvRefIdeal.S1x2048x6144 ![0, 0, 0] W
      Cert.ConvRefIdeal.Gen.slices_S1x2048x8224_S1x2048x6144_0_0_0) Cert.ConvRefIdeal.Gen.shapeCasts_S1x2048x6144_S2048x6144)

/-- A column of the reference's product is that column of the whole in-projection. -/
theorem qkv_at (X : FVec Ideal S8448x2048 .bf16) (W : FVec Ideal S1x2048x8224 .f32) (r : Fin 8448) (j : Fin 6144) :
    QKV X W (ix2 r j) = PROJ X W (ix2 r ⟨j.val, by omega⟩) := by
  refine Eq.trans ?_ (Cert.InAIdeal.Product.ref_at _ _ _ _).symm
  pointwise [QKV]

/-- The last three rows of each prompt sequence, cut out of the product and stacked. -/
abbrev promptRows (A : FVec Ideal S8448x8192 .f32) : FVec Ideal S4x3x6144 .f32 :=
  concatenate S4x3x6144 0
    [⟨S1x3x6144, broadcastInDim S1x3x6144 ![1, 2] bcast_S3x6144_S1x3x6144_1_2 (extractStridedSlice S3x6144 ![2045, 0] A slices_S8448x8192_S3x6144_2045_0)⟩,
     ⟨S1x3x6144, broadcastInDim S1x3x6144 ![1, 2] bcast_S3x6144_S1x3x6144_1_2 (extractStridedSlice S3x6144 ![4093, 0] A slices_S8448x8192_S3x6144_4093_0)⟩,
     ⟨S1x3x6144, broadcastInDim S1x3x6144 ![1, 2] bcast_S3x6144_S1x3x6144_1_2 (extractStridedSlice S3x6144 ![6141, 0] A slices_S8448x8192_S3x6144_6141_0)⟩,
     ⟨S1x3x6144, broadcastInDim S1x3x6144 ![1, 2] bcast_S3x6144_S1x3x6144_1_2 (extractStridedSlice S3x6144 ![8189, 0] A slices_S8448x8192_S3x6144_8189_0)⟩]
    concatenates_S1x3x6144_S1x3x6144_S1x3x6144_S1x3x6144_S4x3x6144_d0

/-- The stacked rows at an index. -/
theorem prompt_at (A : FVec Ideal S8448x8192 .f32) (b : Fin 4) (s : Fin 3) (j : Fin 6144) :
    promptRows A (ix3 b s j) = A (ix2 ⟨b.val * 2048 + (2045 + s.val), by omega⟩ ⟨j.val, by omega⟩) := by
  have e : ∀ (n : ℕ) (h : n < 8448) (n' : ℕ) (h' : n' < 8448) (k : Fin 8192), n = n' → A (ix2 ⟨n, h⟩ k) = A (ix2 ⟨n', h'⟩ k) := by
    intro n h n' h' k hn
    subst hn
    rfl
  fin_cases b <;> pointwise [promptRows] <;> exact e _ _ _ _ _ (by omega)

/-- The last three rows of each sample sequence, cut out of the product. -/
abbrev sampleRows (A : FVec Ideal S8448x8192 .f32) : FVec Ideal S32x3x6144 .f32 :=
  extractStridedSlice S32x3x6144 ![0, 5, 0] (shapeCast S32x8x8192
    (extractStridedSlice S256x8192 ![8192, 0] A slices_S8448x8192_S256x8192_8192_0) shapeCasts_S256x8192_S32x8x8192)
    slices_S32x8x8192_S32x3x6144_0_5_0

/-- Those rows at an index. -/
theorem sample_at (A : FVec Ideal S8448x8192 .f32) (b : Fin 32) (s : Fin 3) (j : Fin 6144) :
    sampleRows A (ix3 b s j) = A (ix2 ⟨8192 + (b.val * 8 + (5 + s.val)), by omega⟩ ⟨j.val, by omega⟩) := by
  pointwise [sampleRows]

/-- The reference's prompt rows, of any product. -/
abbrev refPrompt (A : FVec Ideal Cert.ConvRefIdeal.S8448x6144 .f32) : FVec Ideal Cert.ConvRefIdeal.S4x3x6144 .f32 :=
  extractStridedSlice Cert.ConvRefIdeal.S4x3x6144 ![0, 2045, 0] (shapeCast Cert.ConvRefIdeal.S4x2048x6144
    (extractStridedSlice Cert.ConvRefIdeal.S8192x6144 ![0, 0] A Cert.ConvRefIdeal.Gen.slices_S8448x6144_S8192x6144_0_0)
    Cert.ConvRefIdeal.Gen.shapeCasts_S8192x6144_S4x2048x6144) Cert.ConvRefIdeal.Gen.slices_S4x2048x6144_S4x3x6144_0_2045_0

/-- Those rows at an index. -/
theorem refPrompt_at (A : FVec Ideal Cert.ConvRefIdeal.S8448x6144 .f32) (b : Fin 4) (s : Fin 3) (j : Fin 6144) :
    refPrompt A (ix3 b s j) = A (ix2 ⟨b.val * 2048 + (2045 + s.val), by omega⟩ j) := by
  pointwise [refPrompt]

/-- The reference's sample rows, of any product. -/
abbrev refSample (A : FVec Ideal Cert.ConvRefIdeal.S8448x6144 .f32) : FVec Ideal Cert.ConvRefIdeal.S32x3x6144 .f32 :=
  extractStridedSlice Cert.ConvRefIdeal.S32x3x6144 ![0, 5, 0] (shapeCast Cert.ConvRefIdeal.S32x8x6144
    (extractStridedSlice Cert.ConvRefIdeal.S256x6144 ![8192, 0] A Cert.ConvRefIdeal.Gen.slices_S8448x6144_S256x6144_8192_0)
    Cert.ConvRefIdeal.Gen.shapeCasts_S256x6144_S32x8x6144) Cert.ConvRefIdeal.Gen.slices_S32x8x6144_S32x3x6144_0_5_0

/-- Those rows at an index. -/
theorem refSample_at (A : FVec Ideal Cert.ConvRefIdeal.S8448x6144 .f32) (b : Fin 32) (s : Fin 3) (j : Fin 6144) :
    refSample A (ix3 b s j) = A (ix2 ⟨8192 + (b.val * 8 + (5 + s.val)), by omega⟩ j) := by
  pointwise [refSample]

/-- The stacked prompt rows are the reference's. -/
theorem prompt_eq (c : Dev nD) : promptRows ((dats m 0 c).arrAt 2 (cfgs 0).N)
    = refPrompt (QKV (m ((c : Thread nD τ).loc main_arg0)) (m ((c : Thread nD τ).loc main_arg1))) := by
  rw [final m c]
  funext y
  obtain ⟨b, s, j, rfl⟩ : ∃ (b : Fin 4) (s : Fin 3) (j : Fin 6144), y = (ix3 b s j : S4x3x6144.Idx) := ⟨y 0, y 1, y 2, eq_ix3 y⟩
  exact (prompt_at _ b s j).trans ((refPrompt_at _ b s j).trans (qkv_at _ _ _ _)).symm

/-- The sample rows are the reference's. -/
theorem sample_eq (c : Dev nD) : sampleRows ((dats m 0 c).arrAt 2 (cfgs 0).N)
    = refSample (QKV (m ((c : Thread nD τ).loc main_arg0)) (m ((c : Thread nD τ).loc main_arg1))) := by
  rw [final m c]
  funext y
  obtain ⟨b, s, j, rfl⟩ : ∃ (b : Fin 32) (s : Fin 3) (j : Fin 6144), y = (ix3 b s j : S32x3x6144.Idx) := ⟨y 0, y 1, y 2, eq_ix3 y⟩
  exact (sample_at _ b s j).trans ((refSample_at _ b s j).trans (qkv_at _ _ _ _)).symm

/-- What the operations after the region leave in the first result. -/
theorem tail_prompt (c : Dev nD) : Pipeline.afterTail₀ cfgs (dats m) 0 (V0 m) [hostOps1] c main_v10
    = promptRows ((dats m 0 c).arrAt 2 (cfgs 0).N) := by
  unfold Pipeline.afterTail₀
  simp only [hostOps1, List.flatten_cons, List.flatten_nil, List.append_nil, List.cons_append, List.nil_append]
  after_region_results
  erw [Pipeline.withArrays_arr spec0 launch0.win.arr_inj c (V0 m c) (fun w => (dats m 0 c).arrAt w (cfgs 0).N) 2]
  try rfl

/-- What they leave in the second. -/
theorem tail_sample (c : Dev nD) : Pipeline.afterTail₀ cfgs (dats m) 0 (V0 m) [hostOps1] c main_v13
    = sampleRows ((dats m 0 c).arrAt 2 (cfgs 0).N) := by
  unfold Pipeline.afterTail₀
  simp only [hostOps1, List.flatten_cons, List.flatten_nil, List.append_nil, List.cons_append, List.nil_append]
  after_region_results
  erw [Pipeline.withArrays_arr spec0 launch0.win.arr_inj c (V0 m c) (fun w => (dats m 0 c).arrAt w (cfgs 0).N) 2]
  try rfl

end Cert.ConvIdeal.Product

end
-- ==== Proof.ConvClaim.lean ====
module

public import proofs.«01_k».proof.Defs
public import proofs.«01_k».proof.Proof.Conv
public import Idealize.ShloMosaic.Adequacy
public import Idealize.ShloMosaic.Init

@[expose] public section

set_option maxRecDepth 16384

/-! The rows the convolution keeps: the kernel's run leaves the reference's. -/

noncomputable section

open Idealize.ShloMosaic Idealize.ShloMosaic.TcCoe Idealize.SL.Sem

namespace Cert.ConvIdeal.Product

/-- The kernel's two results are the reference's. -/
theorem algebraic_Conv : Cert.algebraic_ConvIdeal_ConvRefIdeal := by
  pair_intro
  · run_from Cert.ConvIdeal.Gen.run_main m g
    exact Cert.ConvIdeal.Gen.W_main_arg1 m _ c
  · hlo_run
    · exact ((tail_prompt m c).trans (prompt_eq m c)).symm
    · exact ((tail_sample m c).trans (sample_eq m c)).symm

end Cert.ConvIdeal.Product

end
-- ==== Proof.PrepArith.lean ====
module

public import Idealize.ShloMosaic.PureOps
public import Idealize.ShloMosaic.Lib.Pipeline.ValueKit

@[expose] public section

/-! The scalar identities of the QK-norm call, on the extended reals. -/

noncomputable section

open Idealize.ShloMosaic

namespace Cert.PrepArith

/-- The word of 128. -/
theorem word_128 : Ideal.ofBits .f32 0x43000000#32 = ((128 : ℝ) : EReal) := by
  simp [Ideal.ofBits, Ideal.ieee, -EReal.coe_mul]
  norm_num

/-- The word of 2. -/
theorem word_2 : Ideal.ofBits .f32 0x40000000#32 = ((2 : ℝ) : EReal) := by
  simp [Ideal.ofBits, Ideal.ieee, -EReal.coe_mul]
  norm_num

/-- The word of 0. -/
theorem word_0 : Ideal.ofBits .f32 0x00000000#32 = (0 : EReal) := by
  simp [Ideal.ofBits, Ideal.ieee, -EReal.coe_mul]

/-- Scaling by the named constant is dividing by sqrt(128) ln 2, at every extended real. -/
theorem scale (x : EReal) : x * (((Real.sqrt 128)⁻¹ * (Real.log 2)⁻¹ : ℝ) : EReal)
    = Ideal.div x (Ideal.sqrt (Ideal.ofBits .f32 0x43000000#32) * Ideal.log (Ideal.ofBits .f32 0x40000000#32)) := by
  have hl : 0 < Real.log 2 := Real.log_pos (by norm_num)
  have hs : 0 < Real.sqrt 128 := Real.sqrt_pos.2 (by norm_num)
  rw [word_128, word_2, Ideal.sqrt_coe, if_neg (by norm_num), Ideal.log_coe, if_neg (by norm_num), ← EReal.coe_mul]
  rw [Ideal.div_coe (by positivity), one_div, mul_inv]

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

theorem softplus_bot : Ideal.log1p (Ideal.exp ⊥) = 0 := by
  rw [Ideal.exp_bot, Ideal.log1p, add_zero, ← EReal.coe_one, Ideal.log_coe, if_neg (by norm_num), Real.log_one, EReal.coe_zero]

/-- The log-sigmoid as the kernel writes it is the reference's. -/
theorem log_sigmoid (x : EReal) :
    min x 0 - Ideal.log1p (Ideal.exp (0 - max x (-x)))
      = -(max (-x) 0 + Ideal.log1p (Ideal.exp (-max (-x - 0) (-(-x - 0))))) := by
  rw [zero_sub, sub_zero, neg_neg, max_comm (-x) x]
  have hL : Ideal.log1p (Ideal.exp (-max x (-x))) ≠ ⊥ ∧ Ideal.log1p (Ideal.exp (-max x (-x))) ≠ ⊤ := by
    induction x with
    | bot => rw [EReal.neg_bot, max_eq_right bot_le, EReal.neg_top, softplus_bot]; simp
    | top => rw [EReal.neg_top, max_eq_left bot_le, EReal.neg_top, softplus_bot]; simp
    | coe r =>
      have h : 0 < 1 + Real.exp (-max r (-r)) := by positivity
      have e : Ideal.log1p (Ideal.exp (-max (r : EReal) (-(r : EReal)))) = ((Real.log (1 + Real.exp (-max r (-r))) : ℝ) : EReal) := by
        rw [← EReal.coe_neg, ← coe_max, ← EReal.coe_neg, Ideal.exp_coe, Ideal.log1p, ← EReal.coe_one, ← EReal.coe_add, Ideal.log_coe,
          if_neg (not_le.2 h)]
      rw [e]
      exact ⟨EReal.coe_ne_bot _, EReal.coe_ne_top _⟩
  rw [EReal.neg_add (Or.inr hL.2) (Or.inr hL.1), sub_eq_add_neg, sub_eq_add_neg]
  congr 1
  induction x with
  | bot => simp
  | top => simp
  | coe r =>
    rw [← EReal.coe_neg, ← EReal.coe_zero, ← coe_max, ← coe_min, ← EReal.coe_neg, ← min_neg_neg, neg_neg, neg_zero]

end Cert.PrepArith

end
-- ==== Proof.PrepP.lean ====
module

public import proofs.«01_k».proof.Proof.Gen.PrepPIdeal.Frame
public import proofs.«01_k».proof.Proof.Gen.PrepPRefIdeal.Run
public import proofs.«01_k».proof.Proof.PrepArith
public import Idealize.ShloMosaic.Lib.Pipeline.ValueKit

@[expose] public section

set_option maxRecDepth 16384

/-! The attention mixer's QK-norm, values and log-forget, head by head. -/

noncomputable section

open Idealize.ShloMosaic Idealize.ShloMosaic.TcCoe Idealize.SL.Sem
open Idealize.ShloMosaic.Pipeline (Dat)

namespace Cert.PrepPIdeal.Heads

open Cert.PrepPIdeal Cert.PrepPIdeal.Gen

variable (m : (ℓ : Loc nD τ sig) → Buf (Elt Ideal) ℓ)

/-- The queries' block, written out with one payload for the 16 heads. -/
theorem out7 (x0 x1 x2 : Vec Ideal S256x2048 .f32) (x3 : Vec Ideal S256x128 .f32) (x4 x5 x6 : Vec Ideal S1x128 .f32) :
    out0_7 (F := Ideal) x0 x1 x2 x3 x4 x5 x6 = View.canon [⟨r0_16, k0_pay2 (View.ld x0 r0_16) (View.ld x4 r0_1)⟩,
      ⟨r0_15, k0_pay2 (View.ld x0 r0_15) (View.ld x4 r0_1)⟩, ⟨r0_14, k0_pay2 (View.ld x0 r0_14) (View.ld x4 r0_1)⟩,
      ⟨r0_13, k0_pay2 (View.ld x0 r0_13) (View.ld x4 r0_1)⟩, ⟨r0_12, k0_pay2 (View.ld x0 r0_12) (View.ld x4 r0_1)⟩,
      ⟨r0_11, k0_pay2 (View.ld x0 r0_11) (View.ld x4 r0_1)⟩, ⟨r0_10, k0_pay2 (View.ld x0 r0_10) (View.ld x4 r0_1)⟩,
      ⟨r0_9, k0_pay2 (View.ld x0 r0_9) (View.ld x4 r0_1)⟩, ⟨r0_8, k0_pay2 (View.ld x0 r0_8) (View.ld x4 r0_1)⟩,
      ⟨r0_7, k0_pay2 (View.ld x0 r0_7) (View.ld x4 r0_1)⟩, ⟨r0_6, k0_pay2 (View.ld x0 r0_6) (View.ld x4 r0_1)⟩,
      ⟨r0_5, k0_pay2 (View.ld x0 r0_5) (View.ld x4 r0_1)⟩, ⟨r0_4, k0_pay2 (View.ld x0 r0_4) (View.ld x4 r0_1)⟩,
      ⟨r0_3, k0_pay2 (View.ld x0 r0_3) (View.ld x4 r0_1)⟩, ⟨r0_2, k0_pay2 (View.ld x0 r0_2) (View.ld x4 r0_1)⟩,
      ⟨r0_0, k0_pay2 (View.ld x0 r0_0) (View.ld x4 r0_1)⟩] := rfl

/-- The keys' block likewise. -/
theorem out8 (x0 x1 x2 : Vec Ideal S256x2048 .f32) (x3 : Vec Ideal S256x128 .f32) (x4 x5 x6 : Vec Ideal S1x128 .f32) :
    out0_8 (F := Ideal) x0 x1 x2 x3 x4 x5 x6 = View.canon [⟨r0_16, k0_pay3 (View.ld x1 r0_16) (View.ld x5 r0_1)⟩,
      ⟨r0_15, k0_pay3 (View.ld x1 r0_15) (View.ld x5 r0_1)⟩, ⟨r0_14, k0_pay3 (View.ld x1 r0_14) (View.ld x5 r0_1)⟩,
      ⟨r0_13, k0_pay3 (View.ld x1 r0_13) (View.ld x5 r0_1)⟩, ⟨r0_12, k0_pay3 (View.ld x1 r0_12) (View.ld x5 r0_1)⟩,
      ⟨r0_11, k0_pay3 (View.ld x1 r0_11) (View.ld x5 r0_1)⟩, ⟨r0_10, k0_pay3 (View.ld x1 r0_10) (View.ld x5 r0_1)⟩,
      ⟨r0_9, k0_pay3 (View.ld x1 r0_9) (View.ld x5 r0_1)⟩, ⟨r0_8, k0_pay3 (View.ld x1 r0_8) (View.ld x5 r0_1)⟩,
      ⟨r0_7, k0_pay3 (View.ld x1 r0_7) (View.ld x5 r0_1)⟩, ⟨r0_6, k0_pay3 (View.ld x1 r0_6) (View.ld x5 r0_1)⟩,
      ⟨r0_5, k0_pay3 (View.ld x1 r0_5) (View.ld x5 r0_1)⟩, ⟨r0_4, k0_pay3 (View.ld x1 r0_4) (View.ld x5 r0_1)⟩,
      ⟨r0_3, k0_pay3 (View.ld x1 r0_3) (View.ld x5 r0_1)⟩, ⟨r0_2, k0_pay3 (View.ld x1 r0_2) (View.ld x5 r0_1)⟩,
      ⟨r0_0, k0_pay3 (View.ld x1 r0_0) (View.ld x5 r0_1)⟩] := rfl

/-- The keys' bf16 block likewise. -/
theorem out9 (x0 x1 x2 : Vec Ideal S256x2048 .f32) (x3 : Vec Ideal S256x128 .f32) (x4 x5 x6 : Vec Ideal S1x128 .f32) :
    out0_9 (F := Ideal) x0 x1 x2 x3 x4 x5 x6 = View.canon [⟨r0_16, k0_pay4 (View.ld x1 r0_16) (View.ld x5 r0_1)⟩,
      ⟨r0_15, k0_pay4 (View.ld x1 r0_15) (View.ld x5 r0_1)⟩, ⟨r0_14, k0_pay4 (View.ld x1 r0_14) (View.ld x5 r0_1)⟩,
      ⟨r0_13, k0_pay4 (View.ld x1 r0_13) (View.ld x5 r0_1)⟩, ⟨r0_12, k0_pay4 (View.ld x1 r0_12) (View.ld x5 r0_1)⟩,
      ⟨r0_11, k0_pay4 (View.ld x1 r0_11) (View.ld x5 r0_1)⟩, ⟨r0_10, k0_pay4 (View.ld x1 r0_10) (View.ld x5 r0_1)⟩,
      ⟨r0_9, k0_pay4 (View.ld x1 r0_9) (View.ld x5 r0_1)⟩, ⟨r0_8, k0_pay4 (View.ld x1 r0_8) (View.ld x5 r0_1)⟩,
      ⟨r0_7, k0_pay4 (View.ld x1 r0_7) (View.ld x5 r0_1)⟩, ⟨r0_6, k0_pay4 (View.ld x1 r0_6) (View.ld x5 r0_1)⟩,
      ⟨r0_5, k0_pay4 (View.ld x1 r0_5) (View.ld x5 r0_1)⟩, ⟨r0_4, k0_pay4 (View.ld x1 r0_4) (View.ld x5 r0_1)⟩,
      ⟨r0_3, k0_pay4 (View.ld x1 r0_3) (View.ld x5 r0_1)⟩, ⟨r0_2, k0_pay4 (View.ld x1 r0_2) (View.ld x5 r0_1)⟩,
      ⟨r0_0, k0_pay4 (View.ld x1 r0_0) (View.ld x5 r0_1)⟩] := rfl

/-- One normed entry of a block of heads: its column's head, its mean square's inverted root, its weight. -/
def normed {n : ℕ} (X : FVec Ideal ⟨2, ![n, 2048]⟩ .f32) (W : Fin 128 → EReal) (r : Fin n) (j : Fin 2048) : EReal :=
  X (ix2 r j) * Ideal.rsqrt (Ideal.div (∑ k : Fin 128, X (ix2 r ⟨j.val / 128 * 128 + k.val, by omega⟩) * X (ix2 r ⟨j.val / 128 * 128 + k.val, by omega⟩))
      (Ideal.ofBits .f32 0x43000000#32) + Ideal.ofBits .f32 0x358637BD#32) * W ⟨j.val % 128, by omega⟩

/-- One entry of a normed head. -/
theorem key_tile (X : FVec Ideal S256x128 .f32) (W : FVec Ideal S1x128 .f32) (r : Fin 256) (j : Fin 128) :
    k0_pay3 (F := Ideal) X W (ix2 r j)
      = X (ix2 r j) * Ideal.rsqrt (Ideal.div (∑ k : Fin 128, X (ix2 r k) * X (ix2 r k)) (Ideal.ofBits .f32 0x43000000#32)
          + Ideal.ofBits .f32 0x358637BD#32) * W (ix2 0 j) := by
  pointwise [k0_pay3]

/-- One entry of a normed and scaled head. -/
theorem query_tile (X : FVec Ideal S256x128 .f32) (W : FVec Ideal S1x128 .f32) (r : Fin 256) (j : Fin 128) :
    k0_pay2 (F := Ideal) X W (ix2 r j)
      = X (ix2 r j) * Ideal.rsqrt (Ideal.div (∑ k : Fin 128, X (ix2 r k) * X (ix2 r k)) (Ideal.ofBits .f32 0x43000000#32)
          + Ideal.ofBits .f32 0x358637BD#32) * W (ix2 0 j) * (((Real.sqrt 128)⁻¹ * (Real.log 2)⁻¹ : ℝ) : EReal) := by
  pointwise [k0_pay2]
  rfl

/-- A normed entry of a head, from where its row lies in the block of all heads. -/
theorem key_of (X : FVec Ideal S256x128 .f32) (V : FVec Ideal S1x128 .f32) (B : FVec Ideal S256x2048 .f32) (W : FVec Ideal S1x128 .f32)
    (a : Fin 256) (b : Fin 128) (r : Fin 256) (j : Fin 2048) (hj : j.val / 128 * 128 + b.val = j.val)
    (hb : ∀ k : Fin 128, X (ix2 a k) = B (ix2 r ⟨j.val / 128 * 128 + k.val, by omega⟩))
    (hw : V (ix2 0 b) = W (ix2 0 ⟨j.val % 128, by omega⟩)) :
    k0_pay3 (F := Ideal) X V (ix2 a b) = normed B (fun k => W (ix2 0 k)) r j := by
  have hj' : (⟨j.val / 128 * 128 + b.val, by omega⟩ : Fin 2048) = j := Fin.ext hj
  refine (key_tile _ _ a b).trans ?_
  unfold normed
  rw [hw, hb b, hj']
  simp only [hb]

/-- One head's store, read at an index of the block of all heads. -/
theorem key_piece (B : FVec Ideal S256x2048 .f32) (W : FVec Ideal S1x128 .f32) (o : ℕ) (inb) (x : S256x128.Idx) (r : Fin 256) (j : Fin 2048)
    (ho : o % 128 = 0) (h0 : r.val = (x 0).val) (h1 : j.val = o + (x 1).val) :
    k0_pay3 (F := Ideal) (View.ld B (Rect.unit (s := S256x2048) ![0, o] S256x128.size inb)) (View.ld W r0_1) x
      = normed B (fun k => W (ix2 0 k)) r j := by
  obtain ⟨a, b, rfl⟩ : ∃ (a : Fin 256) (b : Fin 128), x = (ix2 a b : S256x128.Idx) := ⟨x 0, x 1, eq_ix2 x⟩
  have h0' : r.val = a.val := h0
  have h1' : j.val = o + b.val := h1
  refine key_of _ _ B W a b r j (by omega) (fun k => ?_) ?_
  · refine View.ld_unit_apply_of (S := S256x2048) (Val := Elt Ideal) (e := .f32) B ![0, o] S256x128.size inb (ix2 a k : S256x128.Idx) (ix2 r ⟨j.val / 128 * 128 + k.val, by omega⟩) fun d => ?_
    match d with
    | 0 => show r.val = 0 + a.val; omega
    | 1 => show j.val / 128 * 128 + k.val = o + k.val; omega
  · refine View.ld_unit_apply_of (S := S1x128) (Val := Elt Ideal) (e := .f32) W ![0, 0] S1x128.size _ (ix2 0 b : S1x128.Idx) (ix2 0 ⟨j.val % 128, by omega⟩) fun d => ?_
    match d with
    | 0 => rfl
    | 1 => show j.val % 128 = 0 + b.val; omega

/-- The same of the queries. -/
theorem query_piece (B : FVec Ideal S256x2048 .f32) (W : FVec Ideal S1x128 .f32) (o : ℕ) (inb) (x : S256x128.Idx) (r : Fin 256) (j : Fin 2048)
    (ho : o % 128 = 0) (h0 : r.val = (x 0).val) (h1 : j.val = o + (x 1).val) :
    k0_pay2 (F := Ideal) (View.ld B (Rect.unit (s := S256x2048) ![0, o] S256x128.size inb)) (View.ld W r0_1) x
      = normed B (fun k => W (ix2 0 k)) r j * (((Real.sqrt 128)⁻¹ * (Real.log 2)⁻¹ : ℝ) : EReal) := by
  obtain ⟨a, b, rfl⟩ : ∃ (a : Fin 256) (b : Fin 128), x = (ix2 a b : S256x128.Idx) := ⟨x 0, x 1, eq_ix2 x⟩
  exact (query_tile _ _ a b).trans (congrArg (· * _) ((key_tile _ _ a b).symm.trans (key_piece B W o inb _ r j ho h0 h1)))

/-- The queries' block at an index of it. -/
theorem queries_at (x0 x1 x2 : Vec Ideal S256x2048 .f32) (x3 : Vec Ideal S256x128 .f32) (x4 x5 x6 : Vec Ideal S1x128 .f32) (r : Fin 256) (j : Fin 2048) :
    out0_7 (F := Ideal) x0 x1 x2 x3 x4 x5 x6 (ix2 r j)
      = normed x0 (fun k => x4 (ix2 0 k)) r j * (((Real.sqrt 128)⁻¹ * (Real.log 2)⁻¹ : ℝ) : EReal) := by
  rw [out7]
  canon_tiles x h
  all_goals exact query_piece x0 x4 _ _ x r j rfl h0 (by first | exact h1 | (rw [Nat.zero_add]; exact h1))

/-- The keys' block at an index of it. -/
theorem keys_at (x0 x1 x2 : Vec Ideal S256x2048 .f32) (x3 : Vec Ideal S256x128 .f32) (x4 x5 x6 : Vec Ideal S1x128 .f32) (r : Fin 256) (j : Fin 2048) :
    out0_8 (F := Ideal) x0 x1 x2 x3 x4 x5 x6 (ix2 r j) = normed x1 (fun k => x5 (ix2 0 k)) r j := by
  rw [out8]
  canon_tiles x h
  all_goals exact key_piece x1 x5 _ _ x r j rfl h0 (by first | exact h1 | (rw [Nat.zero_add]; exact h1))

/-- The keys' bf16 block at an index of it. -/
theorem keys_bf16_at (x0 x1 x2 : Vec Ideal S256x2048 .f32) (x3 : Vec Ideal S256x128 .f32) (x4 x5 x6 : Vec Ideal S1x128 .f32) (r : Fin 256) (j : Fin 2048) :
    out0_9 (F := Ideal) x0 x1 x2 x3 x4 x5 x6 (ix2 r j) = normed x1 (fun k => x5 (ix2 0 k)) r j := by
  rw [out9]
  canon_tiles x h
  all_goals exact key_piece x1 x5 _ _ x r j rfl h0 (by first | exact h1 | (rw [Nat.zero_add]; exact h1))

/-- The reference's normed heads. -/
abbrev HEADS (X : FVec Ideal S8192x2048 .f32) (W : FVec Ideal S128 .f32) : FVec Ideal S8192x2048 .f32 :=
  shapeCast Cert.PrepPRefIdeal.S8192x2048 (mulf (mulf (shapeCast Cert.PrepPRefIdeal.S8192x16x128 X Cert.PrepPRefIdeal.Gen.shapeCasts_S8192x2048_S8192x16x128)
      (broadcastInDim Cert.PrepPRefIdeal.S8192x16x128 ![0, 1, 2] Cert.PrepPRefIdeal.Gen.bcast_S8192x16x1_S8192x16x128_0_1_2
        (Host.rsqrt (addf (Host.divf (broadcastInDim Cert.PrepPRefIdeal.S8192x16x1 ![0, 1] Cert.PrepPRefIdeal.Gen.bcast_S8192x16_S8192x16x1_0_1
          (Host.reduceAdd (mulf (shapeCast Cert.PrepPRefIdeal.S8192x16x128 X Cert.PrepPRefIdeal.Gen.shapeCasts_S8192x2048_S8192x16x128)
              (shapeCast Cert.PrepPRefIdeal.S8192x16x128 X Cert.PrepPRefIdeal.Gen.shapeCasts_S8192x2048_S8192x16x128))
            (constant Cert.PrepPRefIdeal.S_ .f32 0x00000000#32) Cert.PrepPRefIdeal.Gen.reducesTo_S8192x16x128_S8192x16_d2 Cert.PrepPRefIdeal.Gen.h_S_))
          (broadcastInDim Cert.PrepPRefIdeal.S8192x16x1 ![] Cert.PrepPRefIdeal.Gen.bcast_S_S8192x16x1 (constant Cert.PrepPRefIdeal.S_ .f32 0x43000000#32)))
          (broadcastInDim Cert.PrepPRefIdeal.S8192x16x1 ![] Cert.PrepPRefIdeal.Gen.bcast_S_S8192x16x1 (constant Cert.PrepPRefIdeal.S_ .f32 0x358637BD#32))))))
    (broadcastInDim Cert.PrepPRefIdeal.S8192x16x128 ![0, 1, 2] Cert.PrepPRefIdeal.Gen.bcast_S1x1x128_S8192x16x128_0_1_2
      (broadcastInDim Cert.PrepPRefIdeal.S1x1x128 ![2] Cert.PrepPRefIdeal.Gen.bcast_S128_S1x1x128_2 W)))
    Cert.PrepPRefIdeal.Gen.shapeCasts_S8192x16x128_S8192x2048

/-- The reference's normed heads at an index. -/
theorem heads_at (X : FVec Ideal S8192x2048 .f32) (W : FVec Ideal S128 .f32) (r : Fin 8192) (j : Fin 2048) :
    HEADS X W (ix2 r j) = normed X (fun k => W (ix1 k)) r j := by
  pointwise [HEADS]
  rfl

/-- The windows' block indices over the grid. -/
theorem idx : ∀ t : Fin cfg0.N, win0_0.index t = ![t.val, 0] ∧ win0_1.index t = ![t.val, 1] ∧ win0_2.index t = ![t.val, 2]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The queries' weight as the region finds it. -/
theorem entry_q (c : Dev nD) : V0 m c (Proc.devRef .tc main_v3) = shapeCast S1x128 (m ((c : Thread nD τ).loc main_arg2)) shapeCasts_S128_S1x128 := by
  simp only [V0, hostOps0, List.flatten_cons, List.flatten_nil, List.append_nil, List.cons_append, List.nil_append]
  after_results
  try rfl

/-- The keys' weight as the region finds it. -/
theorem entry_k (c : Dev nD) : V0 m c (Proc.devRef .tc main_v4) = shapeCast S1x128 (m ((c : Thread nD τ).loc main_arg3)) shapeCasts_S128_S1x128 := by
  simp only [V0, hostOps0, List.flatten_cons, List.flatten_nil, List.append_nil, List.cons_append, List.nil_append]
  after_results
  try rfl

/-- The gates' bias over 128 lanes, zeros beyond the 16. -/
abbrev PAD (B : FVec Ideal S16 .f32) : FVec Ideal S1x128 .f32 :=
  Host.dynamicUpdateSlice (broadcastInDim S1x128 ![] bcast_S_S1x128 (constant (F := Ideal) S_ .f32 0x00000000#32))
    (shapeCast S1x16 B shapeCasts_S16_S1x16) (fun _ => (0#32).toInt) updateFits_S1x128_S1x16

/-- The gates' bias as the region finds it, over 128 lanes. -/
theorem entry_bias (c : Dev nD) : V0 m c (Proc.devRef .tc main_v2)
    = PAD (m ((c : Thread nD τ).loc main_arg4)) := by
  simp only [V0, hostOps0, List.flatten_cons, List.flatten_nil, List.append_nil, List.cons_append, List.nil_append]
  after_results
  refine congrArg₂ (fun (u : FVec Ideal S1x16 .f32) (i : Fin 2 → Int) => Host.dynamicUpdateSlice (s := S1x128) _ u i updateFits_S1x128_S1x16) rfl (funext fun k => ?_)
  match k with
  | 0 =>
    refine congrArg (fun v : Vec Ideal S_ .i32 => BitVec.toInt (v (Shape.Idx.first h_S_))) (?_ : _ = constantI S_ 32 0#32)
    refine (cast_eq _ _).trans ?_
    change HloOp.result _ _ (Proc.devRef .tc main_c) = _
    rw [StableHlo.nullary_result_ne]; rotate_left; decide
    exact StableHlo.nullary_result ..
  | 1 =>
    refine congrArg (fun v : Vec Ideal S_ .i32 => BitVec.toInt (v (Shape.Idx.first h_S_))) (?_ : _ = constantI S_ 32 0#32)
    refine (cast_eq _ _).trans ?_
    change HloOp.result _ _ (Proc.devRef .tc main_c_0) = _
    exact StableHlo.nullary_result ..

/-- The queries' block of the projection. -/
theorem read_q (c : Dev nD) (t : Fin cfg0.N) (r : Fin 256) (j : Fin 2048) (h : t.val * 256 + r.val < 8448) :
    (show FVec Ideal S256x2048 .f32 from iblk m c 0 t) (ix2 r j)
      = (show FVec Ideal S8448x8192 .f32 from m ((c : Thread nD τ).loc main_arg0)) (ix2 ⟨t.val * 256 + r.val, h⟩ ⟨j.val, by omega⟩) := by
  blk_simp [iblk, idx t]
  rw [V_main_arg0]
  blk_ext [idx t]

/-- The keys' block of the projection. -/
theorem read_k (c : Dev nD) (t : Fin cfg0.N) (r : Fin 256) (j : Fin 2048) (h : t.val * 256 + r.val < 8448) :
    (show FVec Ideal S256x2048 .f32 from iblk m c 1 t) (ix2 r j)
      = (show FVec Ideal S8448x8192 .f32 from m ((c : Thread nD τ).loc main_arg0)) (ix2 ⟨t.val * 256 + r.val, h⟩ ⟨2048 + j.val, by omega⟩) := by
  blk_simp [iblk, idx t]
  rw [V_main_arg0]
  blk_ext [idx t]

/-- The values' block of the projection. -/
theorem read_v (c : Dev nD) (t : Fin cfg0.N) (r : Fin 256) (j : Fin 2048) (h : t.val * 256 + r.val < 8448) :
    (show FVec Ideal S256x2048 .f32 from iblk m c 2 t) (ix2 r j)
      = (show FVec Ideal S8448x8192 .f32 from m ((c : Thread nD τ).loc main_arg0)) (ix2 ⟨t.val * 256 + r.val, h⟩ ⟨4096 + j.val, by omega⟩) := by
  blk_simp [iblk, idx t]
  rw [V_main_arg0]
  blk_ext [idx t]

/-- The gates' block. -/
theorem read_f (c : Dev nD) (t : Fin cfg0.N) (r : Fin 256) (j : Fin 128) (h : t.val * 256 + r.val < 8448) :
    (show FVec Ideal S256x128 .f32 from iblk m c 3 t) (ix2 r j)
      = (show FVec Ideal S8448x128 .f32 from m ((c : Thread nD τ).loc main_arg1)) (ix2 ⟨t.val * 256 + r.val, h⟩ j) := by
  blk_simp [iblk, idx t]
  rw [V_main_arg1]
  blk_ext [idx t]

/-- The queries' weight in the block. -/
theorem read_qw (c : Dev nD) (t : Fin cfg0.N) (k : Fin 128) :
    (show FVec Ideal S1x128 .f32 from iblk m c 4 t) (ix2 0 k) = (show FVec Ideal S128 .f32 from m ((c : Thread nD τ).loc main_arg2)) (ix1 k) := by
  show V0 m c (Proc.devRef .tc main_v3) _ = _
  rw [entry_q]
  blk_simp [iblk, idx t]
  pointwise
  blk_ext [idx t]

/-- The keys' weight in the block. -/
theorem read_kw (c : Dev nD) (t : Fin cfg0.N) (k : Fin 128) :
    (show FVec Ideal S1x128 .f32 from iblk m c 5 t) (ix2 0 k) = (show FVec Ideal S128 .f32 from m ((c : Thread nD τ).loc main_arg3)) (ix1 k) := by
  show V0 m c (Proc.devRef .tc main_v4) _ = _
  rw [entry_k]
  blk_simp [iblk, idx t]
  pointwise
  blk_ext [idx t]

/-- The gates' bias in the block, over 128 lanes. -/
theorem read_bias (c : Dev nD) (t : Fin cfg0.N) (k : Fin 128) :
    (show FVec Ideal S1x128 .f32 from iblk m c 6 t) (ix2 0 k) = PAD (m ((c : Thread nD τ).loc main_arg4)) (ix2 0 k) := by
  show V0 m c (Proc.devRef .tc main_v2) _ = _
  rw [entry_bias]
  have e : ((cfg0.win 6).blk t).view.emb (ix2 0 k : S1x128.Idx) = (ix2 0 k : S1x128.Idx) := by
    blk_ext [idx t]
  exact congrArg _ e

/-- A normed entry of equal rows under equal weights. -/
theorem normed_congr {n n' : ℕ} (X : FVec Ideal ⟨2, ![n, 2048]⟩ .f32) (X' : FVec Ideal ⟨2, ![n', 2048]⟩ .f32) (W W' : Fin 128 → EReal)
    (r : Fin n) (r' : Fin n') (j : Fin 2048) (hx : ∀ k, X (ix2 r k) = X' (ix2 r' k)) (hw : ∀ k, W k = W' k) :
    normed X W r j = normed X' W' r' j := by
  unfold normed
  simp only [hx, hw]

/-- The projection's columns of the queries. -/
abbrev QCOLS (P : FVec Ideal S8448x8192 .f32) : FVec Ideal S8192x2048 .f32 :=
  extractStridedSlice Cert.PrepPRefIdeal.S8192x2048 ![0, 0] (extractStridedSlice Cert.PrepPRefIdeal.S8192x8192 ![0, 0] P
    Cert.PrepPRefIdeal.Gen.slices_S8448x8192_S8192x8192_0_0) Cert.PrepPRefIdeal.Gen.slices_S8192x8192_S8192x2048_0_0

/-- The projection's columns of the keys. -/
abbrev KCOLS (P : FVec Ideal S8448x8192 .f32) : FVec Ideal S8192x2048 .f32 :=
  extractStridedSlice Cert.PrepPRefIdeal.S8192x2048 ![0, 2048] (extractStridedSlice Cert.PrepPRefIdeal.S8192x8192 ![0, 0] P
    Cert.PrepPRefIdeal.Gen.slices_S8448x8192_S8192x8192_0_0) Cert.PrepPRefIdeal.Gen.slices_S8192x8192_S8192x2048_0_2048

/-- The projection's columns of the values. -/
abbrev VCOLS (P : FVec Ideal S8448x8192 .f32) : FVec Ideal S8192x2048 .f32 :=
  extractStridedSlice Cert.PrepPRefIdeal.S8192x2048 ![0, 4096] (extractStridedSlice Cert.PrepPRefIdeal.S8192x8192 ![0, 0] P
    Cert.PrepPRefIdeal.Gen.slices_S8448x8192_S8192x8192_0_0) Cert.PrepPRefIdeal.Gen.slices_S8192x8192_S8192x2048_0_4096

/-- The reference's queries. -/
abbrev QREF (P : FVec Ideal S8448x8192 .f32) (W : FVec Ideal S128 .f32) : FVec Ideal S8192x2048 .bf16 :=
  truncf .bf16 (Host.divf (HEADS (QCOLS P) W) (broadcastInDim Cert.PrepPRefIdeal.S8192x2048 ![] Cert.PrepPRefIdeal.Gen.bcast_S_S8192x2048
    (mulf (Host.sqrt (constant Cert.PrepPRefIdeal.S_ .f32 0x43000000#32)) (Host.log (constant Cert.PrepPRefIdeal.S_ .f32 0x40000000#32)))))
    Cert.PrepPRefIdeal.Gen.bitsLt_bf16_f32

/-- Heads over sqrt(128) ln 2, at an index. -/
theorem scaled_at (H : FVec Ideal S8192x2048 .f32) (i : S8192x2048.Idx) :
    truncf .bf16 (Host.divf H (broadcastInDim Cert.PrepPRefIdeal.S8192x2048 ![] Cert.PrepPRefIdeal.Gen.bcast_S_S8192x2048
      (mulf (Host.sqrt (constant Cert.PrepPRefIdeal.S_ .f32 0x43000000#32)) (Host.log (constant Cert.PrepPRefIdeal.S_ .f32 0x40000000#32)))))
      Cert.PrepPRefIdeal.Gen.bitsLt_bf16_f32 i
      = Ideal.div (H i) (Ideal.sqrt (Ideal.ofBits .f32 0x43000000#32) * Ideal.log (Ideal.ofBits .f32 0x40000000#32)) := by
  pointwise

/-- The reference's queries at an index. -/
theorem qref_at (P : FVec Ideal S8448x8192 .f32) (W : FVec Ideal S128 .f32) (r : Fin 8192) (j : Fin 2048) :
    QREF P W (ix2 r j) = normed (QCOLS P) (fun k => W (ix1 k)) r j * (((Real.sqrt 128)⁻¹ * (Real.log 2)⁻¹ : ℝ) : EReal) :=
  (scaled_at _ _).trans ((congrArg (fun z : EReal => Ideal.div z (Ideal.sqrt (Ideal.ofBits .f32 0x43000000#32) * Ideal.log (Ideal.ofBits .f32 0x40000000#32)))
    (heads_at _ _ r j)).trans (PrepArith.scale _).symm)

/-- The queries the call leaves. -/
theorem final_q (c : Dev nD) : (dats m 0 c).arrAt 7 (cfgs 0).N
    = QREF (m ((c : Thread nD τ).loc main_arg0)) (m ((c : Thread nD τ).loc main_arg2)) := by
  refine (dats m 0 c).arrAt_eq_of_covers 7 _ (by decide +kernel) fun t _ y => ?_
  blk_simp
  rw [after0_7]
  have ht : t.val < 32 := t.isLt
  obtain ⟨r, j, rfl⟩ : ∃ (r : Fin 256) (j : Fin 2048), y = (ix2 r j : S256x2048.Idx) := ⟨y 0, y 1, eq_ix2 y⟩
  have he : ((cfg0.win 7).blk t).view.emb (ix2 r j : S256x2048.Idx) = (ix2 ⟨t.val * 256 + r.val, by omega⟩ j : S8192x2048.Idx) := by
    blk_ext [idx t]
  rw [he]
  refine (queries_at _ _ _ _ _ _ _ r j).trans (Eq.trans ?_ (qref_at _ _ _ _).symm)
  refine congrArg (· * _) (normed_congr _ _ _ _ _ _ _ (fun k => (read_q m c t r k (by omega)).trans ?_) (read_qw m c t))
  pointwise [QCOLS]
  try blk_ext

/-- The keys the call leaves. -/
theorem final_k (c : Dev nD) : (dats m 0 c).arrAt 8 (cfgs 0).N
    = HEADS (KCOLS (m ((c : Thread nD τ).loc main_arg0))) (m ((c : Thread nD τ).loc main_arg3)) := by
  refine (dats m 0 c).arrAt_eq_of_covers 8 _ (by decide +kernel) fun t _ y => ?_
  blk_simp
  rw [after0_8]
  have ht : t.val < 32 := t.isLt
  obtain ⟨r, j, rfl⟩ : ∃ (r : Fin 256) (j : Fin 2048), y = (ix2 r j : S256x2048.Idx) := ⟨y 0, y 1, eq_ix2 y⟩
  have he : ((cfg0.win 8).blk t).view.emb (ix2 r j : S256x2048.Idx) = (ix2 ⟨t.val * 256 + r.val, by omega⟩ j : S8192x2048.Idx) := by
    blk_ext [idx t]
  rw [he]
  refine (keys_at _ _ _ _ _ _ _ r j).trans (Eq.trans ?_ (heads_at _ _ _ _).symm)
  refine normed_congr _ _ _ _ _ _ _ (fun k => (read_k m c t r k (by omega)).trans ?_) (read_kw m c t)
  pointwise [KCOLS]
  try blk_ext

/-- The keys' bf16 copy. -/
theorem final_kb (c : Dev nD) : (dats m 0 c).arrAt 9 (cfgs 0).N
    = truncf .bf16 (HEADS (KCOLS (m ((c : Thread nD τ).loc main_arg0))) (m ((c : Thread nD τ).loc main_arg3))) Cert.PrepPRefIdeal.Gen.bitsLt_bf16_f32 := by
  refine (dats m 0 c).arrAt_eq_of_covers 9 _ (by decide +kernel) fun t _ y => ?_
  blk_simp
  rw [after0_9]
  have ht : t.val < 32 := t.isLt
  obtain ⟨r, j, rfl⟩ : ∃ (r : Fin 256) (j : Fin 2048), y = (ix2 r j : S256x2048.Idx) := ⟨y 0, y 1, eq_ix2 y⟩
  have he : ((cfg0.win 9).blk t).view.emb (ix2 r j : S256x2048.Idx) = (ix2 ⟨t.val * 256 + r.val, by omega⟩ j : S8192x2048.Idx) := by
    blk_ext [idx t]
  rw [he]
  refine (keys_bf16_at _ _ _ _ _ _ _ r j).trans (Eq.trans ?_ (heads_at _ _ _ _).symm)
  refine normed_congr _ _ _ _ _ _ _ (fun k => (read_k m c t r k (by omega)).trans ?_) (read_kw m c t)
  pointwise [KCOLS]
  try blk_ext

/-- The values' block. -/
theorem values_at (x0 x1 x2 : Vec Ideal S256x2048 .f32) (x3 : Vec Ideal S256x128 .f32) (x4 x5 x6 : Vec Ideal S1x128 .f32) :
    out0_10 (F := Ideal) x0 x1 x2 x3 x4 x5 x6 = x2 := by
  unfold out0_10
  frame_out

/-- The values' bf16 block. -/
theorem values_bf16_at (x0 x1 x2 : Vec Ideal S256x2048 .f32) (x3 : Vec Ideal S256x128 .f32) (x4 x5 x6 : Vec Ideal S1x128 .f32) :
    out0_11 (F := Ideal) x0 x1 x2 x3 x4 x5 x6 = k0_pay60 x2 := by
  unfold out0_11
  frame_out

/-- The log-forget's block. -/
theorem logf_at (x0 x1 x2 : Vec Ideal S256x2048 .f32) (x3 : Vec Ideal S256x128 .f32) (x4 x5 x6 : Vec Ideal S1x128 .f32) :
    out0_12 (F := Ideal) x0 x1 x2 x3 x4 x5 x6 = k0_pay1 (k0_pay62 x3 x6) (k0_pay63 x3 x6) k0_pay64 := by
  unfold out0_12
  frame_out

/-- The values the call leaves. -/
theorem final_v (c : Dev nD) : (dats m 0 c).arrAt 10 (cfgs 0).N = VCOLS (m ((c : Thread nD τ).loc main_arg0)) := by
  refine (dats m 0 c).arrAt_eq_of_covers 10 _ (by decide +kernel) fun t _ y => ?_
  blk_simp
  rw [after0_10, values_at]
  have ht : t.val < 32 := t.isLt
  obtain ⟨r, j, rfl⟩ : ∃ (r : Fin 256) (j : Fin 2048), y = (ix2 r j : S256x2048.Idx) := ⟨y 0, y 1, eq_ix2 y⟩
  have he : ((cfg0.win 10).blk t).view.emb (ix2 r j : S256x2048.Idx) = (ix2 ⟨t.val * 256 + r.val, by omega⟩ j : S8192x2048.Idx) := by
    blk_ext [idx t]
  rw [he]
  refine (read_v m c t r j (by omega)).trans ?_
  pointwise [VCOLS]
  try blk_ext

/-- The values' bf16 copy. -/
theorem final_vb (c : Dev nD) : (dats m 0 c).arrAt 11 (cfgs 0).N
    = truncf .bf16 (VCOLS (m ((c : Thread nD τ).loc main_arg0))) Cert.PrepPRefIdeal.Gen.bitsLt_bf16_f32 := by
  refine (dats m 0 c).arrAt_eq_of_covers 11 _ (by decide +kernel) fun t _ y => ?_
  blk_simp
  rw [after0_11, values_bf16_at]
  have ht : t.val < 32 := t.isLt
  obtain ⟨r, j, rfl⟩ : ∃ (r : Fin 256) (j : Fin 2048), y = (ix2 r j : S256x2048.Idx) := ⟨y 0, y 1, eq_ix2 y⟩
  have he : ((cfg0.win 11).blk t).view.emb (ix2 r j : S256x2048.Idx) = (ix2 ⟨t.val * 256 + r.val, by omega⟩ j : S8192x2048.Idx) := by
    blk_ext [idx t]
  rw [he]
  refine (read_v m c t r j (by omega)).trans ?_
  pointwise [VCOLS]
  try blk_ext

/-- The gates of the 16 heads before the log-sigmoid. -/
abbrev GATES (G : FVec Ideal S8448x128 .f32) (B : FVec Ideal S16 .f32) : FVec Ideal S8192x16 .f32 :=
  addf (extractStridedSlice Cert.PrepPRefIdeal.S8192x16 ![0, 0] (extractStridedSlice Cert.PrepPRefIdeal.S8192x128 ![0, 0] G
      Cert.PrepPRefIdeal.Gen.slices_S8448x128_S8192x128_0_0) Cert.PrepPRefIdeal.Gen.slices_S8192x128_S8192x16_0_0)
    (broadcastInDim Cert.PrepPRefIdeal.S8192x16 ![0, 1] Cert.PrepPRefIdeal.Gen.bcast_S1x16_S8192x16_0_1
      (broadcastInDim Cert.PrepPRefIdeal.S1x16 ![1] Cert.PrepPRefIdeal.Gen.bcast_S16_S1x16_1 B))

/-- The reference's zeros. -/
abbrev ZEROS : FVec Ideal S8192x16 .f32 :=
  broadcastInDim Cert.PrepPRefIdeal.S8192x16 ![] Cert.PrepPRefIdeal.Gen.bcast_S_S8192x16 (constant Cert.PrepPRefIdeal.S_ .f32 0x00000000#32)

/-- The reference's log-sigmoid. -/
abbrev LOGSIG (X : FVec Ideal S8192x16 .f32) : FVec Ideal S8192x16 .f32 :=
  Host.negf (select (cmpf .une (subf (Host.negf X) ZEROS) (subf (Host.negf X) ZEROS)) (addf (Host.negf X) ZEROS)
    (addf (maximumf (Host.negf X) ZEROS) (Host.log1p (Host.exp (Host.negf (Host.absf (subf (Host.negf X) ZEROS)))))))

/-- The reference's log-sigmoid at an index. -/
theorem logsig_at (X : FVec Ideal S8192x16 .f32) (i : S8192x16.Idx) :
    LOGSIG X i = -(max (-(X i)) 0 + Ideal.log1p (Ideal.exp (-max (-(X i) - 0) (-(-(X i) - 0))))) := by
  pointwise [LOGSIG, ZEROS]
  rw [if_neg (fun h => h rfl)]
  rfl

/-- The kernel's log-sigmoid at an index. -/
theorem forget_tile (X : FVec Ideal S256x128 .f32) (B : FVec Ideal S1x128 .f32) (r : Fin 256) (j : Fin 128) :
    k0_pay1 (F := Ideal) (k0_pay62 X B) (k0_pay63 X B) k0_pay64 (ix2 r j)
      = min (X (ix2 r j) + B (ix2 0 j)) 0
          - Ideal.log1p (Ideal.exp (0 - max (X (ix2 r j) + B (ix2 0 j)) (-(X (ix2 r j) + B (ix2 0 j))))) := by
  pointwise [k0_pay1, k0_pay62, k0_pay63, k0_pay64, k0_pay61]
  rfl

/-- The bias over 128 lanes, at the first 16. -/
theorem pad_at (B : FVec Ideal S16 .f32) (k : Fin 16) : PAD B (ix2 0 ⟨k.val, by omega⟩) = B (ix1 k) := by
  show Host.dynamicUpdateSlice _ _ _ _ _ = _
  rw [Host.dynamicUpdateSlice_eq_updateSlice _ _ _ _ (fun _ => 0) (by decide) (by decide)]
  pointwise

/-- The log-forget of every lane, from the gates and the bias over 128 lanes. -/
def FORGET (G : FVec Ideal S8448x128 .f32) (B : FVec Ideal S1x128 .f32) : FVec Ideal S8192x128 .f32 := fun i =>
  min (G (ix2 ⟨(i 0).val, lt_of_lt_of_le (i 0).isLt (by decide)⟩ (i 1)) + B (ix2 0 (i 1))) 0
    - Ideal.log1p (Ideal.exp (0 - max (G (ix2 ⟨(i 0).val, lt_of_lt_of_le (i 0).isLt (by decide)⟩ (i 1)) + B (ix2 0 (i 1)))
        (-(G (ix2 ⟨(i 0).val, lt_of_lt_of_le (i 0).isLt (by decide)⟩ (i 1)) + B (ix2 0 (i 1))))))

/-- What the call leaves of it. -/
theorem final_f (c : Dev nD) : (dats m 0 c).arrAt 12 (cfgs 0).N
    = FORGET (m ((c : Thread nD τ).loc main_arg1)) (PAD (m ((c : Thread nD τ).loc main_arg4))) := by
  refine (dats m 0 c).arrAt_eq_of_covers 12 _ (by decide +kernel) fun t _ y => ?_
  blk_simp
  rw [after0_12, logf_at]
  have ht : t.val < 32 := t.isLt
  obtain ⟨r, j, rfl⟩ : ∃ (r : Fin 256) (j : Fin 128), y = (ix2 r j : S256x128.Idx) := ⟨y 0, y 1, eq_ix2 y⟩
  have he : ((cfg0.win 12).blk t).view.emb (ix2 r j : S256x128.Idx) = (ix2 ⟨t.val * 256 + r.val, by omega⟩ j : S8192x128.Idx) := by
    blk_ext [idx t]
  rw [he]
  refine (forget_tile _ _ r j).trans ?_
  have e : (show FVec Ideal S256x128 .f32 from iblk m c 3 t) (ix2 r j) + (show FVec Ideal S1x128 .f32 from iblk m c 6 t) (ix2 0 j)
      = (show FVec Ideal S8448x128 .f32 from m ((c : Thread nD τ).loc main_arg1)) (ix2 ⟨t.val * 256 + r.val, by omega⟩ j)
        + PAD (m ((c : Thread nD τ).loc main_arg4)) (ix2 0 j) :=
    congrArg₂ (· + ·) (read_f m c t r j (by omega)) (read_bias m c t j)
  exact congrArg (fun z : EReal => min z 0 - Ideal.log1p (Ideal.exp (0 - max z (-z)))) e

/-- The log-forget of the 16 heads is the reference's. -/
theorem forget_eq (G : FVec Ideal S8448x128 .f32) (B : FVec Ideal S16 .f32) :
    extractStridedSlice S8192x16 ![0, 0] (FORGET G (PAD B)) slices_S8192x128_S8192x16_0_0 = LOGSIG (GATES G B) := by
  funext i
  obtain ⟨r, j, rfl⟩ : ∃ (r : Fin 8192) (j : Fin 16), i = (ix2 r j : S8192x16.Idx) := ⟨i 0, i 1, eq_ix2 i⟩
  refine Eq.trans ?_ (logsig_at _ _).symm
  refine Eq.trans ?_ (PrepArith.log_sigmoid _)
  have e : G (ix2 ⟨r.val, by omega⟩ ⟨j.val, by omega⟩) + PAD B (ix2 0 ⟨j.val, by omega⟩) = GATES G B (ix2 r j) := by
    rw [pad_at]
    pointwise [GATES]
  refine Eq.trans ?_ (congrArg (fun z : EReal => min z 0 - Ideal.log1p (Ideal.exp (0 - max z (-z)))) e)
  generalize PAD B = D
  pointwise [FORGET]

/-- What the host's slice after the call leaves. -/
theorem tail_f (c : Dev nD) : Pipeline.afterTail₀ cfgs (dats m) 0 (V0 m) [hostOps1] c main_v6
    = extractStridedSlice S8192x16 ![0, 0] ((dats m 0 c).arrAt 12 (cfgs 0).N) slices_S8192x128_S8192x16_0_0 := by
  unfold Pipeline.afterTail₀
  simp only [hostOps1, List.flatten_cons, List.flatten_nil, List.append_nil, List.cons_append, List.nil_append]
  after_region_results
  exact congrArg (fun A => extractStridedSlice S8192x16 ![0, 0] A slices_S8192x128_S8192x16_0_0)
    ((dats m 0 c).withArrays_arrAt sharedIn0 (V0 m c) (fun w => A_eq m c w) 12)

/-- The log-forget the kernel returns is the reference's. -/
theorem result_f (c : Dev nD) : Pipeline.afterTail₀ cfgs (dats m) 0 (V0 m) [hostOps1] c main_v6
    = LOGSIG (GATES (m ((c : Thread nD τ).loc main_arg1)) (m ((c : Thread nD τ).loc main_arg4))) :=
  (tail_f m c).trans ((congrArg (fun A => extractStridedSlice S8192x16 ![0, 0] A slices_S8192x128_S8192x16_0_0) (final_f m c)).trans
    (forget_eq _ _))

end Cert.PrepPIdeal.Heads

end
-- ==== Proof.PrepPClaim.lean ====
module

public import proofs.«01_k».proof.Defs
public import proofs.«01_k».proof.Proof.PrepP
public import Idealize.ShloMosaic.Adequacy
public import Idealize.ShloMosaic.Init

@[expose] public section

set_option maxRecDepth 16384
set_option maxHeartbeats 2000000

/-! The prompt's queries, keys, values and log-forget from the projections: the kernel's run leaves the reference's. -/

noncomputable section

open Idealize.ShloMosaic Idealize.ShloMosaic.TcCoe Idealize.SL.Sem

namespace Cert.PrepPIdeal.Heads

/-- The kernel's six results are the reference's. -/
theorem algebraic_PrepP : Cert.algebraic_PrepPIdeal_PrepPRefIdeal := by
  pair_intro
  · run_from Cert.PrepPIdeal.Gen.run_main m g
    · exact Cert.PrepPIdeal.Gen.W_main_arg2 m _ c
    · exact Cert.PrepPIdeal.Gen.W_main_arg3 m _ c
    · exact Cert.PrepPIdeal.Gen.W_main_arg4 m _ c
  · hlo_run
    · exact (final_q m c).symm
    · exact (final_k m c).symm
    · exact (final_kb m c).symm
    · exact (final_v m c).symm
    · exact (final_vb m c).symm
    · exact (result_f m c).symm

end Cert.PrepPIdeal.Heads

end
-- ==== Proof.PrepS.lean ====
module

public import proofs.«01_k».proof.Proof.Gen.PrepSIdeal.Frame
public import proofs.«01_k».proof.Proof.Gen.PrepSRefIdeal.Run
public import proofs.«01_k».proof.Proof.PrepP
public import Idealize.ShloMosaic.Lib.Pipeline.ValueKit

@[expose] public section

set_option maxRecDepth 16384

/-! The same of the sample batch: its block is the prompt call's block, at the last 256 rows. -/

noncomputable section

open Idealize.ShloMosaic Idealize.ShloMosaic.TcCoe Idealize.SL.Sem
open Idealize.ShloMosaic.Pipeline (Dat)

namespace Cert.PrepSIdeal.Heads

open Cert.PrepSIdeal Cert.PrepSIdeal.Gen
open Cert.PrepPIdeal.Heads (normed normed_congr queries_at keys_at keys_bf16_at values_at values_bf16_at logf_at forget_tile)

variable (m : (ℓ : Loc nD τ sig) → Buf (Elt Ideal) ℓ)

/-- The queries' block is the prompt call's. -/
theorem out7 (x0 x1 x2 : Vec Ideal S256x2048 .f32) (x3 : Vec Ideal S256x128 .f32) (x4 x5 x6 : Vec Ideal S1x128 .f32) :
    out0_7 (F := Ideal) x0 x1 x2 x3 x4 x5 x6 = Cert.PrepPIdeal.Gen.out0_7 x0 x1 x2 x3 x4 x5 x6 := rfl

/-- So is the keys' block. -/
theorem out8 (x0 x1 x2 : Vec Ideal S256x2048 .f32) (x3 : Vec Ideal S256x128 .f32) (x4 x5 x6 : Vec Ideal S1x128 .f32) :
    out0_8 (F := Ideal) x0 x1 x2 x3 x4 x5 x6 = Cert.PrepPIdeal.Gen.out0_8 x0 x1 x2 x3 x4 x5 x6 := rfl

/-- So is the keys' bf16 block. -/
theorem out9 (x0 x1 x2 : Vec Ideal S256x2048 .f32) (x3 : Vec Ideal S256x128 .f32) (x4 x5 x6 : Vec Ideal S1x128 .f32) :
    out0_9 (F := Ideal) x0 x1 x2 x3 x4 x5 x6 = Cert.PrepPIdeal.Gen.out0_9 x0 x1 x2 x3 x4 x5 x6 := rfl

/-- So is the values' block. -/
theorem out10 (x0 x1 x2 : Vec Ideal S256x2048 .f32) (x3 : Vec Ideal S256x128 .f32) (x4 x5 x6 : Vec Ideal S1x128 .f32) :
    out0_10 (F := Ideal) x0 x1 x2 x3 x4 x5 x6 = Cert.PrepPIdeal.Gen.out0_10 x0 x1 x2 x3 x4 x5 x6 := rfl

/-- So is the values' bf16 block. -/
theorem out11 (x0 x1 x2 : Vec Ideal S256x2048 .f32) (x3 : Vec Ideal S256x128 .f32) (x4 x5 x6 : Vec Ideal S1x128 .f32) :
    out0_11 (F := Ideal) x0 x1 x2 x3 x4 x5 x6 = Cert.PrepPIdeal.Gen.out0_11 x0 x1 x2 x3 x4 x5 x6 := rfl

/-- So is the log-forget's block. -/
theorem out12 (x0 x1 x2 : Vec Ideal S256x2048 .f32) (x3 : Vec Ideal S256x128 .f32) (x4 x5 x6 : Vec Ideal S1x128 .f32) :
    out0_12 (F := Ideal) x0 x1 x2 x3 x4 x5 x6 = Cert.PrepPIdeal.Gen.out0_12 x0 x1 x2 x3 x4 x5 x6 := rfl

/-- The reference's normed heads. -/
abbrev HEADS (X : FVec Ideal S256x2048 .f32) (W : FVec Ideal S128 .f32) : FVec Ideal S256x2048 .f32 :=
  shapeCast Cert.PrepSRefIdeal.S256x2048 (mulf (mulf (shapeCast Cert.PrepSRefIdeal.S256x16x128 X Cert.PrepSRefIdeal.Gen.shapeCasts_S256x2048_S256x16x128)
      (broadcastInDim Cert.PrepSRefIdeal.S256x16x128 ![0, 1, 2] Cert.PrepSRefIdeal.Gen.bcast_S256x16x1_S256x16x128_0_1_2
        (Host.rsqrt (addf (Host.divf (broadcastInDim Cert.PrepSRefIdeal.S256x16x1 ![0, 1] Cert.PrepSRefIdeal.Gen.bcast_S256x16_S256x16x1_0_1
          (Host.reduceAdd (mulf (shapeCast Cert.PrepSRefIdeal.S256x16x128 X Cert.PrepSRefIdeal.Gen.shapeCasts_S256x2048_S256x16x128)
              (shapeCast Cert.PrepSRefIdeal.S256x16x128 X Cert.PrepSRefIdeal.Gen.shapeCasts_S256x2048_S256x16x128))
            (constant Cert.PrepSRefIdeal.S_ .f32 0x00000000#32) Cert.PrepSRefIdeal.Gen.reducesTo_S256x16x128_S256x16_d2 Cert.PrepSRefIdeal.Gen.h_S_))
          (broadcastInDim Cert.PrepSRefIdeal.S256x16x1 ![] Cert.PrepSRefIdeal.Gen.bcast_S_S256x16x1 (constant Cert.PrepSRefIdeal.S_ .f32 0x43000000#32)))
          (broadcastInDim Cert.PrepSRefIdeal.S256x16x1 ![] Cert.PrepSRefIdeal.Gen.bcast_S_S256x16x1 (constant Cert.PrepSRefIdeal.S_ .f32 0x358637BD#32))))))
    (broadcastInDim Cert.PrepSRefIdeal.S256x16x128 ![0, 1, 2] Cert.PrepSRefIdeal.Gen.bcast_S1x1x128_S256x16x128_0_1_2
      (broadcastInDim Cert.PrepSRefIdeal.S1x1x128 ![2] Cert.PrepSRefIdeal.Gen.bcast_S128_S1x1x128_2 W)))
    Cert.PrepSRefIdeal.Gen.shapeCasts_S256x16x128_S256x2048

/-- The reference's normed heads at an index. -/
theorem heads_at (X : FVec Ideal S256x2048 .f32) (W : FVec Ideal S128 .f32) (r : Fin 256) (j : Fin 2048) :
    HEADS X W (ix2 r j) = normed X (fun k => W (ix1 k)) r j := by
  pointwise [HEADS]
  rfl

/-- The windows' block indices over the grid. -/
theorem idx : ∀ t : Fin cfg0.N, win0_0.index t = ![32 + t.val, 0] ∧ win0_1.index t = ![32 + t.val, 1] ∧ win0_2.index t = ![32 + t.val, 2]
    ∧ win0_3.index t = ![32 + t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The queries' weight as the region finds it. -/
theorem entry_q (c : Dev nD) : V0 m c (Proc.devRef .tc main_v3) = shapeCast S1x128 (m ((c : Thread nD τ).loc main_arg2)) shapeCasts_S128_S1x128 := by
  simp only [V0, hostOps0, List.flatten_cons, List.flatten_nil, List.append_nil, List.cons_append, List.nil_append]
  after_results
  try rfl

/-- The keys' weight as the region finds it. -/
theorem entry_k (c : Dev nD) : V0 m c (Proc.devRef .tc main_v4) = shapeCast S1x128 (m ((c : Thread nD τ).loc main_arg3)) shapeCasts_S128_S1x128 := by
  simp only [V0, hostOps0, List.flatten_cons, List.flatten_nil, List.append_nil, List.cons_append, List.nil_append]
  after_results
  try rfl

/-- The gates' bias over 128 lanes, zeros beyond the 16. -/
abbrev PAD (B : FVec Ideal S16 .f32) : FVec Ideal S1x128 .f32 :=
  Host.dynamicUpdateSlice (broadcastInDim S1x128 ![] bcast_S_S1x128 (constant (F := Ideal) S_ .f32 0x00000000#32))
    (shapeCast S1x16 B shapeCasts_S16_S1x16) (fun _ => (0#32).toInt) updateFits_S1x128_S1x16

/-- The gates' bias as the region finds it, over 128 lanes. -/
theorem entry_bias (c : Dev nD) : V0 m c (Proc.devRef .tc main_v2)
    = PAD (m ((c : Thread nD τ).loc main_arg4)) := by
  simp only [V0, hostOps0, List.flatten_cons, List.flatten_nil, List.append_nil, List.cons_append, List.nil_append]
  after_results
  refine congrArg₂ (fun (u : FVec Ideal S1x16 .f32) (i : Fin 2 → Int) => Host.dynamicUpdateSlice (s := S1x128) _ u i updateFits_S1x128_S1x16) rfl (funext fun k => ?_)
  match k with
  | 0 =>
    refine congrArg (fun v : Vec Ideal S_ .i32 => BitVec.toInt (v (Shape.Idx.first h_S_))) (?_ : _ = constantI S_ 32 0#32)
    refine (cast_eq _ _).trans ?_
    change HloOp.result _ _ (Proc.devRef .tc main_c) = _
    rw [StableHlo.nullary_result_ne]; rotate_left; decide
    exact StableHlo.nullary_result ..
  | 1 =>
    refine congrArg (fun v : Vec Ideal S_ .i32 => BitVec.toInt (v (Shape.Idx.first h_S_))) (?_ : _ = constantI S_ 32 0#32)
    refine (cast_eq _ _).trans ?_
    change HloOp.result _ _ (Proc.devRef .tc main_c_0) = _
    exact StableHlo.nullary_result ..

/-- The queries' block of the projection. -/
theorem read_q (c : Dev nD) (t : Fin cfg0.N) (r : Fin 256) (j : Fin 2048) (h : 8192 + (t.val * 256 + r.val) < 8448) :
    (show FVec Ideal S256x2048 .f32 from iblk m c 0 t) (ix2 r j)
      = (show FVec Ideal S8448x8192 .f32 from m ((c : Thread nD τ).loc main_arg0)) (ix2 ⟨8192 + (t.val * 256 + r.val), h⟩ ⟨j.val, by omega⟩) := by
  blk_simp [iblk, idx t]
  rw [V_main_arg0]
  blk_ext [idx t]

/-- The keys' block of the projection. -/
theorem read_k (c : Dev nD) (t : Fin cfg0.N) (r : Fin 256) (j : Fin 2048) (h : 8192 + (t.val * 256 + r.val) < 8448) :
    (show FVec Ideal S256x2048 .f32 from iblk m c 1 t) (ix2 r j)
      = (show FVec Ideal S8448x8192 .f32 from m ((c : Thread nD τ).loc main_arg0)) (ix2 ⟨8192 + (t.val * 256 + r.val), h⟩ ⟨2048 + j.val, by omega⟩) := by
  blk_simp [iblk, idx t]
  rw [V_main_arg0]
  blk_ext [idx t]

/-- The values' block of the projection. -/
theorem read_v (c : Dev nD) (t : Fin cfg0.N) (r : Fin 256) (j : Fin 2048) (h : 8192 + (t.val * 256 + r.val) < 8448) :
    (show FVec Ideal S256x2048 .f32 from iblk m c 2 t) (ix2 r j)
      = (show FVec Ideal S8448x8192 .f32 from m ((c : Thread nD τ).loc main_arg0)) (ix2 ⟨8192 + (t.val * 256 + r.val), h⟩ ⟨4096 + j.val, by omega⟩) := by
  blk_simp [iblk, idx t]
  rw [V_main_arg0]
  blk_ext [idx t]

/-- The gates' block. -/
theorem read_f (c : Dev nD) (t : Fin cfg0.N) (r : Fin 256) (j : Fin 128) (h : 8192 + (t.val * 256 + r.val) < 8448) :
    (show FVec Ideal S256x128 .f32 from iblk m c 3 t) (ix2 r j)
      = (show FVec Ideal S8448x128 .f32 from m ((c : Thread nD τ).loc main_arg1)) (ix2 ⟨8192 + (t.val * 256 + r.val), h⟩ j) := by
  blk_simp [iblk, idx t]
  rw [V_main_arg1]
  blk_ext [idx t]

/-- The queries' weight in the block. -/
theorem read_qw (c : Dev nD) (t : Fin cfg0.N) (k : Fin 128) :
    (show FVec Ideal S1x128 .f32 from iblk m c 4 t) (ix2 0 k) = (show FVec Ideal S128 .f32 from m ((c : Thread nD τ).loc main_arg2)) (ix1 k) := by
  show V0 m c (Proc.devRef .tc main_v3) _ = _
  rw [entry_q]
  blk_simp [iblk, idx t]
  pointwise
  blk_ext [idx t]

/-- The keys' weight in the block. -/
theorem read_kw (c : Dev nD) (t : Fin cfg0.N) (k : Fin 128) :
    (show FVec Ideal S1x128 .f32 from iblk m c 5 t) (ix2 0 k) = (show FVec Ideal S128 .f32 from m ((c : Thread nD τ).loc main_arg3)) (ix1 k) := by
  show V0 m c (Proc.devRef .tc main_v4) _ = _
  rw [entry_k]
  blk_simp [iblk, idx t]
  pointwise
  blk_ext [idx t]

/-- The gates' bias in the block, over 128 lanes. -/
theorem read_bias (c : Dev nD) (t : Fin cfg0.N) (k : Fin 128) :
    (show FVec Ideal S1x128 .f32 from iblk m c 6 t) (ix2 0 k) = PAD (m ((c : Thread nD τ).loc main_arg4)) (ix2 0 k) := by
  show V0 m c (Proc.devRef .tc main_v2) _ = _
  rw [entry_bias]
  have e : ((cfg0.win 6).blk t).view.emb (ix2 0 k : S1x128.Idx) = (ix2 0 k : S1x128.Idx) := by
    blk_ext [idx t]
  exact congrArg _ e

/-- The projection's columns of the queries. -/
abbrev QCOLS (P : FVec Ideal S8448x8192 .f32) : FVec Ideal S256x2048 .f32 :=
  extractStridedSlice Cert.PrepSRefIdeal.S256x2048 ![0, 0] (extractStridedSlice Cert.PrepSRefIdeal.S256x8192 ![8192, 0] P
    Cert.PrepSRefIdeal.Gen.slices_S8448x8192_S256x8192_8192_0) Cert.PrepSRefIdeal.Gen.slices_S256x8192_S256x2048_0_0

/-- The projection's columns of the keys. -/
abbrev KCOLS (P : FVec Ideal S8448x8192 .f32) : FVec Ideal S256x2048 .f32 :=
  extractStridedSlice Cert.PrepSRefIdeal.S256x2048 ![0, 2048] (extractStridedSlice Cert.PrepSRefIdeal.S256x8192 ![8192, 0] P
    Cert.PrepSRefIdeal.Gen.slices_S8448x8192_S256x8192_8192_0) Cert.PrepSRefIdeal.Gen.slices_S256x8192_S256x2048_0_2048

/-- The projection's columns of the values. -/
abbrev VCOLS (P : FVec Ideal S8448x8192 .f32) : FVec Ideal S256x2048 .f32 :=
  extractStridedSlice Cert.PrepSRefIdeal.S256x2048 ![0, 4096] (extractStridedSlice Cert.PrepSRefIdeal.S256x8192 ![8192, 0] P
    Cert.PrepSRefIdeal.Gen.slices_S8448x8192_S256x8192_8192_0) Cert.PrepSRefIdeal.Gen.slices_S256x8192_S256x2048_0_4096

/-- The reference's queries. -/
abbrev QREF (P : FVec Ideal S8448x8192 .f32) (W : FVec Ideal S128 .f32) : FVec Ideal S256x2048 .bf16 :=
  truncf .bf16 (Host.divf (HEADS (QCOLS P) W) (broadcastInDim Cert.PrepSRefIdeal.S256x2048 ![] Cert.PrepSRefIdeal.Gen.bcast_S_S256x2048
    (mulf (Host.sqrt (constant Cert.PrepSRefIdeal.S_ .f32 0x43000000#32)) (Host.log (constant Cert.PrepSRefIdeal.S_ .f32 0x40000000#32)))))
    Cert.PrepSRefIdeal.Gen.bitsLt_bf16_f32

/-- Heads over sqrt(128) ln 2, at an index. -/
theorem scaled_at (H : FVec Ideal S256x2048 .f32) (i : S256x2048.Idx) :
    truncf .bf16 (Host.divf H (broadcastInDim Cert.PrepSRefIdeal.S256x2048 ![] Cert.PrepSRefIdeal.Gen.bcast_S_S256x2048
      (mulf (Host.sqrt (constant Cert.PrepSRefIdeal.S_ .f32 0x43000000#32)) (Host.log (constant Cert.PrepSRefIdeal.S_ .f32 0x40000000#32)))))
      Cert.PrepSRefIdeal.Gen.bitsLt_bf16_f32 i
      = Ideal.div (H i) (Ideal.sqrt (Ideal.ofBits .f32 0x43000000#32) * Ideal.log (Ideal.ofBits .f32 0x40000000#32)) := by
  pointwise

/-- The reference's queries at an index. -/
theorem qref_at (P : FVec Ideal S8448x8192 .f32) (W : FVec Ideal S128 .f32) (r : Fin 256) (j : Fin 2048) :
    QREF P W (ix2 r j) = normed (QCOLS P) (fun k => W (ix1 k)) r j * (((Real.sqrt 128)⁻¹ * (Real.log 2)⁻¹ : ℝ) : EReal) :=
  (scaled_at _ _).trans ((congrArg (fun z : EReal => Ideal.div z (Ideal.sqrt (Ideal.ofBits .f32 0x43000000#32) * Ideal.log (Ideal.ofBits .f32 0x40000000#32)))
    (heads_at _ _ r j)).trans (PrepArith.scale _).symm)

/-- The queries the call leaves. -/
theorem final_q (c : Dev nD) : (dats m 0 c).arrAt 7 (cfgs 0).N
    = QREF (m ((c : Thread nD τ).loc main_arg0)) (m ((c : Thread nD τ).loc main_arg2)) := by
  refine (dats m 0 c).arrAt_eq_of_covers 7 _ (by decide +kernel) fun t _ y => ?_
  blk_simp
  rw [after0_7, out7]
  have ht : t.val < 1 := t.isLt
  obtain ⟨r, j, rfl⟩ : ∃ (r : Fin 256) (j : Fin 2048), y = (ix2 r j : S256x2048.Idx) := ⟨y 0, y 1, eq_ix2 y⟩
  have he : ((cfg0.win 7).blk t).view.emb (ix2 r j : S256x2048.Idx) = (ix2 ⟨t.val * 256 + r.val, by omega⟩ j : S256x2048.Idx) := by
    blk_ext [idx t]
  rw [he]
  refine (queries_at _ _ _ _ _ _ _ r j).trans (Eq.trans ?_ (qref_at _ _ _ _).symm)
  refine congrArg (· * _) (normed_congr _ _ _ _ _ _ _ (fun k => (read_q m c t r k (by omega)).trans ?_) (read_qw m c t))
  pointwise [QCOLS]
  try blk_ext

/-- The keys the call leaves. -/
theorem final_k (c : Dev nD) : (dats m 0 c).arrAt 8 (cfgs 0).N
    = HEADS (KCOLS (m ((c : Thread nD τ).loc main_arg0))) (m ((c : Thread nD τ).loc main_arg3)) := by
  refine (dats m 0 c).arrAt_eq_of_covers 8 _ (by decide +kernel) fun t _ y => ?_
  blk_simp
  rw [after0_8, out8]
  have ht : t.val < 1 := t.isLt
  obtain ⟨r, j, rfl⟩ : ∃ (r : Fin 256) (j : Fin 2048), y = (ix2 r j : S256x2048.Idx) := ⟨y 0, y 1, eq_ix2 y⟩
  have he : ((cfg0.win 8).blk t).view.emb (ix2 r j : S256x2048.Idx) = (ix2 ⟨t.val * 256 + r.val, by omega⟩ j : S256x2048.Idx) := by
    blk_ext [idx t]
  rw [he]
  refine (keys_at _ _ _ _ _ _ _ r j).trans (Eq.trans ?_ (heads_at _ _ _ _).symm)
  refine normed_congr _ _ _ _ _ _ _ (fun k => (read_k m c t r k (by omega)).trans ?_) (read_kw m c t)
  pointwise [KCOLS]
  try blk_ext

/-- The keys' bf16 copy. -/
theorem final_kb (c : Dev nD) : (dats m 0 c).arrAt 9 (cfgs 0).N
    = truncf .bf16 (HEADS (KCOLS (m ((c : Thread nD τ).loc main_arg0))) (m ((c : Thread nD τ).loc main_arg3))) Cert.PrepSRefIdeal.Gen.bitsLt_bf16_f32 := by
  refine (dats m 0 c).arrAt_eq_of_covers 9 _ (by decide +kernel) fun t _ y => ?_
  blk_simp
  rw [after0_9, out9]
  have ht : t.val < 1 := t.isLt
  obtain ⟨r, j, rfl⟩ : ∃ (r : Fin 256) (j : Fin 2048), y = (ix2 r j : S256x2048.Idx) := ⟨y 0, y 1, eq_ix2 y⟩
  have he : ((cfg0.win 9).blk t).view.emb (ix2 r j : S256x2048.Idx) = (ix2 ⟨t.val * 256 + r.val, by omega⟩ j : S256x2048.Idx) := by
    blk_ext [idx t]
  rw [he]
  refine (keys_bf16_at _ _ _ _ _ _ _ r j).trans (Eq.trans ?_ (heads_at _ _ _ _).symm)
  refine normed_congr _ _ _ _ _ _ _ (fun k => (read_k m c t r k (by omega)).trans ?_) (read_kw m c t)
  pointwise [KCOLS]
  try blk_ext

/-- The values the call leaves. -/
theorem final_v (c : Dev nD) : (dats m 0 c).arrAt 10 (cfgs 0).N = VCOLS (m ((c : Thread nD τ).loc main_arg0)) := by
  refine (dats m 0 c).arrAt_eq_of_covers 10 _ (by decide +kernel) fun t _ y => ?_
  blk_simp
  rw [after0_10, out10, values_at]
  have ht : t.val < 1 := t.isLt
  obtain ⟨r, j, rfl⟩ : ∃ (r : Fin 256) (j : Fin 2048), y = (ix2 r j : S256x2048.Idx) := ⟨y 0, y 1, eq_ix2 y⟩
  have he : ((cfg0.win 10).blk t).view.emb (ix2 r j : S256x2048.Idx) = (ix2 ⟨t.val * 256 + r.val, by omega⟩ j : S256x2048.Idx) := by
    blk_ext [idx t]
  rw [he]
  refine (read_v m c t r j (by omega)).trans ?_
  pointwise [VCOLS]
  try blk_ext

/-- The values' bf16 copy. -/
theorem final_vb (c : Dev nD) : (dats m 0 c).arrAt 11 (cfgs 0).N
    = truncf .bf16 (VCOLS (m ((c : Thread nD τ).loc main_arg0))) Cert.PrepSRefIdeal.Gen.bitsLt_bf16_f32 := by
  refine (dats m 0 c).arrAt_eq_of_covers 11 _ (by decide +kernel) fun t _ y => ?_
  blk_simp
  rw [after0_11, out11, values_bf16_at]
  have ht : t.val < 1 := t.isLt
  obtain ⟨r, j, rfl⟩ : ∃ (r : Fin 256) (j : Fin 2048), y = (ix2 r j : S256x2048.Idx) := ⟨y 0, y 1, eq_ix2 y⟩
  have he : ((cfg0.win 11).blk t).view.emb (ix2 r j : S256x2048.Idx) = (ix2 ⟨t.val * 256 + r.val, by omega⟩ j : S256x2048.Idx) := by
    blk_ext [idx t]
  rw [he]
  refine (read_v m c t r j (by omega)).trans ?_
  pointwise [VCOLS]
  try blk_ext

/-- The gates of the 16 heads before the log-sigmoid. -/
abbrev GATES (G : FVec Ideal S8448x128 .f32) (B : FVec Ideal S16 .f32) : FVec Ideal S256x16 .f32 :=
  addf (extractStridedSlice Cert.PrepSRefIdeal.S256x16 ![0, 0] (extractStridedSlice Cert.PrepSRefIdeal.S256x128 ![8192, 0] G
      Cert.PrepSRefIdeal.Gen.slices_S8448x128_S256x128_8192_0) Cert.PrepSRefIdeal.Gen.slices_S256x128_S256x16_0_0)
    (broadcastInDim Cert.PrepSRefIdeal.S256x16 ![0, 1] Cert.PrepSRefIdeal.Gen.bcast_S1x16_S256x16_0_1
      (broadcastInDim Cert.PrepSRefIdeal.S1x16 ![1] Cert.PrepSRefIdeal.Gen.bcast_S16_S1x16_1 B))

/-- The reference's zeros. -/
abbrev ZEROS : FVec Ideal S256x16 .f32 :=
  broadcastInDim Cert.PrepSRefIdeal.S256x16 ![] Cert.PrepSRefIdeal.Gen.bcast_S_S256x16 (constant Cert.PrepSRefIdeal.S_ .f32 0x00000000#32)

/-- The reference's log-sigmoid. -/
abbrev LOGSIG (X : FVec Ideal S256x16 .f32) : FVec Ideal S256x16 .f32 :=
  Host.negf (select (cmpf .une (subf (Host.negf X) ZEROS) (subf (Host.negf X) ZEROS)) (addf (Host.negf X) ZEROS)
    (addf (maximumf (Host.negf X) ZEROS) (Host.log1p (Host.exp (Host.negf (Host.absf (subf (Host.negf X) ZEROS)))))))

/-- The reference's log-sigmoid at an index. -/
theorem logsig_at (X : FVec Ideal S256x16 .f32) (i : S256x16.Idx) :
    LOGSIG X i = -(max (-(X i)) 0 + Ideal.log1p (Ideal.exp (-max (-(X i) - 0) (-(-(X i) - 0))))) := by
  pointwise [LOGSIG, ZEROS]
  rw [if_neg (fun h => h rfl)]
  rfl

/-- The bias over 128 lanes, at the first 16. -/
theorem pad_at (B : FVec Ideal S16 .f32) (k : Fin 16) : PAD B (ix2 0 ⟨k.val, by omega⟩) = B (ix1 k) := by
  show Host.dynamicUpdateSlice _ _ _ _ _ = _
  rw [Host.dynamicUpdateSlice_eq_updateSlice _ _ _ _ (fun _ => 0) (by decide) (by decide)]
  pointwise

/-- The log-forget of every lane, from the gates and the bias over 128 lanes. -/
def FORGET (G : FVec Ideal S8448x128 .f32) (B : FVec Ideal S1x128 .f32) : FVec Ideal S256x128 .f32 := fun i =>
  min (G (ix2 ⟨8192 + (i 0).val, Nat.add_lt_add_left (i 0).isLt 8192⟩ (i 1)) + B (ix2 0 (i 1))) 0
    - Ideal.log1p (Ideal.exp (0 - max (G (ix2 ⟨8192 + (i 0).val, Nat.add_lt_add_left (i 0).isLt 8192⟩ (i 1)) + B (ix2 0 (i 1)))
        (-(G (ix2 ⟨8192 + (i 0).val, Nat.add_lt_add_left (i 0).isLt 8192⟩ (i 1)) + B (ix2 0 (i 1))))))

/-- What the call leaves of it. -/
theorem final_f (c : Dev nD) : (dats m 0 c).arrAt 12 (cfgs 0).N
    = FORGET (m ((c : Thread nD τ).loc main_arg1)) (PAD (m ((c : Thread nD τ).loc main_arg4))) := by
  refine (dats m 0 c).arrAt_eq_of_covers 12 _ (by decide +kernel) fun t _ y => ?_
  blk_simp
  rw [after0_12, out12, logf_at]
  have ht : t.val < 1 := t.isLt
  obtain ⟨r, j, rfl⟩ : ∃ (r : Fin 256) (j : Fin 128), y = (ix2 r j : S256x128.Idx) := ⟨y 0, y 1, eq_ix2 y⟩
  have he : ((cfg0.win 12).blk t).view.emb (ix2 r j : S256x128.Idx) = (ix2 ⟨t.val * 256 + r.val, by omega⟩ j : S256x128.Idx) := by
    blk_ext [idx t]
  rw [he]
  refine (forget_tile _ _ r j).trans ?_
  have e : (show FVec Ideal S256x128 .f32 from iblk m c 3 t) (ix2 r j) + (show FVec Ideal S1x128 .f32 from iblk m c 6 t) (ix2 0 j)
      = (show FVec Ideal S8448x128 .f32 from m ((c : Thread nD τ).loc main_arg1)) (ix2 ⟨8192 + (t.val * 256 + r.val), by omega⟩ j)
        + PAD (m ((c : Thread nD τ).loc main_arg4)) (ix2 0 j) :=
    congrArg₂ (· + ·) (read_f m c t r j (by omega)) (read_bias m c t j)
  exact congrArg (fun z : EReal => min z 0 - Ideal.log1p (Ideal.exp (0 - max z (-z)))) e

/-- The log-forget of the 16 heads is the reference's. -/
theorem forget_eq (G : FVec Ideal S8448x128 .f32) (B : FVec Ideal S16 .f32) :
    extractStridedSlice S256x16 ![0, 0] (FORGET G (PAD B)) slices_S256x128_S256x16_0_0 = LOGSIG (GATES G B) := by
  funext i
  obtain ⟨r, j, rfl⟩ : ∃ (r : Fin 256) (j : Fin 16), i = (ix2 r j : S256x16.Idx) := ⟨i 0, i 1, eq_ix2 i⟩
  refine Eq.trans ?_ (logsig_at _ _).symm
  refine Eq.trans ?_ (PrepArith.log_sigmoid _)
  have e : G (ix2 ⟨8192 + r.val, by omega⟩ ⟨j.val, by omega⟩) + PAD B (ix2 0 ⟨j.val, by omega⟩) = GATES G B (ix2 r j) := by
    rw [pad_at]
    pointwise [GATES]
  refine Eq.trans ?_ (congrArg (fun z : EReal => min z 0 - Ideal.log1p (Ideal.exp (0 - max z (-z)))) e)
  generalize PAD B = D
  pointwise [FORGET]

/-- What the host's slice after the call leaves. -/
theorem tail_f (c : Dev nD) : Pipeline.afterTail₀ cfgs (dats m) 0 (V0 m) [hostOps1] c main_v6
    = extractStridedSlice S256x16 ![0, 0] ((dats m 0 c).arrAt 12 (cfgs 0).N) slices_S256x128_S256x16_0_0 := by
  unfold Pipeline.afterTail₀
  simp only [hostOps1, List.flatten_cons, List.flatten_nil, List.append_nil, List.cons_append, List.nil_append]
  after_region_results
  exact congrArg (fun A => extractStridedSlice S256x16 ![0, 0] A slices_S256x128_S256x16_0_0)
    ((dats m 0 c).withArrays_arrAt sharedIn0 (V0 m c) (fun w => A_eq m c w) 12)

/-- The log-forget the kernel returns is the reference's. -/
theorem result_f (c : Dev nD) : Pipeline.afterTail₀ cfgs (dats m) 0 (V0 m) [hostOps1] c main_v6
    = LOGSIG (GATES (m ((c : Thread nD τ).loc main_arg1)) (m ((c : Thread nD τ).loc main_arg4))) :=
  (tail_f m c).trans ((congrArg (fun A => extractStridedSlice S256x16 ![0, 0] A slices_S256x128_S256x16_0_0) (final_f m c)).trans
    (forget_eq _ _))

end Cert.PrepSIdeal.Heads

end
-- ==== Proof.PrepSClaim.lean ====
module

public import proofs.«01_k».proof.Defs
public import proofs.«01_k».proof.Proof.PrepS
public import Idealize.ShloMosaic.Adequacy
public import Idealize.ShloMosaic.Init

@[expose] public section

set_option maxRecDepth 16384
set_option maxHeartbeats 2000000

/-! The sample batch's queries, keys, values and log-forget from the projections: the kernel's run leaves the reference's. -/

noncomputable section

open Idealize.ShloMosaic Idealize.ShloMosaic.TcCoe Idealize.SL.Sem

namespace Cert.PrepSIdeal.Heads

/-- The kernel's six results are the reference's. -/
theorem algebraic_PrepS : Cert.algebraic_PrepSIdeal_PrepSRefIdeal := by
  pair_intro
  · run_from Cert.PrepSIdeal.Gen.run_main m g
    · exact Cert.PrepSIdeal.Gen.W_main_arg2 m _ c
    · exact Cert.PrepSIdeal.Gen.W_main_arg3 m _ c
    · exact Cert.PrepSIdeal.Gen.W_main_arg4 m _ c
  · hlo_run
    · exact (final_q m c).symm
    · exact (final_k m c).symm
    · exact (final_kb m c).symm
    · exact (final_v m c).symm
    · exact (final_vb m c).symm
    · exact (result_f m c).symm

end Cert.PrepSIdeal.Heads

end
-- ==== Proof.GateA.lean ====
module

public import proofs.«01_k».proof.Proof.Gen.GateAIdeal.Frame
public import proofs.«01_k».proof.Proof.Gen.GateARefIdeal.Run
public import Idealize.ShloMosaic.Lib.Pipeline.ValueKit
public import Idealize.ShloMosaic.Lib.Pipeline.ReadBack

@[expose] public section

set_option maxRecDepth 16384

/-! The first mixer's gate projection: the product with the weights' last 32 columns, followed by zero columns. -/

noncomputable section

open Idealize.ShloMosaic Idealize.ShloMosaic.TcCoe Idealize.SL.Sem
open Idealize.ShloMosaic.Pipeline (Dat)

namespace Cert.GateAIdeal.Gates

open Cert.GateAIdeal Cert.GateAIdeal.Gen

variable (m : (ℓ : Loc nD τ sig) → Buf (Elt Ideal) ℓ)

/-- The reference's term: the product with the gate columns, padded to 128 columns with zeros. -/
abbrev REF (X : FVec Ideal S8448x2048 .bf16) (W : FVec Ideal S1x2048x8224 .f32) : FVec Ideal S8448x128 .f32 :=
  pad Cert.GateARefIdeal.S8448x128 ![0, 0] ![0, 96] ![0, 0]
    (Host.dotGeneral Cert.GateARefIdeal.dot_S8448x2048_S2048x32_S8448x32_1_0_0_1_n_n none
      (extf .f32 X Cert.GateARefIdeal.Gen.bitsLt_bf16_f32)
      (shapeCast _ (extractStridedSlice Cert.GateARefIdeal.S1x2048x32 ![0, 0, 8192] W
        Cert.GateARefIdeal.Gen.slices_S1x2048x8224_S1x2048x32_0_0_8192) Cert.GateARefIdeal.Gen.shapeCasts_S1x2048x32_S2048x32))
    (sitofp (F := Ideal) .f32 (constantI Cert.GateARefIdeal.S_ 32 0#32)) Cert.GateARefIdeal.Gen.pads_S8448x32_S8448x128_000_0960
    Cert.GateARefIdeal.Gen.h_S_

/-- The windows' block indices over the grid: one block of weights, the row tiles in order. -/
theorem idx : ∀ t : Fin cfg0.N, win0_0.index t = ![t.val, 0] ∧ win0_1.index t = ![0, 0, 0] ∧ win0_2.index t = ![t.val, 0] :=
  (by decide +kernel : ∀ t : Fin grid0.N, _)

/-- The integer zero the columns are padded with is the real zero. -/
theorem zero_pad : FloatOps.sitofp (F := Ideal) .f32 (0#32) = (0 : EReal) := by
  show (((0#32 : BitVec 32).toInt : ℝ) : EReal) = 0
  simp

/-- The transposed gate columns over 128 rows, zeros beyond the 32. -/
abbrev PADW (W : FVec Ideal S1x2048x8224 .f32) : FVec Ideal S1x128x2048 .f32 :=
  pad S1x128x2048 ![0, 0, 0] ![0, 96, 0] ![0, 0, 0]
    (extractStridedSlice S1x32x2048 ![0, 8192, 0] (transpose S1x8224x2048 [0, 2, 1] W transposes_S1x2048x8224_S1x8224x2048_0_2_1)
      slices_S1x8224x2048_S1x32x2048_0_8192_0)
    (sitofp (F := Ideal) .f32 (constantI S_ 32 0#32)) pads_S1x32x2048_S1x128x2048_000_0960_000 h_S_

/-- The weights as the region finds them. -/
theorem entry_weights (c : Dev nD) : V m c main_v2 = PADW (m ((c : Thread nD τ).loc main_arg1)) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results <;> try rfl

/-- The operations before the region leave the weights themselves alone. -/
theorem entry_arg (c : Dev nD) : V m c main_arg1 = m ((c : Thread nD τ).loc main_arg1) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- The padded gate columns at an index. -/
theorem padw_at (W : FVec Ideal S1x2048x8224 .f32) (j : Fin 128) (k : Fin 2048) :
    PADW W (ix3 0 j k) = if h : j.val < 32 then W (ix3 0 k ⟨8192 + j.val, by omega⟩) else (0 : EReal) := by
  pointwise [PADW]
  rw [zero_pad]

/-- The block of weights at an index of it: a gate column of the weights, or a zero. -/
theorem weights (c : Dev nD) (t : Fin cfg0.N) (j : Fin 128) (k : Fin 2048) :
    (show FVec Ideal S1x128x2048 .f32 from iblk m c 1 t) (ix3 0 j k)
      = if h : j.val < 32 then (show FVec Ideal S1x2048x8224 .f32 from m ((c : Thread nD τ).loc main_arg1)) (ix3 0 k ⟨8192 + j.val, by omega⟩)
        else (0 : EReal) := by
  refine Eq.trans ?_ (padw_at _ j k)
  show V m c main_v2 _ = _
  rw [entry_weights]
  blk_ext [iblk, idx t]

/-- Two points read the same block of weights. -/
theorem block_eq (c : Dev nD) (s t : Fin cfg0.N) :
    (show FVec Ideal S1x128x2048 .f32 from iblk m c 1 s) = (show FVec Ideal S1x128x2048 .f32 from iblk m c 1 t) := by
  funext y
  obtain ⟨u, j, k, rfl⟩ : ∃ (u : Fin 1) (j : Fin 128) (k : Fin 2048), y = (ix3 u j k : S1x128x2048.Idx) := ⟨y 0, y 1, y 2, eq_ix3 y⟩
  obtain rfl : u = 0 := Subsingleton.elim _ _
  exact (weights m c s j k).trans (weights m c t j k).symm

/-- The scratch holds the cast weights. -/
theorem scratch (c : Dev nD) : ∀ (n : ℕ) (h : n < cfg0.N),
    (outsAt0 m c n h).2 = k0_pay1 (F := Ideal) (iblk m c 1 ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      exact (ih (Nat.lt_of_succ_lt h)).trans (congrArg (k0_pay1 (F := Ideal)) (block_eq m c _ _))

/-- One tile of the result, from any block of weights. -/
theorem tile (X : FVec Ideal S1056x2048 .bf16) (B : FVec Ideal S1x128x2048 .f32) (r : Fin 1056) (j : Fin 128) :
    k0_pay2 (F := Ideal) X (k0_pay1 (F := Ideal) B) (ix2 r j) = ∑ k : Fin 2048, X (ix2 r k) * B (ix3 0 j k) := by
  pointwise [k0_pay2, k0_pay1]

/-- The reference's term at an index. -/
theorem ref_at (X : FVec Ideal S8448x2048 .bf16) (W : FVec Ideal S1x2048x8224 .f32) (r : Fin 8448) (j : Fin 128) :
    REF X W (ix2 r j) = if h : j.val < 32 then ∑ k : Fin 2048, X (ix2 r k) * W (ix3 0 k ⟨8192 + j.val, by omega⟩) else (0 : EReal) := by
  pointwise [REF]
  rw [zero_pad]

/-- What a point stores is the reference at the place of the array the block lies at. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  have ht : t.val < 8 := t.isLt
  obtain ⟨r, j, rfl⟩ : ∃ (r : Fin 1056) (j : Fin 128), y = (ix2 r j : S1056x128.Idx) := ⟨y 0, y 1, eq_ix2 y⟩
  refine (tile _ _ r j).trans ?_
  have he : ((cfg0.win 2).blk t).view.emb (ix2 r j : S1056x128.Idx)
      = (ix2 ⟨t.val * 1056 + r.val, by omega⟩ j : S8448x128.Idx) := by
    blk_ext [idx t]
  rw [he]
  refine Eq.trans ?_ (ref_at _ _ _ _).symm
  by_cases hj : j.val < 32
  · rw [dif_pos hj]
    refine Finset.sum_congr rfl fun k _ => ?_
    refine Ideal.mul_congr ?_ ((weights m c t j k).trans (dif_pos hj))
    blk_ext [iblk, V, idx t]
  · rw [dif_neg hj]
    refine Finset.sum_eq_zero fun k _ => ?_
    exact (Ideal.mul_congr rfl ((weights m c t j k).trans (dif_neg hj))).trans (mul_zero _)

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch]
    frame_out
    rw [read_unread_whole]
    rw [show iblk m c 1 ⟨t.val - 1, _⟩ = iblk m c 1 t from block_eq m c _ _]
    exact point m c t y

end Cert.GateAIdeal.Gates

end
-- ==== Proof.GateB.lean ====
module

public import proofs.«01_k».proof.Proof.Gen.GateBIdeal.Frame
public import proofs.«01_k».proof.Proof.Gen.GateBRefIdeal.Run
public import Idealize.ShloMosaic.Lib.Pipeline.ValueKit
public import Idealize.ShloMosaic.Lib.Pipeline.ReadBack

@[expose] public section

set_option maxRecDepth 16384

/-! The second mixer's gate projection: the product with the weights' last 16 columns, followed by zero columns. -/

noncomputable section

open Idealize.ShloMosaic Idealize.ShloMosaic.TcCoe Idealize.SL.Sem
open Idealize.ShloMosaic.Pipeline (Dat)

namespace Cert.GateBIdeal.Gates

open Cert.GateBIdeal Cert.GateBIdeal.Gen

variable (m : (ℓ : Loc nD τ sig) → Buf (Elt Ideal) ℓ)

/-- The reference's term: the product with the gate columns, padded to 128 columns with zeros. -/
abbrev REF (X : FVec Ideal S8448x2048 .bf16) (W : FVec Ideal S1x2048x8208 .f32) : FVec Ideal S8448x128 .f32 :=
  pad Cert.GateBRefIdeal.S8448x128 ![0, 0] ![0, 112] ![0, 0]
    (Host.dotGeneral Cert.GateBRefIdeal.dot_S8448x2048_S2048x16_S8448x16_1_0_0_1_n_n none
      (extf .f32 X Cert.GateBRefIdeal.Gen.bitsLt_bf16_f32)
      (shapeCast _ (extractStridedSlice Cert.GateBRefIdeal.S1x2048x16 ![0, 0, 8192] W
        Cert.GateBRefIdeal.Gen.slices_S1x2048x8208_S1x2048x16_0_0_8192) Cert.GateBRefIdeal.Gen.shapeCasts_S1x2048x16_S2048x16))
    (sitofp (F := Ideal) .f32 (constantI Cert.GateBRefIdeal.S_ 32 0#32)) Cert.GateBRefIdeal.Gen.pads_S8448x16_S8448x128_000_01120
    Cert.GateBRefIdeal.Gen.h_S_

/-- The windows' block indices over the grid: one block of weights, the row tiles in order. -/
theorem idx : ∀ t : Fin cfg0.N, win0_0.index t = ![t.val, 0] ∧ win0_1.index t = ![0, 0, 0] ∧ win0_2.index t = ![t.val, 0] :=
  (by decide +kernel : ∀ t : Fin grid0.N, _)

/-- The integer zero the columns are padded with is the real zero. -/
theorem zero_pad : FloatOps.sitofp (F := Ideal) .f32 (0#32) = (0 : EReal) := by
  show (((0#32 : BitVec 32).toInt : ℝ) : EReal) = 0
  simp

/-- The transposed gate columns over 128 rows, zeros beyond the 16. -/
abbrev PADW (W : FVec Ideal S1x2048x8208 .f32) : FVec Ideal S1x128x2048 .f32 :=
  pad S1x128x2048 ![0, 0, 0] ![0, 112, 0] ![0, 0, 0]
    (extractStridedSlice S1x16x2048 ![0, 8192, 0] (transpose S1x8208x2048 [0, 2, 1] W transposes_S1x2048x8208_S1x8208x2048_0_2_1)
      slices_S1x8208x2048_S1x16x2048_0_8192_0)
    (sitofp (F := Ideal) .f32 (constantI S_ 32 0#32)) pads_S1x16x2048_S1x128x2048_000_01120_000 h_S_

/-- The weights as the region finds them. -/
theorem entry_weights (c : Dev nD) : V m c main_v2 = PADW (m ((c : Thread nD τ).loc main_arg1)) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results <;> try rfl

/-- The operations before the region leave the weights themselves alone. -/
theorem entry_arg (c : Dev nD) : V m c main_arg1 = m ((c : Thread nD τ).loc main_arg1) := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results

/-- The padded gate columns at an index. -/
theorem padw_at (W : FVec Ideal S1x2048x8208 .f32) (j : Fin 128) (k : Fin 2048) :
    PADW W (ix3 0 j k) = if h : j.val < 16 then W (ix3 0 k ⟨8192 + j.val, by omega⟩) else (0 : EReal) := by
  pointwise [PADW]
  rw [zero_pad]

/-- The block of weights at an index of it: a gate column of the weights, or a zero. -/
theorem weights (c : Dev nD) (t : Fin cfg0.N) (j : Fin 128) (k : Fin 2048) :
    (show FVec Ideal S1x128x2048 .f32 from iblk m c 1 t) (ix3 0 j k)
      = if h : j.val < 16 then (show FVec Ideal S1x2048x8208 .f32 from m ((c : Thread nD τ).loc main_arg1)) (ix3 0 k ⟨8192 + j.val, by omega⟩)
        else (0 : EReal) := by
  refine Eq.trans ?_ (padw_at _ j k)
  show V m c main_v2 _ = _
  rw [entry_weights]
  blk_ext [iblk, idx t]

/-- Two points read the same block of weights. -/
theorem block_eq (c : Dev nD) (s t : Fin cfg0.N) :
    (show FVec Ideal S1x128x2048 .f32 from iblk m c 1 s) = (show FVec Ideal S1x128x2048 .f32 from iblk m c 1 t) := by
  funext y
  obtain ⟨u, j, k, rfl⟩ : ∃ (u : Fin 1) (j : Fin 128) (k : Fin 2048), y = (ix3 u j k : S1x128x2048.Idx) := ⟨y 0, y 1, y 2, eq_ix3 y⟩
  obtain rfl : u = 0 := Subsingleton.elim _ _
  exact (weights m c s j k).trans (weights m c t j k).symm

/-- The scratch holds the cast weights. -/
theorem scratch (c : Dev nD) : ∀ (n : ℕ) (h : n < cfg0.N),
    (outsAt0 m c n h).2 = k0_pay1 (F := Ideal) (iblk m c 1 ⟨n, h⟩) := by
  intro n
  induction n with
  | zero =>
    intro h
    rw [show outsAt0 m c 0 h = _ from outsAt0_A m c ⟨0, h⟩ (Nat.zero_mod _)]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      exact (ih (Nat.lt_of_succ_lt h)).trans (congrArg (k0_pay1 (F := Ideal)) (block_eq m c _ _))

/-- One tile of the result, from any block of weights. -/
theorem tile (X : FVec Ideal S1056x2048 .bf16) (B : FVec Ideal S1x128x2048 .f32) (r : Fin 1056) (j : Fin 128) :
    k0_pay2 (F := Ideal) X (k0_pay1 (F := Ideal) B) (ix2 r j) = ∑ k : Fin 2048, X (ix2 r k) * B (ix3 0 j k) := by
  pointwise [k0_pay2, k0_pay1]

/-- The reference's term at an index. -/
theorem ref_at (X : FVec Ideal S8448x2048 .bf16) (W : FVec Ideal S1x2048x8208 .f32) (r : Fin 8448) (j : Fin 128) :
    REF X W (ix2 r j) = if h : j.val < 16 then ∑ k : Fin 2048, X (ix2 r k) * W (ix3 0 k ⟨8192 + j.val, by omega⟩) else (0 : EReal) := by
  pointwise [REF]
  rw [zero_pad]

/-- What a point stores is the reference at the place of the array the block lies at. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  have ht : t.val < 8 := t.isLt
  obtain ⟨r, j, rfl⟩ : ∃ (r : Fin 1056) (j : Fin 128), y = (ix2 r j : S1056x128.Idx) := ⟨y 0, y 1, eq_ix2 y⟩
  refine (tile _ _ r j).trans ?_
  have he : ((cfg0.win 2).blk t).view.emb (ix2 r j : S1056x128.Idx)
      = (ix2 ⟨t.val * 1056 + r.val, by omega⟩ j : S8448x128.Idx) := by
    blk_ext [idx t]
  rw [he]
  refine Eq.trans ?_ (ref_at _ _ _ _).symm
  by_cases hj : j.val < 16
  · rw [dif_pos hj]
    refine Finset.sum_congr rfl fun k _ => ?_
    refine Ideal.mul_congr ?_ ((weights m c t j k).trans (dif_pos hj))
    blk_ext [iblk, V, idx t]
  · rw [dif_neg hj]
    refine Finset.sum_eq_zero fun k _ => ?_
    exact (Ideal.mul_congr rfl ((weights m c t j k).trans (dif_neg hj))).trans (mul_zero _)

/-- The result array is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  by_cases h0 : t.val % 8 = 0
  · rw [outsAt0_A m c t h0]
    frame_out
    exact point m c t y
  · rw [outsAt0_B m c t h0, scratch]
    frame_out
    rw [read_unread_whole]
    rw [show iblk m c 1 ⟨t.val - 1, _⟩ = iblk m c 1 t from block_eq m c _ _]
    exact point m c t y

end Cert.GateBIdeal.Gates

end
-- ==== Proof.GatesClaim.lean ====
module

public import proofs.«01_k».proof.Defs
public import proofs.«01_k».proof.Proof.GateA
public import proofs.«01_k».proof.Proof.GateB
public import proofs.«01_k».proof.Proof.Gen.GateAIdeal.Value
public import proofs.«01_k».proof.Proof.Gen.GateARefIdeal.Run
public import proofs.«01_k».proof.Proof.Gen.GateBIdeal.Value
public import proofs.«01_k».proof.Proof.Gen.GateBRefIdeal.Run
public import Idealize.ShloMosaic.Adequacy
public import Idealize.ShloMosaic.Init

@[expose] public section

set_option maxRecDepth 16384

/-! The value claims of the gate projections: each kernel's result array is its reference's term. -/

noncomputable section

open Idealize.ShloMosaic Idealize.SL.Sem

namespace Cert.Gates

/-- The first mixer's gate projection of the kernel is the reference's. -/
theorem algebraic_GateA : Cert.algebraic_GateAIdeal_GateARefIdeal := by
  pair_intro
  · run_from Cert.GateAIdeal.Gen.run_main m g
    exact Cert.GateAIdeal.Gates.entry_arg m c
  · hlo_run
    exact (Cert.GateAIdeal.Gates.final m c).symm

/-- The second mixer's gate projection of the kernel is the reference's. -/
theorem algebraic_GateB : Cert.algebraic_GateBIdeal_GateBRefIdeal := by
  pair_intro
  · run_from Cert.GateBIdeal.Gen.run_main m g
    exact Cert.GateBIdeal.Gates.entry_arg m c
  · hlo_run
    exact (Cert.GateBIdeal.Gates.final m c).symm

end Cert.Gates

end
-- ==== Proof.Cumsum.lean ====
module

public import proofs.«01_k».proof.Proof.Gen.CumsumIdeal.Frame
public import proofs.«01_k».proof.Proof.Gen.CumsumRefIdeal.Run
public import Idealize.ShloMosaic.Lib.Pipeline.ValueKit
public import Idealize.ShloMosaic.Lib.Pipeline.ReadBack

@[expose] public section

set_option maxRecDepth 16384

/-! The cumulative sum over the tokens: block by block, each block's own prefixes and the total carried into it, is the
    sum of a row and all the rows before it. -/

noncomputable section

open Idealize.ShloMosaic Idealize.ShloMosaic.TcCoe Idealize.SL.Sem
open Idealize.ShloMosaic.Pipeline (Dat)

namespace Cert.CumsumIdeal.Rows

open Cert.CumsumIdeal Cert.CumsumIdeal.Gen

variable (m : (ℓ : Loc nD τ sig) → Buf (Elt Ideal) ℓ)

/-- The reference's term. -/
abbrev REF (x : FVec Ideal S4x2048x128 .f32) : FVec Ideal S4x2048x128 .f32 :=
  Host.reduceWindowAdd ![1, 2048, 1] ![1, 1, 1] ![0, 2047, 0] ![0, 0, 0] x
    (broadcastInDim Cert.CumsumRefIdeal.S_ ![] Cert.CumsumRefIdeal.Gen.bcast_S_S_ (constant (F := Ideal) Cert.CumsumRefIdeal.S_ .f32 0x00000000#32))
    Cert.CumsumRefIdeal.Gen.reduceWindows_S4x2048x128_S4x2048x128_w1s1p0_0_w2048s1p2047_0_w1s1p0_0 Cert.CumsumRefIdeal.Gen.h_S_

/-- One entry of the array, zero past its end. -/
abbrev ROW (x : FVec Ideal S4x2048x128 .f32) (b : Fin 4) (j : Fin 128) (s : ℕ) : EReal :=
  if h : s < 2048 then x (ix3 b ⟨s, h⟩ j) else 0

/-- The sum of the first `n` rows. -/
abbrev PREFIX (x : FVec Ideal S4x2048x128 .f32) (b : Fin 4) (j : Fin 128) (n : ℕ) : EReal :=
  ∑ s ∈ Finset.range n, ROW x b j s

/-- A left fold of additions is the start plus the sum. -/
theorem foldl_add {α : Type} (f : α → EReal) (l : List α) : ∀ v : EReal, l.foldl (fun r n => r + f n) v = v + (l.map f).sum := by
  induction l with
  | nil => simp
  | cons a l ih => intro v; rw [List.foldl_cons, ih, List.map_cons, List.sum_cons, add_assoc]

/-- A sum over the window's indices is the sum over its tokens. -/
theorem sum_window (g : (⟨3, ![1, 2048, 1]⟩ : Shape).Idx → EReal) : ∑ i, g i = ∑ k : Fin 2048, g (ix3 0 k 0) := by
  refine (Fintype.sum_bijective (fun k : Fin 2048 => (ix3 0 k 0 : (⟨3, ![1, 2048, 1]⟩ : Shape).Idx)) ⟨?_, ?_⟩ _ _ fun k => rfl).symm
  · intro a b h
    exact congrFun h 1
  · intro i
    refine ⟨i 1, ((eq_ix3 i).trans ?_).symm⟩
    have h0 : i 0 = (0 : Fin 1) := Fin.ext (Nat.lt_one_iff.mp (i 0).isLt)
    have h2 : i 2 = (0 : Fin 1) := Fin.ext (Nat.lt_one_iff.mp (i 2).isLt)
    rw [h0, h2]

/-- The part of a window of 2048 tokens that is not padding, for the window that ends at row `r`. -/
theorem sum_tail (X : ℕ → EReal) (r : ℕ) (hr : r < 2048) :
    ∑ k ∈ Finset.range 2048, (if 2047 ≤ r + k then X (r + k - 2047) else 0) = ∑ s ∈ Finset.range (r + 1), X s := by
  rw [show 2048 = (2047 - r) + (r + 1) by omega, Finset.sum_range_add, Finset.sum_eq_zero, zero_add]
  · refine Finset.sum_congr rfl fun k hk => ?_
    rw [if_pos (by omega)]
    congr 1
    omega
  · intro k hk
    rw [Finset.mem_range] at hk
    exact if_neg (by omega)

/-- A window sum at an index: the start, and over the window the operand's entries or, in the padding, the start again. -/
theorem window_at {s t u : Shape} (window strides lo hi : Fin s.rank → ℕ) (x : FVec Ideal s .f32) (init : FVec Ideal u .f32)
    (h : s.ReduceWindows window strides lo hi t) (hu : 0 < u.numel) (i : t.Idx) :
    (Host.reduceWindowAdd window strides lo hi x init h hu i : EReal)
      = (init (Shape.Idx.first hu) : EReal) + ∑ w : (⟨s.rank, window⟩ : Shape).Idx,
        (if hin : ∀ a, lo a ≤ (i (a.cast h.1.symm)).val * strides a + (w a).val
            ∧ (i (a.cast h.1.symm)).val * strides a + (w a).val - lo a < s.size a
          then x (fun a => ⟨(i (a.cast h.1.symm)).val * strides a + (w a).val - lo a, (hin a).2⟩)
          else init (Shape.Idx.first hu) : EReal) := by
  rw [← (⟨s.rank, window⟩ : Shape).rowMajor.symm.sum_comp, Fin.sum_univ_def, ← foldl_add]
  unfold Host.reduceWindowAdd
  rw [Ideal.hostReduceWindowAdd_def]
  unfold Ideal.hostReduceWindowAdd Host.reduceWindow
  dsimp only
  congr! 4
  split_ifs <;> first | rfl | contradiction

/-- The reference's term at an index: the sum of the row and the rows before it. -/
theorem ref_at (x : FVec Ideal S4x2048x128 .f32) (b : Fin 4) (r : Fin 2048) (j : Fin 128) :
    REF x (ix3 b r j) = PREFIX x b j (r.val + 1) := by
  refine (window_at _ _ _ _ x _ _ _ (ix3 b r j)).trans ?_
  rw [show (broadcastInDim Cert.CumsumRefIdeal.S_ ![] Cert.CumsumRefIdeal.Gen.bcast_S_S_
    (constant (F := Ideal) Cert.CumsumRefIdeal.S_ .f32 0x00000000#32) (Shape.Idx.first Cert.CumsumRefIdeal.Gen.h_S_) : EReal) = 0 by
      pointwise, zero_add]
  refine (sum_window _).trans ?_
  refine Eq.trans ?_ (sum_tail (ROW x b j) r.val r.isLt)
  rw [← Fin.sum_univ_eq_sum_range (fun k => if 2047 ≤ r.val + k then ROW x b j (r.val + k - 2047) else 0) 2048]
  refine Finset.sum_congr rfl fun k _ => ?_
  have hk := k.isLt
  have hr := r.isLt
  by_cases h : 2047 ≤ r.val + k.val
  · rw [if_pos h, ROW, dif_pos (by omega : r.val + k.val - 2047 < 2048), dif_pos]
    · congr 1
      funext a
      refine Fin.ext ?_
      match a with
      | 0 => show b.val * 1 + 0 - 0 = b.val; omega
      | 1 => show r.val * 1 + k.val - 2047 = r.val + k.val - 2047; omega
      | 2 => show j.val * 1 + 0 - 0 = j.val; omega
    · intro a
      match a with
      | 0 => show 0 ≤ b.val * 1 + 0 ∧ b.val * 1 + 0 - 0 < 4; omega
      | 1 => show 2047 ≤ r.val * 1 + k.val ∧ r.val * 1 + k.val - 2047 < 2048; omega
      | 2 => show 0 ≤ j.val * 1 + 0 ∧ j.val * 1 + 0 - 0 < 128; omega
  · rw [if_neg h, dif_neg]
    intro hin
    have h1 : 2047 ≤ r.val * 1 + k.val := (hin 1).1
    omega

/-- A comparison of two places of a block selects as the places compare. -/
theorem mask (k r : Fin 256) (u : EReal) :
    Scalar.select (IntOp.cmpi .sle (BitVec.ofNat 32 k.val) (BitVec.ofNat 32 r.val)) u (0 : EReal) = if k.val ≤ r.val then u else 0 := by
  have hs : (BitVec.ofNat 32 k.val).sle (BitVec.ofNat 32 r.val) = decide (k.val ≤ r.val) := by
    have hk : k.val % 2 ^ 32 = k.val := Nat.mod_eq_of_lt (by omega)
    have hr : r.val % 2 ^ 32 = r.val := Nat.mod_eq_of_lt (by omega)
    rw [BitVec.sle_eq_decide, BitVec.toInt_eq_toNat_of_lt (by rw [BitVec.toNat_ofNat, hk]; omega),
      BitVec.toInt_eq_toNat_of_lt (by rw [BitVec.toNat_ofNat, hr]; omega), BitVec.toNat_ofNat, BitVec.toNat_ofNat, hk, hr]
    simp
  by_cases h : k.val ≤ r.val <;> simp [Scalar.select, IntOp.cmpi, hs, h]

/-- Three parts that add up to an entry below plus infinity. -/
theorem split (x : EReal) (h : x ≠ ⊤) : x + ((x - x) + ((x - x) - (x - x))) = x := by
  induction x using EReal.rec with
  | bot => simp
  | top => exact absurd rfl h
  | coe r => norm_cast; simp

/-- One tile of the result at an index: the block's own prefix and the carried total. -/
theorem tile (x : FVec Ideal S1x256x128 .f32) (p : FVec Ideal S1x128 .f32) (r : Fin 256) (j : Fin 128)
    (hx : ∀ k, x (ix3 0 k j) ≠ ⊤) :
    k0_pay2 (F := Ideal) x p (ix2 r j) = (∑ k : Fin 256, if k.val ≤ r.val then x (ix3 0 k j) else 0) + p (ix2 0 j) := by
  pointwise [k0_pay2]
  refine congrArg (· + p (ix2 0 j)) ?_
  simp only [mask]
  rw [← Finset.sum_add_distrib, ← Finset.sum_add_distrib]
  refine Finset.sum_congr rfl fun k _ => ?_
  by_cases h : k.val ≤ r.val
  · simp only [if_pos h]
    exact split _ (hx k)
  · simp only [if_neg h, add_zero]

/-- A block's prefix after the rows before the block is the prefix over both. -/
theorem sum_block (X : ℕ → EReal) (n : ℕ) (r : Fin 256) :
    (∑ k : Fin 256, if k.val ≤ r.val then X (n + k.val) else 0) + ∑ s ∈ Finset.range n, X s = ∑ s ∈ Finset.range (n + (r.val + 1)), X s := by
  obtain ⟨r, hr⟩ := r
  dsimp only
  rw [Finset.sum_range_add, add_comm]
  refine congrArg _ ?_
  rw [Fin.sum_univ_eq_sum_range (fun k => if k ≤ r then X (n + k) else 0) 256, show 256 = (r + 1) + (255 - r) by omega,
    Finset.sum_range_add]
  refine Eq.trans (congrArg₂ (· + ·) (Finset.sum_congr rfl fun k hk => ?_) (Finset.sum_eq_zero fun k _ => ?_)) (add_zero _)
  · rw [Finset.mem_range] at hk
    exact if_pos (by omega)
  · exact if_neg (by omega)

/-- One tile of the result, of block `i` of batch `b`: the sums of each row and all the rows before it. -/
theorem tile_prefix (X : FVec Ideal S4x2048x128 .f32) (hX : ∀ a, X a ≠ ⊤) (b : Fin 4) (i : ℕ) (hi : i < 8)
    (x : FVec Ideal S1x256x128 .f32) (p : FVec Ideal S1x128 .f32) (r : Fin 256) (j : Fin 128)
    (hx : ∀ k : Fin 256, x (ix3 0 k j) = X (ix3 b ⟨i * 256 + k.val, by omega⟩ j)) (hp : p (ix2 0 j) = PREFIX X b j (i * 256)) :
    k0_pay2 (F := Ideal) x p (ix2 r j) = PREFIX X b j (i * 256 + (r.val + 1)) := by
  rw [tile x p r j fun k => by rw [hx]; exact hX _, hp]
  refine Eq.trans (congrArg (· + _) (Finset.sum_congr rfl fun k _ => ?_)) (sum_block (ROW X b j) (i * 256) r)
  rw [hx, ROW, dif_pos]

/-- What a tile stores and what it carries on are one computation. -/
theorem store_at (x : FVec Ideal S1x256x128 .f32) (p : FVec Ideal S1x128 .f32) (r : Fin 256) (j : Fin 128) :
    k0_pay3 (F := Ideal) x p (ix3 0 r j) = k0_pay2 (F := Ideal) x p (ix2 r j) := by
  unfold k0_pay3
  generalize k0_pay2 (F := Ideal) x p = y
  pointwise

/-- The carried total is the tile's last row. -/
theorem carry_at (x : FVec Ideal S1x256x128 .f32) (p : FVec Ideal S1x128 .f32) (j : Fin 128) :
    k0_pay4 (F := Ideal) x p (ix2 0 j) = k0_pay2 (F := Ideal) x p (ix2 255 j) := by
  unfold k0_pay4
  generalize k0_pay2 (F := Ideal) x p = y
  pointwise
  try rfl

/-- The carried total starts at zero. -/
theorem start_at (j : Fin 128) : k0_pay1 (F := Ideal) (ix2 0 j) = 0 := by
  pointwise [k0_pay1]

/-- The windows' block indices over the grid: batch `t / 8`, row tile `t % 8`. -/
theorem idx : ∀ t : Fin cfg0.N, win0_0.index t = ![t.val / 8, t.val % 8, 0] ∧ win0_1.index t = ![t.val / 8, t.val % 8, 0] :=
  (by decide +kernel : ∀ t : Fin grid0.N, _)

/-- The argument, as the region finds it. -/
abbrev ARG (c : Dev nD) : FVec Ideal S4x2048x128 .f32 := m ((c : Thread nD τ).loc main_arg0)

/-- A block of the argument at an index of it. -/
theorem block_at (c : Dev nD) (t : Fin cfg0.N) (ht : t.val < 32) (k : Fin 256) (j : Fin 128) :
    (show FVec Ideal S1x256x128 .f32 from iblk m c 0 t) (ix3 0 k j)
      = ARG m c (ix3 ⟨t.val / 8, by omega⟩ ⟨t.val % 8 * 256 + k.val, by omega⟩ j) := by
  show iblk m c 0 t (ix3 0 k j) = _
  blk_ext [iblk, V, idx t]

/-- The tile a point computes over a carried total that is the sum of the tiles before it. -/
theorem point (c : Dev nD) (hX : ∀ a, ARG m c a ≠ ⊤) (t : Fin cfg0.N) (ht : t.val < 32) (p : FVec Ideal S1x128 .f32)
    (r : Fin 256) (j : Fin 128) (hp : p (ix2 0 j) = PREFIX (ARG m c) ⟨t.val / 8, by omega⟩ j (t.val % 8 * 256)) :
    k0_pay2 (F := Ideal) (iblk m c 0 t) p (ix2 r j)
      = PREFIX (ARG m c) ⟨t.val / 8, by omega⟩ j (t.val % 8 * 256 + (r.val + 1)) :=
  tile_prefix (ARG m c) hX ⟨t.val / 8, by omega⟩ (t.val % 8) (by omega) _ p r j (fun k => block_at m c t ht k j) hp

/-- The total carried into a batch's first tile is zero, the sum of no rows. -/
theorem start (c : Dev nD) (b : Fin 4) (j : Fin 128) (n : ℕ) (h : n % 8 = 0) :
    k0_pay1 (F := Ideal) (ix2 0 j) = PREFIX (ARG m c) b j (n % 8 * 256) := by
  rw [h, Nat.zero_mul]
  exact (start_at j).trans (Finset.sum_range_zero _).symm

/-- The scratch after a point holds the sums over the point's tile and all the tiles before it. -/
theorem scratch (c : Dev nD) (hX : ∀ a, ARG m c a ≠ ⊤) : ∀ (n : ℕ) (h : n < cfg0.N) (hn : n < 32) (j : Fin 128),
    (outsAt0 m c n h).2 (ix2 0 j) = PREFIX (ARG m c) ⟨n / 8, by omega⟩ j (n % 8 * 256 + 256) := by
  intro n
  induction n with
  | zero =>
    intro h hn j
    rw [show outsAt0 m c 0 h = _ from outsAt0_A m c ⟨0, h⟩ (Nat.zero_mod _)]
    frame_out
    exact (carry_at _ _ j).trans (point m c hX ⟨0, h⟩ hn _ 255 j (start m c _ j 0 (Nat.zero_mod _)))
  | succ n ih =>
    intro h hn j
    by_cases h0 : (n + 1) % 8 = 0
    · rw [show outsAt0 m c (n + 1) h = _ from outsAt0_A m c ⟨n + 1, h⟩ h0]
      frame_out
      exact (carry_at _ _ j).trans (point m c hX ⟨n + 1, h⟩ hn _ 255 j (start m c _ j (n + 1) h0))
    · rw [show outsAt0 m c (n + 1) h = _ from outsAt0_B m c ⟨n + 1, h⟩ h0]
      frame_out
      rw [read_unread_whole]
      refine (carry_at _ _ j).trans (point m c hX ⟨n + 1, h⟩ hn _ 255 j ((ih (Nat.lt_of_succ_lt h) (by omega) j).trans ?_))
      exact congrArg₂ (fun (b : Fin 4) k => PREFIX (ARG m c) b j k) (Fin.ext (by dsimp only; omega)) (by dsimp only; omega)

/-- What a point stores is the reference at the place of the array the block lies at. -/
theorem stored (c : Dev nD) (hX : ∀ a, ARG m c a ≠ ⊤) (t : Fin cfg0.N) (p : FVec Ideal S1x128 .f32) (y)
    (hp : ∀ (ht : t.val < 32) (j : Fin 128), p (ix2 0 j) = PREFIX (ARG m c) ⟨t.val / 8, by omega⟩ j (t.val % 8 * 256)) :
    k0_pay3 (F := Ideal) (iblk m c 0 t) p y = REF (ARG m c) (((cfg0.win 1).blk t).view.emb y) := by
  have ht : t.val < 32 := t.isLt
  obtain ⟨u, r, j, rfl⟩ : ∃ (u : Fin 1) (r : Fin 256) (j : Fin 128), y = (ix3 u r j : S1x256x128.Idx) := ⟨y 0, y 1, y 2, eq_ix3 y⟩
  obtain rfl : u = 0 := Subsingleton.elim _ _
  refine (store_at _ _ r j).trans ((point m c hX t ht p r j (hp ht j)).trans ?_)
  have he : ((cfg0.win 1).blk t).view.emb (ix3 0 r j : S1x256x128.Idx)
      = (ix3 ⟨t.val / 8, by omega⟩ ⟨t.val % 8 * 256 + r.val, by omega⟩ j : S4x2048x128.Idx) := by
    blk_ext [idx t]
  rw [he, ← Nat.add_assoc]
  exact (ref_at (ARG m c) ⟨t.val / 8, by omega⟩ ⟨t.val % 8 * 256 + r.val, by omega⟩ j).symm

/-- The result array is the reference's term of the argument. -/
theorem final (c : Dev nD) (hX : ∀ a, ARG m c a ≠ ⊤) : (dats m 0 c).arrAt 1 (cfgs 0).N = REF (ARG m c) := by
  refine (dats m 0 c).arrAt_eq_of_covers 1 _ (by decide +kernel) fun t _ y => ?_
  blk_simp
  rw [after0_1]
  by_cases h0 : t.val % 8 = 0
  · rw [outsAt0_A m c t h0]
    frame_out
    exact stored m c hX t _ y fun ht j => start m c _ j t.val h0
  · rw [outsAt0_B m c t h0]
    frame_out
    rw [read_unread_whole]
    refine stored m c hX t _ y fun ht j => (scratch m c hX (t.val - 1) (Nat.lt_of_le_of_lt (Nat.sub_le _ _) t.isLt) (by omega) j).trans ?_
    exact congrArg₂ (fun (b : Fin 4) k => PREFIX (ARG m c) b j k) (Fin.ext (by dsimp only; omega)) (by omega)

end Cert.CumsumIdeal.Rows

end
-- ==== Proof.CumsumClaim.lean ====
module

public import proofs.«01_k».proof.Defs
public import proofs.«01_k».proof.Proof.Cumsum
public import proofs.«01_k».proof.Proof.Gen.Pre_below
public import proofs.«01_k».proof.Proof.Gen.CumsumIdeal.Value
public import proofs.«01_k».proof.Proof.Gen.CumsumRefIdeal.Run
public import Idealize.ShloMosaic.Adequacy
public import Idealize.ShloMosaic.Init

@[expose] public section

set_option maxRecDepth 16384

/-! The value claim of the cumulative sum: of an array with no entry plus infinity, the kernel's result array is the reference's. -/

noncomputable section

open Idealize.ShloMosaic Idealize.ShloMosaic.TcCoe Idealize.SL.Sem

namespace Cert.CumsumIdeal.Rows

open Cert.CumsumIdeal Cert.CumsumIdeal.Gen

/-- The word of plus infinity. -/
theorem inf_word : Ideal.ofBits FTy.f32 0x7F800000#32 = ⊤ := by
  simp [Ideal.ofBits, Ideal.ieee]

/-- The precondition at an index: the entry is not plus infinity. -/
theorem pre_at (X : FVec Ideal S4x2048x128 .f32) (h : Cert.Pre_below.fn (F := Ideal) X = fun _ => 1#1) (a : S4x2048x128.Idx) : X a ≠ ⊤ := by
  have e := congrFun h a
  dsimp only [Cert.Pre_below.fn] at e
  pointwise at e
  rw [inf_word] at e
  intro hx
  rw [hx] at e
  simp [Ideal.cmp] at e

/-- The cumulative sum of the kernel is the reference's. -/
theorem algebraic_Cumsum : Cert.algebraic_CumsumIdeal_CumsumRefIdeal_pre_below := by
  pair_intro
  · run_from Cert.CumsumIdeal.Gen.run_main m g
  · hlo_run
    exact (final m c (pre_at _ (hpre c))).symm

end Cert.CumsumIdeal.Rows

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Pre_finite
public import proofs.«01_k».proof.Proof.Gen.Pre_below
public import proofs.«01_k».proof.Proof.Matmuls
public import proofs.«01_k».proof.Proof.AttnClaim
public import proofs.«01_k».proof.Proof.Gen.AttnIdeal.Value
public import proofs.«01_k».proof.Proof.Gen.AttnRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Gen.InAIdeal.Value
public import proofs.«01_k».proof.Proof.Gen.InARefIdeal.Run
public import proofs.«01_k».proof.Proof.Gen.InBIdeal.Value
public import proofs.«01_k».proof.Proof.Gen.InBRefIdeal.Run
public import proofs.«01_k».proof.Proof.Gen.OutIdeal.Value
public import proofs.«01_k».proof.Proof.Gen.OutRefIdeal.Run
public import proofs.«01_k».proof.Proof.Gen.YPrompt
public import proofs.«01_k».proof.Proof.Gen.YPrompt.Skeleton
public import proofs.«01_k».proof.Proof.Gen.YPrompt.Launch
public import proofs.«01_k».proof.Proof.Gen.YPrompt.Points
public import proofs.«01_k».proof.Proof.Gen.YPrompt.Frame
public import proofs.«01_k».proof.Proof.Gen.YPromptIdeal
public import proofs.«01_k».proof.Proof.Gen.YPromptIdeal.Skeleton
public import proofs.«01_k».proof.Proof.Gen.YPromptIdeal.Launch
public import proofs.«01_k».proof.Proof.Gen.YPromptIdeal.Points
public import proofs.«01_k».proof.Proof.Gen.YPromptIdeal.Frame
public import proofs.«01_k».proof.Proof.Gen.YPromptIdeal.Value
public import proofs.«01_k».proof.Proof.Gen.YPromptRefIdeal
public import proofs.«01_k».proof.Proof.Gen.YPromptRefIdeal.Run
public import proofs.«01_k».proof.Proof.Gen.YSample
public import proofs.«01_k».proof.Proof.Gen.YSample.Skeleton
public import proofs.«01_k».proof.Proof.Gen.YSample.Launch
public import proofs.«01_k».proof.Proof.Gen.YSample.Points
public import proofs.«01_k».proof.Proof.Gen.YSample.Frame
public import proofs.«01_k».proof.Proof.Gen.YSampleIdeal
public import proofs.«01_k».proof.Proof.Gen.YSampleIdeal.Skeleton
public import proofs.«01_k».proof.Proof.Gen.YSampleIdeal.Launch
public import proofs.«01_k».proof.Proof.Gen.YSampleIdeal.Points
public import proofs.«01_k».proof.Proof.Gen.YSampleIdeal.Frame
public import proofs.«01_k».proof.Proof.Gen.YSampleIdeal.Value
public import proofs.«01_k».proof.Proof.Gen.YSampleRefIdeal
public import proofs.«01_k».proof.Proof.Gen.YSampleRefIdeal.Run
public import proofs.«01_k».proof.Proof.Gen.PrepP
public import proofs.«01_k».proof.Proof.Gen.PrepP.Skeleton
public import proofs.«01_k».proof.Proof.Gen.PrepP.Launch
public import proofs.«01_k».proof.Proof.Gen.PrepP.Points
public import proofs.«01_k».proof.Proof.Gen.PrepP.Frame
public import proofs.«01_k».proof.Proof.Gen.PrepPIdeal
public import proofs.«01_k».proof.Proof.Gen.PrepPIdeal.Skeleton
public import proofs.«01_k».proof.Proof.Gen.PrepPIdeal.Launch
public import proofs.«01_k».proof.Proof.Gen.PrepPIdeal.Points
public import proofs.«01_k».proof.Proof.Gen.PrepPIdeal.Frame
public import proofs.«01_k».proof.Proof.Gen.PrepPRefIdeal
public import proofs.«01_k».proof.Proof.Gen.PrepPRefIdeal.Run
public import proofs.«01_k».proof.Proof.Gen.PrepS
public import proofs.«01_k».proof.Proof.Gen.PrepS.Skeleton
public import proofs.«01_k».proof.Proof.Gen.PrepS.Launch
public import proofs.«01_k».proof.Proof.Gen.PrepS.Points
public import proofs.«01_k».proof.Proof.Gen.PrepS.Frame
public import proofs.«01_k».proof.Proof.Gen.PrepSIdeal
public import proofs.«01_k».proof.Proof.Gen.PrepSIdeal.Skeleton
public import proofs.«01_k».proof.Proof.Gen.PrepSIdeal.Launch
public import proofs.«01_k».proof.Proof.Gen.PrepSIdeal.Points
public import proofs.«01_k».proof.Proof.Gen.PrepSIdeal.Frame
public import proofs.«01_k».proof.Proof.Gen.PrepSRefIdeal
public import proofs.«01_k».proof.Proof.Gen.PrepSRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.GateA
public import proofs.«01_k».proof.Proof.Gen.GateB
public import proofs.«01_k».proof.Proof.Gen.Cumsum
public import proofs.«01_k».proof.Proof.Gen.GateA.Skeleton
public import proofs.«01_k».proof.Proof.Gen.GateB.Skeleton
public import proofs.«01_k».proof.Proof.Gen.Cumsum.Skeleton
public import proofs.«01_k».proof.Proof.Gen.GateA.Launch
public import proofs.«01_k».proof.Proof.Gen.GateB.Launch
public import proofs.«01_k».proof.Proof.Gen.Cumsum.Launch
public import proofs.«01_k».proof.Proof.Gen.GateA.Points
public import proofs.«01_k».proof.Proof.Gen.GateB.Points
public import proofs.«01_k».proof.Proof.Gen.Cumsum.Points
public import proofs.«01_k».proof.Proof.Gen.GateA.Frame
public import proofs.«01_k».proof.Proof.Gen.GateB.Frame
public import proofs.«01_k».proof.Proof.Gen.Cumsum.Frame
public import proofs.«01_k».proof.Proof.Gen.GateAIdeal
public import proofs.«01_k».proof.Proof.Gen.GateBIdeal
public import proofs.«01_k».proof.Proof.Gen.CumsumIdeal
public import proofs.«01_k».proof.Proof.Gen.GateAIdeal.Skeleton
public import proofs.«01_k».proof.Proof.Gen.GateBIdeal.Skeleton
public import proofs.«01_k».proof.Proof.Gen.CumsumIdeal.Skeleton
public import proofs.«01_k».proof.Proof.Gen.GateAIdeal.Launch
public import proofs.«01_k».proof.Proof.Gen.GateBIdeal.Launch
public import proofs.«01_k».proof.Proof.Gen.CumsumIdeal.Launch
public import proofs.«01_k».proof.Proof.Gen.GateAIdeal.Points
public import proofs.«01_k».proof.Proof.Gen.GateBIdeal.Points
public import proofs.«01_k».proof.Proof.Gen.CumsumIdeal.Points
public import proofs.«01_k».proof.Proof.Gen.GateAIdeal.Frame
public import proofs.«01_k».proof.Proof.Gen.GateBIdeal.Frame
public import proofs.«01_k».proof.Proof.Gen.CumsumIdeal.Frame
public import proofs.«01_k».proof.Proof.Gen.GateAIdeal.Value
public import proofs.«01_k».proof.Proof.Gen.GateBIdeal.Value
public import proofs.«01_k».proof.Proof.Gen.CumsumIdeal.Value
public import proofs.«01_k».proof.Proof.Gen.GateARefIdeal
public import proofs.«01_k».proof.Proof.Gen.GateBRefIdeal
public import proofs.«01_k».proof.Proof.Gen.CumsumRefIdeal
public import proofs.«01_k».proof.Proof.Gen.GateARefIdeal.Run
public import proofs.«01_k».proof.Proof.Gen.GateBRefIdeal.Run
public import proofs.«01_k».proof.Proof.Gen.CumsumRefIdeal.Run
public import Idealize.ShloMosaic.Adequacy
public import Idealize.ShloMosaic.Init
public import proofs.«01_k».proof.Proof.Results
public import proofs.«01_k».proof.Proof.ConvClaim
public import proofs.«01_k».proof.Proof.PrepPClaim
public import proofs.«01_k».proof.Proof.PrepSClaim
public import proofs.«01_k».proof.Proof.GatesClaim
public import proofs.«01_k».proof.Proof.CumsumClaim

@[expose] public section

/-! The proof of the certificate's claims: the frames of every program, the named constants, and the value claims. -/

noncomputable section

namespace Cert.Proof

open Idealize.ShloMosaic Idealize.SL.Sem Cert.Attn

theorem Attn_frame : Cert.quiescent_AttnRefIdeal := fun m g _ =>
  (θ_run Cert.AttnRefIdeal.defs _ _).mono (fun r h => ⟨fun c => (h c).2, sem_eq_zero_of_no_sems (by decide) r.2⟩) (Cert.AttnRefIdeal.Value.run m g)

theorem Up_frame : Cert.quiescent_UpRefIdeal := fun m g _ =>
  (θ_run Cert.UpRefIdeal.defs _ _).mono (fun r h => ⟨fun c => (h c).2, sem_eq_zero_of_no_sems (by decide) r.2⟩) (Cert.UpRefIdeal.Value.run m g)

theorem Down_frame : Cert.quiescent_DownRefIdeal := fun m g _ =>
  (θ_run Cert.DownRefIdeal.defs _ _).mono (fun r h => ⟨fun c => (h c).2, sem_eq_zero_of_no_sems (by decide) r.2⟩) (Cert.DownRefIdeal.Value.run m g)

theorem InA_frame : Cert.quiescent_InARefIdeal := fun m g _ =>
  (θ_run Cert.InARefIdeal.defs _ _).mono (fun r h => ⟨fun c => (h c).2, sem_eq_zero_of_no_sems (by decide) r.2⟩) (Cert.InARefIdeal.Value.run m g)

theorem InB_frame : Cert.quiescent_InBRefIdeal := fun m g _ =>
  (θ_run Cert.InBRefIdeal.defs _ _).mono (fun r h => ⟨fun c => (h c).2, sem_eq_zero_of_no_sems (by decide) r.2⟩) (Cert.InBRefIdeal.Value.run m g)

theorem Out_frame : Cert.quiescent_OutRefIdeal := fun m g _ =>
  (θ_run Cert.OutRefIdeal.defs _ _).mono (fun r h => ⟨fun c => (h c).2, sem_eq_zero_of_no_sems (by decide) r.2⟩) (Cert.OutRefIdeal.Value.run m g)

theorem YPrompt_frame : Cert.quiescent_YPromptRefIdeal := fun m g _ =>
  (θ_run Cert.YPromptRefIdeal.defs _ _).mono (fun r h => ⟨fun c => (h c).2, sem_eq_zero_of_no_sems (by decide) r.2⟩) (Cert.YPromptRefIdeal.Value.run m g)

theorem YSample_frame : Cert.quiescent_YSampleRefIdeal := fun m g _ =>
  (θ_run Cert.YSampleRefIdeal.defs _ _).mono (fun r h => ⟨fun c => (h c).2, sem_eq_zero_of_no_sems (by decide) r.2⟩) (Cert.YSampleRefIdeal.Value.run m g)

theorem PrepP_frame : Cert.quiescent_PrepPRefIdeal := fun m g _ =>
  (θ_run Cert.PrepPRefIdeal.defs _ _).mono (fun r h => ⟨fun c => (h c).2.2.2.2.2.2, sem_eq_zero_of_no_sems (by decide) r.2⟩) (Cert.PrepPRefIdeal.Value.run m g)

theorem PrepS_frame : Cert.quiescent_PrepSRefIdeal := fun m g _ =>
  (θ_run Cert.PrepSRefIdeal.defs _ _).mono (fun r h => ⟨fun c => (h c).2.2.2.2.2.2, sem_eq_zero_of_no_sems (by decide) r.2⟩) (Cert.PrepSRefIdeal.Value.run m g)

theorem GateA_frame : Cert.quiescent_GateARefIdeal := fun m g _ =>
  (θ_run Cert.GateARefIdeal.defs _ _).mono (fun r h => ⟨fun c => (h c).2, sem_eq_zero_of_no_sems (by decide) r.2⟩) (Cert.GateARefIdeal.Value.run m g)

theorem GateB_frame : Cert.quiescent_GateBRefIdeal := fun m g _ =>
  (θ_run Cert.GateBRefIdeal.defs _ _).mono (fun r h => ⟨fun c => (h c).2, sem_eq_zero_of_no_sems (by decide) r.2⟩) (Cert.GateBRefIdeal.Value.run m g)

theorem Cumsum_frame : Cert.quiescent_CumsumRefIdeal := fun m g _ =>
  (θ_run Cert.CumsumRefIdeal.defs _ _).mono (fun r h => ⟨fun c => (h c).2, sem_eq_zero_of_no_sems (by decide) r.2⟩) (Cert.CumsumRefIdeal.Value.run m g)

theorem Conv_frame : Cert.quiescent_ConvRefIdeal := fun m g _ =>
  (θ_run Cert.ConvRefIdeal.defs _ _).mono (fun r h => ⟨fun c => (h c).2.2, sem_eq_zero_of_no_sems (by decide) r.2⟩) (Cert.ConvRefIdeal.Value.run m g)

theorem Norm_frame : Cert.quiescent_NormRefIdeal := fun m g _ =>
  (θ_run Cert.NormRefIdeal.defs _ _).mono (fun r h => ⟨fun c => (h c).2, sem_eq_zero_of_no_sems (by decide) r.2⟩) (Cert.NormRefIdeal.Value.run m g)

theorem claim : Cert.Claim := ⟨Cert.Attn.Gen.facts, Cert.AttnIdeal.Gen.facts, Cert.AttnRefIdeal.Gen.facts, Cert.Up.Gen.facts, Cert.UpIdeal.Gen.facts, Cert.UpRefIdeal.Gen.facts, Cert.Down.Gen.facts, Cert.DownIdeal.Gen.facts, Cert.DownRefIdeal.Gen.facts, Cert.InA.Gen.facts, Cert.InAIdeal.Gen.facts, Cert.InARefIdeal.Gen.facts, Cert.InB.Gen.facts, Cert.InBIdeal.Gen.facts, Cert.InBRefIdeal.Gen.facts, Cert.Out.Gen.facts, Cert.OutIdeal.Gen.facts, Cert.OutRefIdeal.Gen.facts, Cert.YPrompt.Gen.facts, Cert.YPromptIdeal.Gen.facts, Cert.YPromptRefIdeal.Gen.facts, Cert.YSample.Gen.facts, Cert.YSampleIdeal.Gen.facts, Cert.YSampleRefIdeal.Gen.facts, Cert.PrepP.Gen.facts, Cert.PrepPIdeal.Gen.facts, Cert.PrepPRefIdeal.Gen.facts, Cert.PrepS.Gen.facts, Cert.PrepSIdeal.Gen.facts, Cert.PrepSRefIdeal.Gen.facts, Cert.GateA.Gen.facts, Cert.GateAIdeal.Gen.facts, Cert.GateARefIdeal.Gen.facts, Cert.GateB.Gen.facts, Cert.GateBIdeal.Gen.facts, Cert.GateBRefIdeal.Gen.facts, Cert.Cumsum.Gen.facts, Cert.CumsumIdeal.Gen.facts, Cert.CumsumRefIdeal.Gen.facts, Cert.Conv.Gen.facts, Cert.ConvIdeal.Gen.facts, Cert.ConvRefIdeal.Gen.facts, Cert.Norm.Gen.facts, Cert.NormIdeal.Gen.facts, Cert.NormRefIdeal.Gen.facts, Cert.Pre_finite.Gen.facts, Cert.Pre_below.Gen.facts,
  fun m ρ _ => Cert.Attn.Gen.frame m ρ, fun m ρ _ => Cert.AttnIdeal.Gen.frame m ρ, fun m ρ _ => Cert.AttnIdeal.Gen.frame m ρ,
  Attn_frame, fun m g _ => Attn_frame m g trivial,
  fun m ρ _ => Cert.Up.Gen.frame m ρ, fun m ρ _ => Cert.UpIdeal.Gen.frame m ρ, Up_frame,
  fun m ρ _ => Cert.Down.Gen.frame m ρ, fun m ρ _ => Cert.DownIdeal.Gen.frame m ρ, Down_frame,
  fun m ρ _ => Cert.InA.Gen.frame m ρ, fun m ρ _ => Cert.InAIdeal.Gen.frame m ρ, InA_frame,
  fun m ρ _ => Cert.InB.Gen.frame m ρ, fun m ρ _ => Cert.InBIdeal.Gen.frame m ρ, InB_frame,
  fun m ρ _ => Cert.Out.Gen.frame m ρ, fun m ρ _ => Cert.OutIdeal.Gen.frame m ρ, Out_frame,
  fun m ρ _ => Cert.YPrompt.Gen.frame m ρ, fun m ρ _ => Cert.YPromptIdeal.Gen.frame m ρ, YPrompt_frame,
  fun m ρ _ => Cert.YSample.Gen.frame m ρ, fun m ρ _ => Cert.YSampleIdeal.Gen.frame m ρ, YSample_frame,
  fun m ρ _ => Cert.PrepP.Gen.frame m ρ, fun m ρ _ => Cert.PrepPIdeal.Gen.frame m ρ, PrepP_frame,
  fun m ρ _ => Cert.PrepS.Gen.frame m ρ, fun m ρ _ => Cert.PrepSIdeal.Gen.frame m ρ, PrepS_frame,
  fun m ρ _ => Cert.GateA.Gen.frame m ρ, fun m ρ _ => Cert.GateAIdeal.Gen.frame m ρ, GateA_frame,
  fun m ρ _ => Cert.GateB.Gen.frame m ρ, fun m ρ _ => Cert.GateBIdeal.Gen.frame m ρ, GateB_frame,
  fun m ρ _ => Cert.Cumsum.Gen.frame m ρ, fun m ρ _ => Cert.CumsumIdeal.Gen.frame m ρ, fun m ρ _ => Cert.CumsumIdeal.Gen.frame m ρ,
  Cumsum_frame, fun m g _ => Cumsum_frame m g trivial,
  fun m ρ _ => Cert.Conv.Gen.frame m ρ, fun m ρ _ => Cert.ConvIdeal.Gen.frame m ρ, Conv_frame,
  fun m ρ _ => Cert.Norm.Gen.frame m ρ, fun m ρ _ => Cert.NormIdeal.Gen.frame m ρ, Norm_frame,
  ⟨IdealRules.named_const.statement _ "log2e" .f32 0x3FB8AA3B#32 _ rfl, IdealRules.named_const.statement _ "mask" .f32 0xF149F2CA#32 ⊥ rfl⟩, Cert.AttnIdeal.Tiles.algebraic_Attn,
  trivial, Cert.Projections.algebraic_Up,
  trivial, Cert.Projections.algebraic_Down,
  trivial, Cert.Projections.algebraic_InA,
  trivial, Cert.Projections.algebraic_InB,
  trivial, Cert.Projections.algebraic_Out,
  trivial, Cert.Results.algebraic_YPrompt,
  trivial, Cert.Results.algebraic_YSample,
  IdealRules.named_const.statement _ "qscale" .f32 0x3E0293EE#32 _ rfl, Cert.PrepPIdeal.Heads.algebraic_PrepP,
  IdealRules.named_const.statement _ "qscale" .f32 0x3E0293EE#32 _ rfl, Cert.PrepSIdeal.Heads.algebraic_PrepS,
  trivial, Cert.Gates.algebraic_GateA,
  trivial, Cert.Gates.algebraic_GateB,
  trivial, Cert.CumsumIdeal.Rows.algebraic_Cumsum,
  trivial, Cert.ConvIdeal.Product.algebraic_Conv,
  trivial, Cert.Results.algebraic_Norm⟩

end Cert.Proof

end
